-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "scale_log2e" .f32 0x3E0293EE#32 (((11863283 / 134217728) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  IdealRules.named_const.Statement Cert.Kernel6Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Pre_finite_scores.lean ====
abbrev S8192x4608 : Shape := ⟨2, ![8192, 4608]⟩
abbrev S8x15x31 : Shape := ⟨3, ![8, 15, 31]⟩
abbrev S8192x2048 : Shape := ⟨2, ![8192, 2048]⟩
abbrev S_ : Shape := ⟨0, ![]⟩

class Facts : Prop where
  slices_S8192x4608_S8192x2048_0_0 : S8192x4608.Slices ![0, 0] S8192x2048
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x15x31 : S_.BroadcastsInDim S8x15x31 (![] : Fin 0 → Fin S8x15x31.rank)
  reducesTo_S8x15x31_S_d0_1_2 : S8x15x31.ReducesTo [0, 1, 2] S_

variable [Facts]

def fn {F : FTy → Type} [FloatOps F] (main_arg0 : FVec F S8192x4608 .f32) (main_arg1 : FVec F S8x15x31 .f32) : IVec S_ 1 :=
  let main_v0 : FVec F S8192x2048 .f32 := (extractStridedSlice S8192x2048 ![0, 0] · slices_S8192x4608_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8x15x31 .f32 := Host.absf main_arg1
  let main_cst_0 : FVec F S_ .f32 := constant S_ .f32 0x7F800000#32
  let main_v6 : FVec F S8x15x31 .f32 := broadcastInDim S8x15x31 ![] bcast_S_S8x15x31 main_cst_0
  let main_v7 : IVec S8x15x31 1 := cmpf .olt main_v5 main_v6
  let main_c_1 : IVec S_ 1 := constantI S_ 1 1#1
  let main_v8 : IVec S_ 1 := (fun x v => Host.reduce IntOp.andi x v reducesTo_S8x15x31_S_d0_1_2 h_S_) main_v7 main_c_1
  let main_v9 : IVec S_ 1 := andi main_v4 main_v8
  main_v9
-- ==== Kernel.lean ====
abbrev S8192x4608 : Shape := ⟨2, ![8192, 4608]⟩
abbrev S8x15x31 : Shape := ⟨3, ![8, 15, 31]⟩
abbrev S144 : Shape := ⟨1, ![144]⟩
abbrev S72x2 : Shape := ⟨2, ![72, 2]⟩
abbrev S65x64x128 : Shape := ⟨3, ![65, 64, 128]⟩
abbrev S1x4608 : Shape := ⟨2, ![1, 4608]⟩
abbrev S_ : Shape := ⟨0, ![]⟩
abbrev S8x1x31 : Shape := ⟨3, ![8, 1, 31]⟩
abbrev S8x16x31 : Shape := ⟨3, ![8, 16, 31]⟩
abbrev S144x1 : Shape := ⟨2, ![144, 1]⟩
abbrev S1 : Shape := ⟨1, ![1]⟩
abbrev S1x1 : Shape := ⟨2, ![1, 1]⟩
abbrev S8x144x31 : Shape := ⟨3, ![8, 144, 31]⟩
abbrev S8x72x62 : Shape := ⟨3, ![8, 72, 62]⟩
abbrev S8x72x2 : Shape := ⟨3, ![8, 72, 2]⟩
abbrev S8x72x1 : Shape := ⟨3, ![8, 72, 1]⟩
abbrev S8x72x65 : Shape := ⟨3, ![8, 72, 65]⟩
abbrev S8x3x24x65 : Shape := ⟨4, ![8, 3, 24, 65]⟩
abbrev S3x8x24x65 : Shape := ⟨4, ![3, 8, 24, 65]⟩
abbrev S576x65 : Shape := ⟨2, ![576, 65]⟩
abbrev S65x8192 : Shape := ⟨2, ![65, 8192]⟩
abbrev S576x8192 : Shape := ⟨2, ![576, 8192]⟩
abbrev S3x8x4x6x64x128 : Shape := ⟨6, ![3, 8, 4, 6, 64, 128]⟩
abbrev S8192x1024 : Shape := ⟨2, ![8192, 1024]⟩
abbrev S256x1024 : Shape := ⟨2, ![256, 1024]⟩
abbrev S1x8x4x6x64x128 : Shape := ⟨6, ![1, 8, 4, 6, 64, 128]⟩
abbrev S256x128 : Shape := ⟨2, ![256, 128]⟩
abbrev S768x128 : Shape := ⟨2, ![768, 128]⟩
abbrev S768x256 : Shape := ⟨2, ![768, 256]⟩
abbrev S256x768 : Shape := ⟨2, ![256, 768]⟩
abbrev S1x1x1x1x64x128 : Shape := ⟨6, ![1, 1, 1, 1, 64, 128]⟩
abbrev S64x128 : Shape := ⟨2, ![64, 128]⟩
abbrev S64x768 : Shape := ⟨2, ![64, 768]⟩
abbrev S256 : Shape := ⟨1, ![256]⟩
abbrev S256x1 : Shape := ⟨2, ![256, 1]⟩
abbrev S256x256 : Shape := ⟨2, ![256, 256]⟩

abbrev nBuf : Space → Nat
  | .hbm => 48
  | .vmem => 22
  | .smem => 0
  | _ => 0

abbrev bufTy : (tb : Table) → Fin (tcTables nBuf tb) → BufTy
  | .hbm, ⟨0, _⟩ => ⟨S8192x4608, .f32⟩
  | .hbm, ⟨1, _⟩ => ⟨S8x15x31, .f32⟩
  | .hbm, ⟨2, _⟩ => ⟨S144, .i32⟩
  | .hbm, ⟨3, _⟩ => ⟨S72x2, .f32⟩
  | .hbm, ⟨4, _⟩ => ⟨S65x64x128, .f32⟩
  | .hbm, ⟨5, _⟩ => ⟨S8x15x31, .f32⟩
  | .hbm, ⟨6, _⟩ => ⟨S1x4608, .f32⟩
  | .hbm, ⟨7, _⟩ => ⟨S_, .f32⟩
  | .hbm, ⟨8, _⟩ => ⟨S8x1x31, .f32⟩
  | .hbm, ⟨9, _⟩ => ⟨S8x16x31, .f32⟩
  | .hbm, ⟨10, _⟩ => ⟨S_, .i32⟩
  | .hbm, ⟨11, _⟩ => ⟨S144, .i32⟩
  | .hbm, ⟨12, _⟩ => ⟨S144, .i1⟩
  | .hbm, ⟨13, _⟩ => ⟨S_, .i32⟩
  | .hbm, ⟨14, _⟩ => ⟨S144, .i32⟩
  | .hbm, ⟨15, _⟩ => ⟨S144, .i32⟩
  | .hbm, ⟨16, _⟩ => ⟨S144, .i32⟩
  | .hbm, ⟨17, _⟩ => ⟨S144x1, .i32⟩
  | .hbm, ⟨18, _⟩ => ⟨S1, .i32⟩
  | .hbm, ⟨19, _⟩ => ⟨S_, .i32⟩
  | .hbm, ⟨20, _⟩ => ⟨S144x1, .i32⟩
  | .hbm, ⟨21, _⟩ => ⟨S144x1, .i1⟩
  | .hbm, ⟨22, _⟩ => ⟨S1x1, .i32⟩
  | .hbm, ⟨23, _⟩ => ⟨S144x1, .i32⟩
  | .hbm, ⟨24, _⟩ => ⟨S144x1, .i1⟩
  | .hbm, ⟨25, _⟩ => ⟨S144x1, .i1⟩
  | .hbm, ⟨26, _⟩ => ⟨S_, .i1⟩
  | .hbm, ⟨27, _⟩ => ⟨S144, .i1⟩
  | .hbm, ⟨28, _⟩ => ⟨S8x144x31, .f32⟩
  | .hbm, ⟨29, _⟩ => ⟨S8x144x31, .i1⟩
  | .hbm, ⟨30, _⟩ => ⟨S_, .f32⟩
  | .hbm, ⟨31, _⟩ => ⟨S8x144x31, .f32⟩
  | .hbm, ⟨32, _⟩ => ⟨S8x144x31, .f32⟩
  | .hbm, ⟨33, _⟩ => ⟨S8x72x62, .f32⟩
  | .hbm, ⟨34, _⟩ => ⟨S8x72x2, .f32⟩
  | .hbm, ⟨35, _⟩ => ⟨S_, .f32⟩
  | .hbm, ⟨36, _⟩ => ⟨S8x72x1, .f32⟩
  | .hbm, ⟨37, _⟩ => ⟨S8x72x65, .f32⟩
  | .hbm, ⟨38, _⟩ => ⟨S8x3x24x65, .f32⟩
  | .hbm, ⟨39, _⟩ => ⟨S3x8x24x65, .f32⟩
  | .hbm, ⟨40, _⟩ => ⟨S576x65, .f32⟩
  | .hbm, ⟨41, _⟩ => ⟨S65x8192, .f32⟩
  | .hbm, ⟨42, _⟩ => ⟨S576x8192, .f32⟩
  | .hbm, ⟨43, _⟩ => ⟨S3x8x4x6x64x128, .f32⟩
  | .hbm, ⟨44, _⟩ => ⟨S8192x4608, .f32⟩
  | .hbm, ⟨45, _⟩ => ⟨S8192x4608, .f32⟩
  | .hbm, ⟨46, _⟩ => ⟨S8192x4608, .bf16⟩
  | .hbm, ⟨47, _⟩ => ⟨S8192x1024, .bf16⟩
  | .local _ .vmem, ⟨0, _⟩ => ⟨S8x15x31, .f32⟩
  | .local _ .vmem, ⟨1, _⟩ => ⟨S65x64x128, .f32⟩
  | .local _ .vmem, ⟨2, _⟩ => ⟨S8x15x31, .f32⟩
  | .local _ .vmem, ⟨3, _⟩ => ⟨S1x4608, .f32⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S1x8x4x6x64x128, .f32⟩
  | .local _ .vmem, ⟨19, _⟩ => ⟨S1x8x4x6x64x128, .f32⟩
  | .local _ .vmem, ⟨20, _⟩ => ⟨S256x1024, .bf16⟩
  | .local _ .vmem, ⟨21, _⟩ => ⟨S256x1024, .bf16⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := .none

abbrev stage0_0 : Fin 1 → Memref sig .tc .vmem S8x15x31 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x15x31 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc1_transform_1 (i : grid1.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c31_i32 : BitVec 32 := 31#32
  let v1 : BitVec 32 := Scalar.maxsi c0_i32 v0
  let v2 : BitVec 32 := Scalar.minsi c31_i32 v1
  let c1_i32 : BitVec 32 := 1#32
  let c0_i32_0 : BitVec 32 := 0#32
  ![v2.toNat, c1_i32.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c1_i32 : BitVec 32 := 1#32
  let c0_i32_1 : BitVec 32 := 0#32
  ![v2.toNat, c1_i32.toNat]

def cc1_transform_3 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c31_i32 : BitVec 32 := 31#32
  let v1 : BitVec 32 := Scalar.maxsi c0_i32 v0
  let v2 : BitVec 32 := Scalar.minsi c31_i32 v1
  let c1_i32_0 : BitVec 32 := 1#32
  let c0_i32_1 : BitVec 32 := 0#32
  ![v2.toNat, c1_i32_0.toNat]

def cc1_transform_4 (i : grid1.Coords) : Fin 2 → Nat :=
  let arg0 : BitVec 32 := BitVec.ofNat 32 (i 0).val
  let c_m1_i32 : BitVec 32 := 4294967295#32
  let v0 : BitVec 32 := Scalar.addi arg0 c_m1_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let c0_i32_0 : BitVec 32 := 0#32
  ![v2.toNat, c2_i32.toNat]

def cc1_transform_5 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let c0_i32_1 : BitVec 32 := 0#32
  ![v2.toNat, c2_i32.toNat]

def cc1_transform_6 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let c0_i32_0 : BitVec 32 := 0#32
  ![v2.toNat, c2_i32.toNat]

def cc1_transform_7 (i : grid1.Coords) : Fin 6 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .eq arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  let c0_i32_5 : BitVec 32 := 0#32
  let c0_i32_6 : BitVec 32 := 0#32
  ![v3.toNat, c0_i32_1.toNat, c0_i32_2.toNat, c0_i32_3.toNat, c0_i32_4.toNat, c0_i32_5.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x8x4x6x64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x1024 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((11863283 / 134217728) * (Real.log 2)⁻¹ : ℝ) : EReal)
  | _ => none
-- ==== ReferenceIdeal.lean ====
abbrev S8192x4608 : Shape := ⟨2, ![8192, 4608]⟩
abbrev S8x15x31 : Shape := ⟨3, ![8, 15, 31]⟩
abbrev S8192x1024 : Shape := ⟨2, ![8192, 1024]⟩
abbrev S1x8192x8x128 : Shape := ⟨4, ![1, 8192, 8, 128]⟩
abbrev S1x128x64x8x128 : Shape := ⟨5, ![1, 128, 64, 8, 128]⟩
abbrev S128 : Shape := ⟨1, ![128]⟩
abbrev S_ : Shape := ⟨0, ![]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S128x8x1 : Shape := ⟨3, ![128, 8, 1]⟩
abbrev S1x128x8x64x8x128 : Shape := ⟨6, ![1, 128, 8, 64, 8, 128]⟩
abbrev S1x8x128x64x8x64 : Shape := ⟨6, ![1, 8, 128, 64, 8, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S64x1x64 : Shape := ⟨3, ![64, 1, 64]⟩
abbrev S1x8x128x64x512 : Shape := ⟨5, ![1, 8, 128, 64, 512]⟩
abbrev S1x8x128x64 : Shape := ⟨4, ![1, 8, 128, 64]⟩
abbrev S1x8x128x64x1 : Shape := ⟨5, ![1, 8, 128, 64, 1]⟩
abbrev S1x128x8x128x64 : Shape := ⟨5, ![1, 128, 8, 128, 64]⟩

abbrev nBuf : Space → Nat
  | .hbm => 150
  | .vmem => 0
  | .smem => 0
  | _ => 0

abbrev hbmTy0_0 (i : Nat) : BufTy := match i % 128 with
  | 0 => ⟨S8192x4608, .f32⟩
  | 1 => ⟨S8x15x31, .f32⟩
  | 2 => ⟨S8192x1024, .f32⟩
  | 3 => ⟨S1x8192x8x128, .f32⟩
  | 4 => ⟨S8192x1024, .f32⟩
  | 5 => ⟨S1x8192x8x128, .f32⟩
  | 6 => ⟨S8192x1024, .f32⟩
  | 7 => ⟨S1x8192x8x128, .f32⟩
  | 8 => ⟨S1x128x64x8x128, .f32⟩
  | 9 => ⟨S1x128x64x8x128, .f32⟩
  | 10 => ⟨S1x128x64x8x128, .f32⟩
  | 11 => ⟨S128, .i32⟩
  | 12 => ⟨S_, .i32⟩
  | 13 => ⟨S128, .i32⟩
  | 14 => ⟨S128, .i32⟩
  | 15 => ⟨S_, .i32⟩
  | 16 => ⟨S_, .i32⟩
  | 17 => ⟨S_, .i32⟩
  | 18 => ⟨S128, .i32⟩
  | 19 => ⟨S128, .i32⟩
  | 20 => ⟨S_, .i32⟩
  | 21 => ⟨S128, .i32⟩
  | 22 => ⟨S128, .i32⟩
  | 23 => ⟨S128x1, .i32⟩
  | 24 => ⟨S8, .i32⟩
  | 25 => ⟨S1x8, .i32⟩
  | 26 => ⟨S128x8, .i32⟩
  | 27 => ⟨S128x8, .i32⟩
  | 28 => ⟨S128x8, .i32⟩
  | 29 => ⟨S64, .i32⟩
  | 30 => ⟨S_, .i32⟩
  | 31 => ⟨S64, .i32⟩
  | 32 => ⟨S64, .i32⟩
  | 33 => ⟨S_, .i32⟩
  | 34 => ⟨S_, .i32⟩
  | 35 => ⟨S_, .i32⟩
  | 36 => ⟨S64, .i32⟩
  | 37 => ⟨S64, .i32⟩
  | 38 => ⟨S_, .i32⟩
  | 39 => ⟨S64, .i32⟩
  | 40 => ⟨S64, .i32⟩
  | 41 => ⟨S1x64, .i32⟩
  | 42 => ⟨S64x1, .i32⟩
  | 43 => ⟨S64x64, .i32⟩
  | 44 => ⟨S64x64, .i32⟩
  | 45 => ⟨S64x64, .i1⟩
  | 46 => ⟨S1x64, .i32⟩
  | 47 => ⟨S64x1, .i32⟩
  | 48 => ⟨S_, .i32⟩
  | 49 => ⟨S64x1, .i32⟩
  | 50 => ⟨S64x1, .i32⟩
  | 51 => ⟨S64x64, .i32⟩
  | 52 => ⟨S64x64, .i32⟩
  | 53 => ⟨S64x64, .i1⟩
  | 54 => ⟨S64x64, .i1⟩
  | 55 => ⟨S_, .i32⟩
  | 56 => ⟨S128x8, .i32⟩
  | 57 => ⟨S128x8, .i1⟩
  | 58 => ⟨S_, .i32⟩
  | 59 => ⟨S128x8, .i32⟩
  | 60 => ⟨S128x8, .i32⟩
  | 61 => ⟨S128x8, .i32⟩
  | 62 => ⟨S128x8x1, .i32⟩
  | 63 => ⟨S1x128x8x64x8x128, .f32⟩
  | 64 => ⟨S_, .i32⟩
  | 65 => ⟨S128x8, .i32⟩
  | 66 => ⟨S128x8, .i1⟩
  | 67 => ⟨S_, .i32⟩
  | 68 => ⟨S128x8, .i32⟩
  | 69 => ⟨S128x8, .i32⟩
  | 70 => ⟨S128x8, .i32⟩
  | 71 => ⟨S128x8x1, .i32⟩
  | 72 => ⟨S1x128x8x64x8x128, .f32⟩
  | 73 => ⟨S1x8x128x64x8x64, .f32⟩
  | 74 => ⟨S_, .f32⟩
  | 75 => ⟨S1x8x128x64x8x64, .f32⟩
  | 76 => ⟨S1x8x128x64x8x64, .f32⟩
  | 77 => ⟨S128x1, .i32⟩
  | 78 => ⟨S128x8, .i32⟩
  | 79 => ⟨S128x8, .i32⟩
  | 80 => ⟨S_, .i32⟩
  | 81 => ⟨S128x8, .i32⟩
  | 82 => ⟨S128x8, .i32⟩
  | 83 => ⟨S1x64, .i32⟩
  | 84 => ⟨S64x1, .i32⟩
  | 85 => ⟨S64x64, .i32⟩
  | 86 => ⟨S64x64, .i32⟩
  | 87 => ⟨S64x64, .i32⟩
  | 88 => ⟨S_, .i32⟩
  | 89 => ⟨S_, .i32⟩
  | 90 => ⟨S_, .i32⟩
  | 91 => ⟨S64x64, .i32⟩
  | 92 => ⟨S64x64, .i32⟩
  | 93 => ⟨S_, .i32⟩
  | 94 => ⟨S64x64, .i32⟩
  | 95 => ⟨S64x64, .i32⟩
  | 96 => ⟨S_, .i32⟩
  | 97 => ⟨S64x64, .i32⟩
  | 98 => ⟨S64x64, .i32⟩
  | 99 => ⟨S128x1x8x1, .i32⟩
  | 100 => ⟨S1x64x1x64, .i32⟩
  | 101 => ⟨S_, .i32⟩
  | 102 => ⟨S128x1x8x1, .i32⟩
  | 103 => ⟨S128x1x8x1, .i1⟩
  | 104 => ⟨S_, .i32⟩
  | 105 => ⟨S128x1x8x1, .i32⟩
  | 106 => ⟨S128x1x8x1, .i32⟩
  | 107 => ⟨S128x1x8x1, .i32⟩
  | 108 => ⟨S_, .i32⟩
  | 109 => ⟨S1x64x1x64, .i32⟩
  | 110 => ⟨S1x64x1x64, .i1⟩
  | 111 => ⟨S_, .i32⟩
  | 112 => ⟨S1x64x1x64, .i32⟩
  | 113 => ⟨S1x64x1x64, .i32⟩
  | 114 => ⟨S1x64x1x64, .i32⟩
  | 115 => ⟨S128x64x8x64, .i32⟩
  | 116 => ⟨S128x64x8x64, .i32⟩
  | 117 => ⟨S128x64x8x64x1, .i32⟩
  | 118 => ⟨S128x64x8x64x1, .i32⟩
  | 119 => ⟨S128x64x8x64x2, .i32⟩
  | 120 => ⟨S8x128x64x8x64, .f32⟩
  | 121 => ⟨S64x1x64, .i1⟩
  | 122 => ⟨S_, .f32⟩
  | 123 => ⟨S_, .f32⟩
  | 124 => ⟨S8x128x64x8x64, .i1⟩
  | 125 => ⟨S8x128x64x8x64, .f32⟩
  | 126 => ⟨S8x128x64x8x64, .f32⟩
  | 127 => ⟨S1x8x128x64x8x64, .f32⟩
  | _ => ⟨S8192x4608, .f32⟩

abbrev hbmTy0_1 (i : Nat) : BufTy := match i % 128 with
  | 0 => ⟨S1x8x128x64x8x64, .f32⟩
  | 1 => ⟨S1x8x128x64x512, .f32⟩
  | 2 => ⟨S_, .f32⟩
  | 3 => ⟨S1x8x128x64, .f32⟩
  | 4 => ⟨S_, .f32⟩
  | 5 => ⟨S1x8x128x64, .f32⟩
  | 6 => ⟨S1x8x128x64, .f32⟩
  | 7 => ⟨S1x8x128x64x1, .f32⟩
  | 8 => ⟨S1x8x128x64x512, .f32⟩
  | 9 => ⟨S1x8x128x64x512, .f32⟩
  | 10 => ⟨S1x8x128x64x512, .f32⟩
  | 11 => ⟨S_, .f32⟩
  | 12 => ⟨S1x8x128x64, .f32⟩
  | 13 => ⟨S1x8x128x64x1, .f32⟩
  | 14 => ⟨S1x8x128x64x512, .f32⟩
  | 15 => ⟨S1x8x128x64x512, .f32⟩
  | 16 => ⟨S1x8x128x64x8x64, .f32⟩
  | 17 => ⟨S1x128x8x128x64, .f32⟩
  | 18 => ⟨S1x128x64x8x128, .f32⟩
  | 19 => ⟨S1x8192x8x128, .f32⟩
  | 20 => ⟨S8192x1024, .f32⟩
  | 21 => ⟨S8192x1024, .bf16⟩
  | _ => ⟨S8192x4608, .f32⟩

abbrev hbmTy (i : Nat) : BufTy := match i / 128 with
  | 0 => hbmTy0_0 i
  | 1 => hbmTy0_1 i
  | _ => ⟨S8192x4608, .f32⟩

abbrev bufTy : (tb : Table) → Fin (tcTables nBuf tb) → BufTy
  | .hbm, ⟨i, _⟩ => hbmTy i
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_c_4 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_11 : Ref sig .tc := ⟨.hbm, 88, rfl⟩
abbrev main_c_12 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_16 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_18 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_cst_20 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_cst_21 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩

abbrev nD : Nat := 1
abbrev τ : Topo := Topo.v7x

variable {F : FTy → Type} [FloatOps F]
-- ==== Kernel2.lean ====
abbrev S8192x5632 : Shape := ⟨2, ![8192, 5632]⟩
abbrev S8192x2048 : Shape := ⟨2, ![8192, 2048]⟩
abbrev S5632x2048 : Shape := ⟨2, ![5632, 2048]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S5632x2048, .f32⟩
  | .hbm, ⟨3, _⟩ => ⟨S2048, .f32⟩
  | .hbm, ⟨4, _⟩ => ⟨S8192x5632, .bf16⟩
  | .hbm, ⟨5, _⟩ => ⟨S5632x2048, .bf16⟩
  | .hbm, ⟨6, _⟩ => ⟨S1x2048, .f32⟩
  | .hbm, ⟨7, _⟩ => ⟨S8192x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S8192x5632 : Shape := ⟨2, ![8192, 5632]⟩
abbrev S8192x2048 : Shape := ⟨2, ![8192, 2048]⟩
abbrev S5632x2048 : Shape := ⟨2, ![5632, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S5632x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel3.lean ====
abbrev S8192x2048 : Shape := ⟨2, ![8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S1x2048 : Shape := ⟨2, ![1, 2048]⟩
abbrev S1x11264 : Shape := ⟨2, ![1, 11264]⟩
abbrev S8192x5632 : Shape := ⟨2, ![8192, 5632]⟩
abbrev S1024x2048 : Shape := ⟨2, ![1024, 2048]⟩
abbrev S8x2048 : Shape := ⟨2, ![8, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1056x2048 : Shape := ⟨2, ![1056, 2048]⟩
abbrev S1056x512 : Shape := ⟨2, ![1056, 512]⟩
abbrev S1024 : Shape := ⟨1, ![1024]⟩
abbrev S1024x1 : Shape := ⟨2, ![1024, 1]⟩
abbrev S8 : Shape := ⟨1, ![8]⟩
abbrev S8x1 : Shape := ⟨2, ![8, 1]⟩
abbrev S16x2048 : Shape := ⟨2, ![16, 2048]⟩

abbrev nBuf : Space → Nat
  | .hbm => 8
  | .vmem => 24
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S1x2048, .f32⟩
  | .hbm, ⟨6, _⟩ => ⟨S1x11264, .f32⟩
  | .hbm, ⟨7, _⟩ => ⟨S8192x5632, .bf16⟩
  | .local _ .vmem, ⟨0, _⟩ => ⟨S1024x2048, .f32⟩
  | .local _ .vmem, ⟨1, _⟩ => ⟨S1024x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S1x2048, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1056x2048, .bf16⟩
  | .local _ .vmem, ⟨22, _⟩ => ⟨S1056x512, .f32⟩
  | .local _ .vmem, ⟨23, _⟩ => ⟨S1056x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg1 c0_i32
  let v1 : BitVec 32 := Scalar.extui v0
  let v2 : BitVec 32 := Scalar.addi arg0 v1
  let c7_i32 : BitVec 32 := 7#32
  let v3 : BitVec 32 := Scalar.minsi v2 c7_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg1 c0_i32
  let v1 : BitVec 32 := Scalar.extui v0
  let v2 : BitVec 32 := Scalar.addi arg0 v1
  let c7_i32 : BitVec 32 := 7#32
  let v3 : BitVec 32 := Scalar.minsi v2 c7_i32
  let c128_i32 : BitVec 32 := 128#32
  let v4 : BitVec 32 := Scalar.muli v3 c128_i32
  let c1_i32 : BitVec 32 := 1#32
  let v5 : BitVec 32 := Scalar.subi v4 c1_i32
  let c0_i32_0 : BitVec 32 := 0#32
  let v6 : BitVec 32 := Scalar.maxsi v5 c0_i32_0
  let c0_i32_1 : BitVec 32 := 0#32
  let c0_i32_2 : BitVec 32 := 0#32
  ![v6.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg1 c0_i32
  let v1 : BitVec 32 := Scalar.extui v0
  let v2 : BitVec 32 := Scalar.addi arg0 v1
  let c7_i32 : BitVec 32 := 7#32
  let v3 : BitVec 32 := Scalar.minsi v2 c7_i32
  let c1_i32 : BitVec 32 := 1#32
  let v4 : BitVec 32 := Scalar.addi v3 c1_i32
  let c128_i32 : BitVec 32 := 128#32
  let v5 : BitVec 32 := Scalar.muli v4 c128_i32
  let c1023_i32 : BitVec 32 := 1023#32
  let v6 : BitVec 32 := Scalar.minsi v5 c1023_i32
  let c0_i32_0 : BitVec 32 := 0#32
  let c0_i32_1 : BitVec 32 := 0#32
  ![v6.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S8192x2048 : Shape := ⟨2, ![8192, 2048]⟩
abbrev S2048 : Shape := ⟨1, ![2048]⟩
abbrev S2048x11264 : Shape := ⟨2, ![2048, 11264]⟩
abbrev S3x11264 : Shape := ⟨2, ![3, 11264]⟩
abbrev S11264 : Shape := ⟨1, ![11264]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x11264 : Shape := ⟨2, ![8192, 11264]⟩
abbrev S8194x11264 : Shape := ⟨2, ![8194, 11264]⟩
abbrev S1x11264 : Shape := ⟨2, ![1, 11264]⟩
abbrev S8192x5632 : Shape := ⟨2, ![8192, 5632]⟩

abbrev nBuf : Space → Nat
  | .hbm => 64
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x11264, .f32⟩
  | .hbm, ⟨3, _⟩ => ⟨S3x11264, .f32⟩
  | .hbm, ⟨4, _⟩ => ⟨S11264, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x11264, .f32⟩
  | .hbm, ⟨22, _⟩ => ⟨S_, .i32⟩
  | .hbm, ⟨23, _⟩ => ⟨S_, .f32⟩
  | .hbm, ⟨24, _⟩ => ⟨S8194x11264, .f32⟩
  | .hbm, ⟨25, _⟩ => ⟨S8192x11264, .f32⟩
  | .hbm, ⟨26, _⟩ => ⟨S1x11264, .f32⟩
  | .hbm, ⟨27, _⟩ => ⟨S11264, .f32⟩
  | .hbm, ⟨28, _⟩ => ⟨S1x11264, .f32⟩
  | .hbm, ⟨29, _⟩ => ⟨S8192x11264, .f32⟩
  | .hbm, ⟨30, _⟩ => ⟨S8192x11264, .f32⟩
  | .hbm, ⟨31, _⟩ => ⟨S_, .f32⟩
  | .hbm, ⟨32, _⟩ => ⟨S8192x11264, .f32⟩
  | .hbm, ⟨33, _⟩ => ⟨S8192x11264, .f32⟩
  | .hbm, ⟨34, _⟩ => ⟨S8192x11264, .f32⟩
  | .hbm, ⟨35, _⟩ => ⟨S1x11264, .f32⟩
  | .hbm, ⟨36, _⟩ => ⟨S11264, .f32⟩
  | .hbm, ⟨37, _⟩ => ⟨S1x11264, .f32⟩
  | .hbm, ⟨38, _⟩ => ⟨S8192x11264, .f32⟩
  | .hbm, ⟨39, _⟩ => ⟨S8192x11264, .f32⟩
  | .hbm, ⟨40, _⟩ => ⟨S8192x11264, .f32⟩
  | .hbm, ⟨41, _⟩ => ⟨S8192x11264, .f32⟩
  | .hbm, ⟨42, _⟩ => ⟨S1x11264, .f32⟩
  | .hbm, ⟨43, _⟩ => ⟨S11264, .f32⟩
  | .hbm, ⟨44, _⟩ => ⟨S1x11264, .f32⟩
  | .hbm, ⟨45, _⟩ => ⟨S8192x11264, .f32⟩
  | .hbm, ⟨46, _⟩ => ⟨S8192x11264, .f32⟩
  | .hbm, ⟨47, _⟩ => ⟨S8192x11264, .f32⟩
  | .hbm, ⟨48, _⟩ => ⟨S1x11264, .f32⟩
  | .hbm, ⟨49, _⟩ => ⟨S8192x11264, .f32⟩
  | .hbm, ⟨50, _⟩ => ⟨S8192x11264, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x5632, .f32⟩
  | .hbm, ⟨55, _⟩ => ⟨S_, .f32⟩
  | .hbm, ⟨56, _⟩ => ⟨S8192x5632, .f32⟩
  | .hbm, ⟨57, _⟩ => ⟨S8192x5632, .f32⟩
  | .hbm, ⟨58, _⟩ => ⟨S_, .f32⟩
  | .hbm, ⟨59, _⟩ => ⟨S8192x5632, .f32⟩
  | .hbm, ⟨60, _⟩ => ⟨S8192x5632, .f32⟩
  | .hbm, ⟨61, _⟩ => ⟨S8192x5632, .f32⟩
  | .hbm, ⟨62, _⟩ => ⟨S8192x5632, .f32⟩
  | .hbm, ⟨63, _⟩ => ⟨S8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_call1_v0 : Ref sig .tc := ⟨.hbm, 53, rfl⟩
abbrev main_call1_v1 : Ref sig .tc := ⟨.hbm, 54, rfl⟩
abbrev main_call1_cst : Ref sig .tc := ⟨.hbm, 55, rfl⟩
abbrev main_call1_v2 : Ref sig .tc := ⟨.hbm, 56, rfl⟩
abbrev main_call1_v3 : Ref sig .tc := ⟨.hbm, 57, rfl⟩
abbrev main_call1_cst_0 : Ref sig .tc := ⟨.hbm, 58, rfl⟩
abbrev main_call1_v4 : Ref sig .tc := ⟨.hbm, 59, rfl⟩
abbrev main_call1_v5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S2048x2048 : Shape := ⟨2, ![2048, 2048]⟩
abbrev S8192x2048 : Shape := ⟨2, ![8192, 2048]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S8192x2048, .f32⟩
  | .hbm, ⟨6, _⟩ => ⟨S8192x1024, .bf16⟩
  | .hbm, ⟨7, _⟩ => ⟨S8192x1024, .bf16⟩
  | .hbm, ⟨8, _⟩ => ⟨S1x1024, .f32⟩
  | .hbm, ⟨9, _⟩ => ⟨S1x1024, .f32⟩
  | .hbm, ⟨10, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S2048x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S2048x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S8192x1024 : Shape := ⟨2, ![8192, 1024]⟩
abbrev S1024 : Shape := ⟨1, ![1024]⟩
abbrev S2048x2048 : Shape := ⟨2, ![2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S8192x2048, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x2048, .f32⟩
  | .hbm, ⟨39, _⟩ => ⟨S8192x2048, .f32⟩
  | .hbm, ⟨40, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S8192x2048 : Shape := ⟨2, ![8192, 2048]⟩
abbrev S2048 : Shape := ⟨1, ![2048]⟩
abbrev S2048x4608 : Shape := ⟨2, ![2048, 4608]⟩
abbrev S128 : Shape := ⟨1, ![128]⟩
abbrev S8192x64 : Shape := ⟨2, ![8192, 64]⟩
abbrev S_ : Shape := ⟨0, ![]⟩
abbrev S3072 : Shape := ⟨1, ![3072]⟩
abbrev S1x128 : Shape := ⟨2, ![1, 128]⟩
abbrev S8x128 : Shape := ⟨2, ![8, 128]⟩
abbrev S1024 : Shape := ⟨1, ![1024]⟩
abbrev S2x128 : Shape := ⟨2, ![2, 128]⟩
abbrev S256 : Shape := ⟨1, ![256]⟩
abbrev S4608 : Shape := ⟨1, ![4608]⟩
abbrev S1280 : Shape := ⟨1, ![1280]⟩
abbrev S1x4608 : Shape := ⟨2, ![1, 4608]⟩
abbrev S8192x64x2 : Shape := ⟨3, ![8192, 64, 2]⟩
abbrev S8192x128 : Shape := ⟨2, ![8192, 128]⟩
abbrev S8192x64x1 : Shape := ⟨3, ![8192, 64, 1]⟩
abbrev S1x2048 : Shape := ⟨2, ![1, 2048]⟩
abbrev S8192x4608 : Shape := ⟨2, ![8192, 4608]⟩
abbrev S1024x2048 : Shape := ⟨2, ![1024, 2048]⟩
abbrev S2048x768 : Shape := ⟨2, ![2048, 768]⟩
abbrev S1x768 : Shape := ⟨2, ![1, 768]⟩
abbrev S1024x128 : Shape := ⟨2, ![1024, 128]⟩
abbrev S1024x768 : Shape := ⟨2, ![1024, 768]⟩
abbrev S1024x1 : Shape := ⟨2, ![1024, 1]⟩

abbrev nBuf : Space → Nat
  | .hbm => 39
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S128, .f32⟩
  | .hbm, ⟨4, _⟩ => ⟨S128, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S3072, .f32⟩
  | .hbm, ⟨9, _⟩ => ⟨S1x128, .f32⟩
  | .hbm, ⟨10, _⟩ => ⟨S8x128, .f32⟩
  | .hbm, ⟨11, _⟩ => ⟨S1024, .f32⟩
  | .hbm, ⟨12, _⟩ => ⟨S1x128, .f32⟩
  | .hbm, ⟨13, _⟩ => ⟨S2x128, .f32⟩
  | .hbm, ⟨14, _⟩ => ⟨S256, .f32⟩
  | .hbm, ⟨15, _⟩ => ⟨S_, .f32⟩
  | .hbm, ⟨16, _⟩ => ⟨S256, .f32⟩
  | .hbm, ⟨17, _⟩ => ⟨S4608, .f32⟩
  | .hbm, ⟨18, _⟩ => ⟨S_, .f32⟩
  | .hbm, ⟨19, _⟩ => ⟨S3072, .f32⟩
  | .hbm, ⟨20, _⟩ => ⟨S_, .f32⟩
  | .hbm, ⟨21, _⟩ => ⟨S1280, .f32⟩
  | .hbm, ⟨22, _⟩ => ⟨S_, .f32⟩
  | .hbm, ⟨23, _⟩ => ⟨S256, .f32⟩
  | .hbm, ⟨24, _⟩ => ⟨S4608, .f32⟩
  | .hbm, ⟨25, _⟩ => ⟨S_, .f32⟩
  | .hbm, ⟨26, _⟩ => ⟨S4608, .f32⟩
  | .hbm, ⟨27, _⟩ => ⟨S1x4608, .f32⟩
  | .hbm, ⟨28, _⟩ => ⟨S1x4608, .f32⟩
  | .hbm, ⟨29, _⟩ => ⟨S1x4608, .f32⟩
  | .hbm, ⟨30, _⟩ => ⟨S8192x64x2, .f32⟩
  | .hbm, ⟨31, _⟩ => ⟨S8192x128, .f32⟩
  | .hbm, ⟨32, _⟩ => ⟨S8192x64, .f32⟩
  | .hbm, ⟨33, _⟩ => ⟨S8192x64x1, .f32⟩
  | .hbm, ⟨34, _⟩ => ⟨S8192x64x1, .f32⟩
  | .hbm, ⟨35, _⟩ => ⟨S8192x64x2, .f32⟩
  | .hbm, ⟨36, _⟩ => ⟨S8192x128, .f32⟩
  | .hbm, ⟨37, _⟩ => ⟨S1x2048, .f32⟩
  | .hbm, ⟨38, _⟩ => ⟨S8192x4608, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .f32⟩
  | .local _ .vmem, ⟨4, _⟩ => ⟨S2048x768, .f32⟩
  | .local _ .vmem, ⟨5, _⟩ => ⟨S1x768, .f32⟩
  | .local _ .vmem, ⟨6, _⟩ => ⟨S1x768, .f32⟩
  | .local _ .vmem, ⟨7, _⟩ => ⟨S1x768, .f32⟩
  | .local _ .vmem, ⟨8, _⟩ => ⟨S1x768, .f32⟩
  | .local _ .vmem, ⟨9, _⟩ => ⟨S1x768, .f32⟩
  | .local _ .vmem, ⟨10, _⟩ => ⟨S1x768, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x768, .bf16⟩
  | .local _ .vmem, ⟨16, _⟩ => ⟨S1024x768, .bf16⟩
  | .local _ .vmem, ⟨17, _⟩ => ⟨S1024x2048, .bf16⟩
  | .local _ .vmem, ⟨18, _⟩ => ⟨S1024x768, .f32⟩
  | .local _ .vmem, ⟨19, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 7], ![false, false]⟩

def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c6_i32 : BitVec 32 := 6#32
  let v7 : BitVec 1 := Scalar.cmpi .slt arg1 c6_i32
  let v8 : BitVec 1 := Scalar.andi v6 v7
  let c2_i32 : BitVec 32 := 2#32
  let c0_i32_4 : BitVec 32 := 0#32
  let v9 : BitVec 1 := Scalar.cmpi .eq c2_i32 c0_i32_4
  let c1_i32 : BitVec 32 := 1#32
  let v10 : BitVec 32 := Scalar.select v9 c1_i32 c2_i32
  let v11 : BitVec 32 := Scalar.remsi arg1 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c0_i32_8 : BitVec 32 := 0#32
  let v19 : BitVec 1 := Scalar.cmpi .eq v18 c0_i32_8
  let v20 : BitVec 1 := Scalar.andi v8 v19
  let v21 : BitVec 32 := Scalar.extui v20
  let c0_i32_9 : BitVec 32 := 0#32
  let v22 : BitVec 1 := Scalar.cmpi .ne v21 c0_i32_9
  v22

def k0_cond4 (i : grid0.Coords) : BitVec 1 :=
  let arg1 : BitVec 32 := BitVec.ofNat 32 (i 1).val
  let c0_i32_10 : BitVec 32 := 0#32
  let v23 : BitVec 1 := Scalar.cmpi .sgt arg1 c0_i32_10
  let c6_i32_11 : BitVec 32 := 6#32
  let v24 : BitVec 1 := Scalar.cmpi .slt arg1 c6_i32_11
  let v25 : BitVec 1 := Scalar.andi v23 v24
  let c2_i32_12 : BitVec 32 := 2#32
  let c0_i32_13 : BitVec 32 := 0#32
  let v26 : BitVec 1 := Scalar.cmpi .eq c2_i32_12 c0_i32_13
  let c1_i32_14 : BitVec 32 := 1#32
  let v27 : BitVec 32 := Scalar.select v26 c1_i32_14 c2_i32_12
  let v28 : BitVec 32 := Scalar.remsi arg1 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_18 : BitVec 32 := 1#32
  let v36 : BitVec 1 := Scalar.cmpi .eq v35 c1_i32_18
  let v37 : BitVec 1 := Scalar.andi v25 v36
  let v38 : BitVec 32 := Scalar.extui v37
  let c0_i32_19 : BitVec 32 := 0#32
  let v39 : BitVec 1 := Scalar.cmpi .ne v38 c0_i32_19
  v39

def k0_cond5 (i : grid0.Coords) : BitVec 1 :=
  let arg1 : BitVec 32 := BitVec.ofNat 32 (i 1).val
  let c6_i32_20 : BitVec 32 := 6#32
  let v40 : BitVec 1 := Scalar.cmpi .eq arg1 c6_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg1 c0_i32
  let v1 : BitVec 32 := Scalar.extui v0
  let v2 : BitVec 32 := Scalar.addi arg0 v1
  let c7_i32 : BitVec 32 := 7#32
  let v3 : BitVec 32 := Scalar.minsi v2 c7_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  let v0 : BitVec 1 := Scalar.cmpi .eq c6_i32 c0_i32
  let c1_i32 : BitVec 32 := 1#32
  let v1 : BitVec 32 := Scalar.select v0 c1_i32 c6_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32 : BitVec 32 := 4#32
  let v10 : BitVec 32 := Scalar.addi v9 c4_i32
  let c6_i32_3 : BitVec 32 := 6#32
  let c0_i32_4 : BitVec 32 := 0#32
  let v11 : BitVec 1 := Scalar.cmpi .eq c6_i32_3 c0_i32_4
  let c1_i32_5 : BitVec 32 := 1#32
  let v12 : BitVec 32 := Scalar.select v11 c1_i32_5 c6_i32_3
  let v13 : BitVec 32 := Scalar.remsi v10 v12
  let c0_i32_6 : BitVec 32 := 0#32
  let v14 : BitVec 1 := Scalar.cmpi .ne v13 c0_i32_6
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let v18 : BitVec 1 := Scalar.andi v17 v14
  let v19 : BitVec 32 := Scalar.addi v13 v12
  let v20 : BitVec 32 := Scalar.select v18 v19 v13
  let c0_i32_9 : BitVec 32 := 0#32
  let c0_i32_10 : BitVec 32 := 0#32
  ![c0_i32_9.toNat, v20.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi v1 c4_i32
  let c6_i32 : BitVec 32 := 6#32
  let c0_i32_0 : BitVec 32 := 0#32
  let v3 : BitVec 1 := Scalar.cmpi .eq c6_i32 c0_i32_0
  let c1_i32_1 : BitVec 32 := 1#32
  let v4 : BitVec 32 := Scalar.select v3 c1_i32_1 c6_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![c0_i32_5.toNat, v12.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi v1 c4_i32
  let c6_i32 : BitVec 32 := 6#32
  let c0_i32_0 : BitVec 32 := 0#32
  let v3 : BitVec 1 := Scalar.cmpi .eq c6_i32 c0_i32_0
  let c1_i32_1 : BitVec 32 := 1#32
  let v4 : BitVec 32 := Scalar.select v3 c1_i32_1 c6_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![c0_i32_5.toNat, v12.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi v1 c4_i32
  let c6_i32 : BitVec 32 := 6#32
  let c0_i32_0 : BitVec 32 := 0#32
  let v3 : BitVec 1 := Scalar.cmpi .eq c6_i32 c0_i32_0
  let c1_i32_1 : BitVec 32 := 1#32
  let v4 : BitVec 32 := Scalar.select v3 c1_i32_1 c6_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  let c0_i32_6 : BitVec 32 := 0#32
  ![c0_i32_5.toNat, v12.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.addi v1 c4_i32
  let c6_i32 : BitVec 32 := 6#32
  let c0_i32_0 : BitVec 32 := 0#32
  let v3 : BitVec 1 := Scalar.cmpi .eq c6_i32 c0_i32_0
  let c1_i32_1 : BitVec 32 := 1#32
  let v4 : BitVec 32 := Scalar.select v3 c1_i32_1 c6_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c0_i32_5 : BitVec 32 := 0#32
  ![arg0.toNat, v12.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S8192x2048 : Shape := ⟨2, ![8192, 2048]⟩
abbrev S2048 : Shape := ⟨1, ![2048]⟩
abbrev S2048x4608 : Shape := ⟨2, ![2048, 4608]⟩
abbrev S128 : Shape := ⟨1, ![128]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4608 : Shape := ⟨2, ![8192, 4608]⟩
abbrev S8192x1024 : Shape := ⟨2, ![8192, 1024]⟩
abbrev S1x8192x8x128 : Shape := ⟨4, ![1, 8192, 8, 128]⟩
abbrev S8192x256 : Shape := ⟨2, ![8192, 256]⟩
abbrev S1x8192x2x128 : Shape := ⟨4, ![1, 8192, 2, 128]⟩
abbrev S1x8192x8 : Shape := ⟨3, ![1, 8192, 8]⟩
abbrev S1x8192x8x1 : Shape := ⟨4, ![1, 8192, 8, 1]⟩
abbrev S1x1x1x128 : Shape := ⟨4, ![1, 1, 1, 128]⟩
abbrev S1x8192x8x64x2 : Shape := ⟨5, ![1, 8192, 8, 64, 2]⟩
abbrev S1x8192x8x64x1 : Shape := ⟨5, ![1, 8192, 8, 64, 1]⟩
abbrev S1x8192x8x64 : Shape := ⟨4, ![1, 8192, 8, 64]⟩
abbrev S1x8192x1x64 : Shape := ⟨4, ![1, 8192, 1, 64]⟩
abbrev S1x8192x2 : Shape := ⟨3, ![1, 8192, 2]⟩
abbrev S1x8192x2x1 : Shape := ⟨4, ![1, 8192, 2, 1]⟩
abbrev S1x8192x2x64x2 : Shape := ⟨5, ![1, 8192, 2, 64, 2]⟩
abbrev S1x8192x2x64x1 : Shape := ⟨5, ![1, 8192, 2, 64, 1]⟩
abbrev S1x8192x2x64 : Shape := ⟨4, ![1, 8192, 2, 64]⟩
abbrev S8192x3072 : Shape := ⟨2, ![8192, 3072]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4608, .f32⟩
  | .hbm, ⟨3, _⟩ => ⟨S128, .f32⟩
  | .hbm, ⟨4, _⟩ => ⟨S128, .f32⟩
  | .hbm, ⟨5, _⟩ => ⟨S8192x64, .f32⟩
  | .hbm, ⟨6, _⟩ => ⟨S8192x64, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x4608, .f32⟩
  | .hbm, ⟨24, _⟩ => ⟨S8192x1024, .f32⟩
  | .hbm, ⟨25, _⟩ => ⟨S1x8192x8x128, .f32⟩
  | .hbm, ⟨26, _⟩ => ⟨S8192x256, .f32⟩
  | .hbm, ⟨27, _⟩ => ⟨S1x8192x2x128, .f32⟩
  | .hbm, ⟨28, _⟩ => ⟨S1x8192x8x128, .f32⟩
  | .hbm, ⟨29, _⟩ => ⟨S_, .f32⟩
  | .hbm, ⟨30, _⟩ => ⟨S1x8192x8, .f32⟩
  | .hbm, ⟨31, _⟩ => ⟨S1x8192x8x1, .f32⟩
  | .hbm, ⟨32, _⟩ => ⟨S_, .f32⟩
  | .hbm, ⟨33, _⟩ => ⟨S1x8192x8x1, .f32⟩
  | .hbm, ⟨34, _⟩ => ⟨S1x8192x8x1, .f32⟩
  | .hbm, ⟨35, _⟩ => ⟨S_, .f32⟩
  | .hbm, ⟨36, _⟩ => ⟨S1x8192x8x1, .f32⟩
  | .hbm, ⟨37, _⟩ => ⟨S1x8192x8x1, .f32⟩
  | .hbm, ⟨38, _⟩ => ⟨S1x8192x8x1, .f32⟩
  | .hbm, ⟨39, _⟩ => ⟨S1x8192x8x128, .f32⟩
  | .hbm, ⟨40, _⟩ => ⟨S1x8192x8x128, .f32⟩
  | .hbm, ⟨41, _⟩ => ⟨S1x1x1x128, .f32⟩
  | .hbm, ⟨42, _⟩ => ⟨S1x8192x8x128, .f32⟩
  | .hbm, ⟨43, _⟩ => ⟨S1x8192x8x128, .f32⟩
  | .hbm, ⟨44, _⟩ => ⟨S1x8192x8x64x2, .f32⟩
  | .hbm, ⟨45, _⟩ => ⟨S1x8192x8x64x1, .f32⟩
  | .hbm, ⟨46, _⟩ => ⟨S1x8192x8x64, .f32⟩
  | .hbm, ⟨47, _⟩ => ⟨S1x8192x8x64x1, .f32⟩
  | .hbm, ⟨48, _⟩ => ⟨S1x8192x8x64, .f32⟩
  | .hbm, ⟨49, _⟩ => ⟨S1x8192x1x64, .f32⟩
  | .hbm, ⟨50, _⟩ => ⟨S1x8192x1x64, .f32⟩
  | .hbm, ⟨51, _⟩ => ⟨S1x8192x8x64, .f32⟩
  | .hbm, ⟨52, _⟩ => ⟨S1x8192x8x64, .f32⟩
  | .hbm, ⟨53, _⟩ => ⟨S1x8192x8x64, .f32⟩
  | .hbm, ⟨54, _⟩ => ⟨S1x8192x8x64, .f32⟩
  | .hbm, ⟨55, _⟩ => ⟨S1x8192x8x64, .f32⟩
  | .hbm, ⟨56, _⟩ => ⟨S1x8192x8x64, .f32⟩
  | .hbm, ⟨57, _⟩ => ⟨S1x8192x8x64, .f32⟩
  | .hbm, ⟨58, _⟩ => ⟨S1x8192x8x64, .f32⟩
  | .hbm, ⟨59, _⟩ => ⟨S1x8192x8x64, .f32⟩
  | .hbm, ⟨60, _⟩ => ⟨S1x8192x8x64, .f32⟩
  | .hbm, ⟨61, _⟩ => ⟨S1x8192x8x64x1, .f32⟩
  | .hbm, ⟨62, _⟩ => ⟨S1x8192x8x64x1, .f32⟩
  | .hbm, ⟨63, _⟩ => ⟨S1x8192x8x64x2, .f32⟩
  | .hbm, ⟨64, _⟩ => ⟨S1x8192x8x128, .f32⟩
  | .hbm, ⟨65, _⟩ => ⟨S1x8192x2x128, .f32⟩
  | .hbm, ⟨66, _⟩ => ⟨S_, .f32⟩
  | .hbm, ⟨67, _⟩ => ⟨S1x8192x2, .f32⟩
  | .hbm, ⟨68, _⟩ => ⟨S1x8192x2x1, .f32⟩
  | .hbm, ⟨69, _⟩ => ⟨S_, .f32⟩
  | .hbm, ⟨70, _⟩ => ⟨S1x8192x2x1, .f32⟩
  | .hbm, ⟨71, _⟩ => ⟨S1x8192x2x1, .f32⟩
  | .hbm, ⟨72, _⟩ => ⟨S_, .f32⟩
  | .hbm, ⟨73, _⟩ => ⟨S1x8192x2x1, .f32⟩
  | .hbm, ⟨74, _⟩ => ⟨S1x8192x2x1, .f32⟩
  | .hbm, ⟨75, _⟩ => ⟨S1x8192x2x1, .f32⟩
  | .hbm, ⟨76, _⟩ => ⟨S1x8192x2x128, .f32⟩
  | .hbm, ⟨77, _⟩ => ⟨S1x8192x2x128, .f32⟩
  | .hbm, ⟨78, _⟩ => ⟨S1x1x1x128, .f32⟩
  | .hbm, ⟨79, _⟩ => ⟨S1x8192x2x128, .f32⟩
  | .hbm, ⟨80, _⟩ => ⟨S1x8192x2x128, .f32⟩
  | .hbm, ⟨81, _⟩ => ⟨S1x8192x2x64x2, .f32⟩
  | .hbm, ⟨82, _⟩ => ⟨S1x8192x2x64x1, .f32⟩
  | .hbm, ⟨83, _⟩ => ⟨S1x8192x2x64, .f32⟩
  | .hbm, ⟨84, _⟩ => ⟨S1x8192x2x64x1, .f32⟩
  | .hbm, ⟨85, _⟩ => ⟨S1x8192x2x64, .f32⟩
  | .hbm, ⟨86, _⟩ => ⟨S1x8192x1x64, .f32⟩
  | .hbm, ⟨87, _⟩ => ⟨S1x8192x1x64, .f32⟩
  | .hbm, ⟨88, _⟩ => ⟨S1x8192x2x64, .f32⟩
  | .hbm, ⟨89, _⟩ => ⟨S1x8192x2x64, .f32⟩
  | .hbm, ⟨90, _⟩ => ⟨S1x8192x2x64, .f32⟩
  | .hbm, ⟨91, _⟩ => ⟨S1x8192x2x64, .f32⟩
  | .hbm, ⟨92, _⟩ => ⟨S1x8192x2x64, .f32⟩
  | .hbm, ⟨93, _⟩ => ⟨S1x8192x2x64, .f32⟩
  | .hbm, ⟨94, _⟩ => ⟨S1x8192x2x64, .f32⟩
  | .hbm, ⟨95, _⟩ => ⟨S1x8192x2x64, .f32⟩
  | .hbm, ⟨96, _⟩ => ⟨S1x8192x2x64, .f32⟩
  | .hbm, ⟨97, _⟩ => ⟨S1x8192x2x64, .f32⟩
  | .hbm, ⟨98, _⟩ => ⟨S1x8192x2x64x1, .f32⟩
  | .hbm, ⟨99, _⟩ => ⟨S1x8192x2x64x1, .f32⟩
  | .hbm, ⟨100, _⟩ => ⟨S1x8192x2x64x2, .f32⟩
  | .hbm, ⟨101, _⟩ => ⟨S1x8192x2x128, .f32⟩
  | .hbm, ⟨102, _⟩ => ⟨S8192x3072, .f32⟩
  | .hbm, ⟨103, _⟩ => ⟨S8192x1024, .f32⟩
  | .hbm, ⟨104, _⟩ => ⟨S8192x256, .f32⟩
  | .hbm, ⟨105, _⟩ => ⟨S8192x256, .f32⟩
  | .hbm, ⟨106, _⟩ => ⟨S8192x4608, .f32⟩
  | .hbm, ⟨107, _⟩ => ⟨S8192x4608, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_cst_6 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩

abbrev nD : Nat := 1
abbrev τ : Topo := Topo.v7x

variable {F : FTy → Type} [FloatOps F]
-- ==== Kernel6.lean ====
abbrev S8192x4608 : Shape := ⟨2, ![8192, 4608]⟩
abbrev S8192x256 : Shape := ⟨2, ![8192, 256]⟩
abbrev S256x8192 : Shape := ⟨2, ![256, 8192]⟩
abbrev S8192x1024 : Shape := ⟨2, ![8192, 1024]⟩
abbrev S512x1024 : Shape := ⟨2, ![512, 1024]⟩
abbrev S4096x256 : Shape := ⟨2, ![4096, 256]⟩
abbrev S256x4096 : Shape := ⟨2, ![256, 4096]⟩
abbrev S8x1x512 : Shape := ⟨3, ![8, 1, 512]⟩
abbrev S8x144x512 : Shape := ⟨3, ![8, 144, 512]⟩
abbrev S4096x512 : Shape := ⟨2, ![4096, 512]⟩
abbrev S4096x128 : Shape := ⟨2, ![4096, 128]⟩
abbrev S512x128 : Shape := ⟨2, ![512, 128]⟩
abbrev S64x512 : Shape := ⟨2, ![64, 512]⟩
abbrev S8x8x512 : Shape := ⟨3, ![8, 8, 512]⟩
abbrev S8x512 : Shape := ⟨2, ![8, 512]⟩
abbrev S512 : Shape := ⟨1, ![512]⟩
abbrev S1x512 : Shape := ⟨2, ![1, 512]⟩
abbrev S1x1x512 : Shape := ⟨3, ![1, 1, 512]⟩
abbrev S128x4096 : Shape := ⟨2, ![128, 4096]⟩
abbrev S16x4096 : Shape := ⟨2, ![16, 4096]⟩
abbrev S144x4096 : Shape := ⟨2, ![144, 4096]⟩
abbrev S1x144x512 : Shape := ⟨3, ![1, 144, 512]⟩
abbrev S144x512 : Shape := ⟨2, ![144, 512]⟩
abbrev S128x512 : Shape := ⟨2, ![128, 512]⟩

abbrev nBuf : Space → Nat
  | .hbm => 4
  | .vmem => 14
  | .smem => 0
  | _ => 0

abbrev bufTy : (tb : Table) → Fin (tcTables nBuf tb) → BufTy
  | .hbm, ⟨0, _⟩ => ⟨S8192x4608, .bf16⟩
  | .hbm, ⟨1, _⟩ => ⟨S8192x256, .bf16⟩
  | .hbm, ⟨2, _⟩ => ⟨S256x8192, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x256, .bf16⟩
  | .local _ .vmem, ⟨3, _⟩ => ⟨S4096x256, .bf16⟩
  | .local _ .vmem, ⟨4, _⟩ => ⟨S256x4096, .bf16⟩
  | .local _ .vmem, ⟨5, _⟩ => ⟨S256x4096, .bf16⟩
  | .local _ .vmem, ⟨6, _⟩ => ⟨S512x1024, .bf16⟩
  | .local _ .vmem, ⟨7, _⟩ => ⟨S512x1024, .bf16⟩
  | .local _ .vmem, ⟨8, _⟩ => ⟨S8x1x512, .f32⟩
  | .local _ .vmem, ⟨9, _⟩ => ⟨S8x144x512, .f32⟩
  | .local _ .vmem, ⟨10, _⟩ => ⟨S4096x512, .f32⟩
  | .local _ .vmem, ⟨11, _⟩ => ⟨S4096x512, .f32⟩
  | .local _ .vmem, ⟨12, _⟩ => ⟨S4096x512, .bf16⟩
  | .local _ .vmem, ⟨13, _⟩ => ⟨S4096x512, .bf16⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def k0_cond2 (i : grid0.Coords) : BitVec 1 :=
  let arg1 : BitVec 32 := BitVec.ofNat 32 (i 1).val
  let c1_i32 : BitVec 32 := 1#32
  let v6379 : BitVec 1 := Scalar.cmpi .eq arg1 c1_i32
  let v6380 : BitVec 32 := Scalar.extui v6379
  let c0_i32_3721 : BitVec 32 := 0#32
  let v6381 : BitVec 1 := Scalar.cmpi .ne v6380 c0_i32_3721
  v6381

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg1.toNat, c16_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Kernel6Ideal.lean ====
variable {F : FTy → Type} [FloatOps F] [Named F]
def κ : String → Option EReal := fun
  | "log2e" => some (((Real.log 2)⁻¹ : ℝ) : EReal)
  | "mask" => some ⊥
  | "scale_log2e" => some (((11863283 / 134217728) * (Real.log 2)⁻¹ : ℝ) : EReal)
  | _ => none
-- ==== Proof.RunTables.lean ====
/- The body of the call that makes the three small tables, run once on whole staging buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

/-- The right operand of the bias product, as the body stores it. -/
def rhsTab : FVec F S65x64x128 .f32 := k0_pay1 (F := F) k0_pay7 k0_pay8 (Named.named κ "mask" 0xF149F2CA#32)
/-- The position bias in base two, as the body stores it. -/
def rowsTab (x : FVec F S8x15x31 .f32) : FVec F S8x15x31 .f32 := k0_pay2 x
/-- The columns' factors, as the body stores them. -/
def colTab : FVec F S1x4608 .f32 := k0_pay3 (F := F)

set_option maxHeartbeats 800000 in
/-- The body stores the three tables, each over its whole buffer, and hands the staged argument back. -/
theorem tables_run (c : Dev nD) (a0 : Memref sig .tc .vmem S8x15x31 .f32) (h0 : a0.IsWhole) (a1 : Memref sig .tc .vmem S65x64x128 .f32) (h1 : a1.IsWhole)
    (a2 : Memref sig .tc .vmem S8x15x31 .f32) (h2 : a2.IsWhole) (a3 : Memref sig .tc .vmem S1x4608 .f32) (h3 : a3.IsWhole)
    (x : Vec F S8x15x31 .f32) (E : Set ℕ) (K : PUnit → sProp 𝕄) :
    iprop(owns (c : Thread nD τ) a0 fullShare x ∗ (∃ d, owns (c : Thread nD τ) a1 fullShare d) ∗ (∃ d, owns (c : Thread nD τ) a2 fullShare d)
        ∗ (∃ d, owns (c : Thread nD τ) a3 fullShare d)
        ∗ (iprop(owns (c : Thread nD τ) a0 fullShare x ∗ owns (c : Thread nD τ) a1 fullShare (rhsTab (F := F)) ∗ owns (c : Thread nD τ) a2 fullShare (rowsTab x)
            ∗ owns (c : Thread nD τ) a3 fullShare (colTab (F := F))) -∗ K ⟨⟩))
      ⊢ wp frame (wpE (defs₀ (F := F)) Variants.none c none) E (cc0_na_tables a0 h0 a1 h1 a2 h2 a3 h3) K := by
  simp only [cc0_na_tables_eq_skeleton]; unfold cc0_na_tables_skel
  simp only [k0_part1_eq_skeleton]
  unfold owns
  iintro ⟨⟨%f0, %hf0, H0⟩, ⟨%d1, %f1, -, H1⟩, ⟨%d2, %f2, -, H2⟩, ⟨%d3, %f3, -, H3⟩, Hk⟩
  obtain rfl := h0.eq_unread hf0
  sl_exec
  sl_step
  iapply Hk
  isplitl [H0]
  · iexists _; isplitr; · ipureintro; exact h0.read_unread _
    iexact H0
  isplitl [H1]
  · iexists _; isplitr; swap; · iexact H1
    ipureintro; exact View.read_writes_full _ _ _ _ []
  isplitl [H2]
  · iexists _; isplitr; swap; · iexact H2
    ipureintro
    refine (View.read_writes_full _ _ _ _ []).trans (congrArg k0_pay2 ?_)
    exact (View.readAt_full _ _ _).trans (h0.read_unread x)
  iexists _; isplitr; swap; · iexact H3
  ipureintro; exact View.read_writes_full _ _ _ _ []

end Cert.Proof.NA

end
-- ==== Proof.RunAttn.lean ====
/- The body of the attention call, run once on whole staging buffers: what its stores leave in the output's buffer. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

set_option maxHeartbeats 1360000 in
/-- The stores of one step as pieces of the output's block, with the run that leaves them there and hands the eight staged inputs
    back as they were. -/
noncomputable def attnRun (c : Dev nD) (i : grid1.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S256x1024 .bf16) (h7 : a7.IsWhole) (a8 : Memref sig .tc .vmem S1x8x4x6x64x128 .f32) (h8 : a8.IsWhole) (a9 : Memref sig .tc .vmem S256x1024 .bf16) (h9 : a9.IsWhole)
    (x1 x2 x3 x4 x5 x6 x7 : Vec F S256x1024 .bf16) (x8 : Vec F S1x8x4x6x64x128 .f32) :
    { L : List (View.Piece (Elt F) S256x1024 .bf16) //
      ∀ (E : Set ℕ) (K : PUnit → sProp 𝕄),
        iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
            ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ f, a9.view.loc (c : Thread nD τ) ↦[a9.view.set]{fullShare} a9.view.writes (Elt F) f L)) -∗ K ⟨⟩))
          ⊢ wp frame (wpE (defs₀ (F := F)) Variants.none c none) E (cc1_na_attn i a1 h1 a2 h2 a3 h3 a4 h4 a5 h5 a6 h6 a7 h7 a8 h8 a9 h9) K } := by
  refine ⟨?_, fun E K => ?go⟩
  case go =>
    simp only [cc1_na_attn_eq_skeleton]; unfold cc1_na_attn_skel
    simp only [k1_part34_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; iexact H9

end Cert.Proof.NA

end
-- ==== Proof.AttnTile.lean ====
/- One step of the attention call as a function of the eight blocks it reads: eight heads, each a column band of the output block. -/
module

public import proofs.«01_k».proof.Proof.RunAttn

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

/-- Six bias tiles side by side: one query row of the grid against twelve key rows. -/
def tileRow (t : Fin 6 → Vec F S1x1x1x1x64x128 .f32) : FVec F S64x768 .f32 :=
  concatenate S64x768 1 [⟨S64x128, shapeCast S64x128 (t 0) shapeCasts_S1x1x1x1x64x128_S64x128⟩, ⟨S64x128, shapeCast S64x128 (t 1) shapeCasts_S1x1x1x1x64x128_S64x128⟩,
    ⟨S64x128, shapeCast S64x128 (t 2) shapeCasts_S1x1x1x1x64x128_S64x128⟩, ⟨S64x128, shapeCast S64x128 (t 3) shapeCasts_S1x1x1x1x64x128_S64x128⟩,
    ⟨S64x128, shapeCast S64x128 (t 4) shapeCasts_S1x1x1x1x64x128_S64x128⟩, ⟨S64x128, shapeCast S64x128 (t 5) shapeCasts_S1x1x1x1x64x128_S64x128⟩]
    concatenates_S64x128_S64x128_S64x128_S64x128_S64x128_S64x128_S64x768_d1
/-- The bias of one block of queries, four rows of tiles. -/
def tileBias (T : Fin 4 → Fin 6 → Vec F S1x1x1x1x64x128 .f32) : FVec F S256x768 .f32 :=
  concatenate S256x768 0 [⟨S64x768, tileRow (T 0)⟩, ⟨S64x768, tileRow (T 1)⟩, ⟨S64x768, tileRow (T 2)⟩, ⟨S64x768, tileRow (T 3)⟩]
    concatenates_S64x768_S64x768_S64x768_S64x768_S256x768_d0
/-- Three blocks of rows under each other. -/
def stack3 (a b c : Vec F S256x128 .bf16) : FVec F S768x128 .bf16 :=
  concatenate S768x128 0 [⟨S256x128, shapeCast S256x128 a shapeCasts_S256x128_S256x128⟩, ⟨S256x128, shapeCast S256x128 b shapeCasts_S256x128_S256x128⟩,
    ⟨S256x128, shapeCast S256x128 c shapeCasts_S256x128_S256x128⟩] concatenates_S256x128_S256x128_S256x128_S768x128_d0
/-- The scores of one head: the products of queries and keys, with the bias. -/
def headScore (q k0 k1 k2 : Vec F S256x128 .bf16) (T : Fin 4 → Fin 6 → Vec F S1x1x1x1x64x128 .f32) : FVec F S256x768 .f32 :=
  addf (matmul dot_S256x128_S768x128_S256x768_1_1_0_0_n_n none (shapeCast S256x128 q shapeCasts_S256x128_S256x128) (stack3 k0 k1 k2)
    (constant S256x768 .f32 0x00000000#32)) (tileBias T)
/-- The weights of one head before they are normalised. -/
def headWeight (s : FVec F S256x768 .f32) : FVec F S256x768 .f32 :=
  exp2 (subf s (broadcastTo S256x768 (shapeCast S256x1 (multiReduction .maximumf [1] S256 s 0xFF800000#32 reduces_S256x768_S256 (.inl rfl) rfl)
    shapeCasts_S256_S256x1) broadcasts_S256x1_S256x768))
/-- The values with a band of ones beside them. -/
def extV (v0 v1 v2 : Vec F S256x128 .bf16) : FVec F S768x256 .bf16 :=
  concatenate S768x256 1 [⟨S768x128, stack3 v0 v1 v2⟩, ⟨S768x128, broadcast S768x128 (Scalar.ofBits .bf16 0x3F80#16 : F .bf16)⟩]
    concatenates_S768x128_S768x128_S768x256_d1
/-- The weighted sums of one head, beside the sum of the weights. -/
def headSums (p : FVec F S256x768 .f32) (v : FVec F S768x256 .bf16) : FVec F S256x256 .f32 :=
  matmul dot_S256x768_S768x256_S256x256_1_0_0_1_n_n none (truncf .bf16 p bitsLt_bf16_f32) v (constant S256x256 .f32 0x00000000#32)
/-- The sums over the sum of the weights. -/
def headDiv (o : FVec F S256x256 .f32) : FVec F S256x128 .bf16 :=
  truncf .bf16 (divf (extractStridedSlice S256x128 ![0, 0] o slices_S256x256_o0_0_S256x128)
    (broadcastTo S256x128 (extractStridedSlice S256x1 ![0, 128] o slices_S256x256_o0_128_S256x1) broadcasts_S256x1_S256x128)) bitsLt_bf16_f32
/-- One head of one step. -/
def headOut (q k0 k1 k2 v0 v1 v2 : Vec F S256x128 .bf16) (T : Fin 4 → Fin 6 → Vec F S1x1x1x1x64x128 .f32) : FVec F S256x128 .bf16 :=
  headDiv (headSums (headWeight (headScore q k0 k1 k2 T)) (extV v0 v1 v2))

theorem band_inb (h : Fin 8) : ∀ a : Fin 2, (![0, 128 * h.val] : Fin 2 → ℕ) a + S256x128.size a ≤ S256x1024.size a := by
  intro a; have := h.isLt; fin_cases a <;> simp [Shape.size] <;> omega
theorem tile_inb (h : Fin 8) (r : Fin 4) (p : Fin 6) : ∀ a : Fin 6, (![0, h.val, r.val, p.val, 0, 0] : Fin 6 → ℕ) a + S1x1x1x1x64x128.size a ≤ S1x8x4x6x64x128.size a := by
  intro a; have := h.isLt; have := r.isLt; have := p.isLt; fin_cases a <;> simp [Shape.size] <;> omega
/-- Head `h`'s columns. -/
abbrev band (h : Fin 8) : Rect S256x1024 := Rect.unit (s := S256x1024) ![0, 128 * h.val] S256x128.size (band_inb h)
/-- One bias tile. -/
abbrev tileRect (h : Fin 8) (r : Fin 4) (p : Fin 6) : Rect S1x8x4x6x64x128 := Rect.unit (s := S1x8x4x6x64x128) ![0, h.val, r.val, p.val, 0, 0] S1x1x1x1x64x128.size (tile_inb h r p)
/-- Head `h` of one step, from the blocks. -/
def headVal (x1 x2 x3 x4 x5 x6 x7 : Vec F S256x1024 .bf16) (x8 : Vec F S1x8x4x6x64x128 .f32) (h : Fin 8) : FVec F S256x128 .bf16 :=
  headOut (View.ld x1 (band h)) (View.ld x2 (band h)) (View.ld x3 (band h)) (View.ld x4 (band h)) (View.ld x5 (band h)) (View.ld x6 (band h))
    (View.ld x7 (band h)) (fun r p => View.ld x8 (tileRect h r p))
/-- The stores of one step, the last first. -/
def attnPieces (x1 x2 x3 x4 x5 x6 x7 : Vec F S256x1024 .bf16) (x8 : Vec F S1x8x4x6x64x128 .f32) : List (View.Piece (Elt F) S256x1024 .bf16) :=
  [7, 6, 5, 4, 3, 2, 1, 0].map fun h : Fin 8 => ⟨band h, headVal x1 x2 x3 x4 x5 x6 x7 x8 h⟩

/-- The stores are these, whatever the buffers. -/
theorem attnRun_pieces  (c : Dev nD) (i : grid1.Coords) (a1 : Memref sig .tc .vmem S256x1024 .bf16) (h1 : a1.IsWhole) (a2 : Memref sig .tc .vmem S256x1024 .bf16) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S256x1024 .bf16) (h7 : a7.IsWhole) (a8 : Memref sig .tc .vmem S1x8x4x6x64x128 .f32) (h8 : a8.IsWhole) (a9 : Memref sig .tc .vmem S256x1024 .bf16) (h9 : a9.IsWhole)
    (x1 x2 x3 x4 x5 x6 x7 : Vec F S256x1024 .bf16) (x8 : Vec F S1x8x4x6x64x128 .f32) : (attnRun c i a1 h1 a2 h2 a3 h3 a4 h4 a5 h5 a6 h6 a7 h7 a8 h8 a9 h9 x1 x2 x3 x4 x5 x6 x7 x8).1 = attnPieces x1 x2 x3 x4 x5 x6 x7 x8 := by
  have key : ∀ h : Fin 8, headOut (a1.view.readAt (Elt F) (band h).toLoadRect (h1.unread x1)) (a2.view.readAt (Elt F) (band h).toLoadRect (h2.unread x2)) (a3.view.readAt (Elt F) (band h).toLoadRect (h3.unread x3)) (a4.view.readAt (Elt F) (band h).toLoadRect (h4.unread x4)) (a5.view.readAt (Elt F) (band h).toLoadRect (h5.unread x5)) (a6.view.readAt (Elt F) (band h).toLoadRect (h6.unread x6)) (a7.view.readAt (Elt F) (band h).toLoadRect (h7.unread x7)) (fun r p => (a8.view.readAt (Elt F) (tileRect h r p).toLoadRect (h8.unread x8))) = headVal x1 x2 x3 x4 x5 x6 x7 x8 h := by
    intro h
    simp only [View.readAt_eq_ld, Memref.IsWhole.read_unread]
    rfl
  unfold attnRun
  refine (rfl : _ = [7, 6, 5, 4, 3, 2, 1, 0].map fun h : Fin 8 => (⟨band h, headOut (a1.view.readAt (Elt F) (band h).toLoadRect (h1.unread x1)) (a2.view.readAt (Elt F) (band h).toLoadRect (h2.unread x2)) (a3.view.readAt (Elt F) (band h).toLoadRect (h3.unread x3)) (a4.view.readAt (Elt F) (band h).toLoadRect (h4.unread x4)) (a5.view.readAt (Elt F) (band h).toLoadRect (h5.unread x5)) (a6.view.readAt (Elt F) (band h).toLoadRect (h6.unread x6)) (a7.view.readAt (Elt F) (band h).toLoadRect (h7.unread x7)) (fun r p => (a8.view.readAt (Elt F) (tileRect h r p).toLoadRect (h8.unread x8)))⟩ : View.Piece (Elt F) S256x1024 .bf16)).trans ?_
  simp only [key]
  rfl

end Cert.Proof.NA

end
-- ==== Proof.Dats.lean ====
/- The proof data of the two calls and what each body is owed: every staged block is its array's block, every result's buffer ends at the closed form. -/
module

public import proofs.«01_k».proof.Proof.RunTables
public import proofs.«01_k».proof.Proof.AttnTile

@[expose] public section

set_option maxRecDepth 100000

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

/-- Every buffer of every core. -/
abbrev Val := (c : Dev nD) → (b : Ref sig .tc) → Buf (Elt F) ((c : Thread nD τ).loc b)

variable (V : Val (F := F))

/-! ## A staged block that no transfer cuts -/

section Blocks

variable {cfg : Cfg sig Λ₀} {c : Dev nD}

/-- Window `w`'s block at point `t` of an array's contents, as a whole block. -/
def blkOf (w : Fin cfg.W) (A : Buf (Elt F) (((cfg.win w).arr.view.loc (c : Thread nD τ)))) (t : Fin cfg.N) : (cfg.win w).block.Idx → Elt F (cfg.win w).elt :=
  (cfg.win w).fill (cfg.grid.coords t) (fun _ => Classical.choice inferInstance) (((cfg.win w).blk t).view.read (Elt F) A)

/-- An input whose transfers are never cut and whose block the body leaves alone holds that block at every point. -/
theorem before_blk (dat : Dat τ (Elt F) Unit ℕ (UR sig nD τ) ℕ cfg c) (w : Fin cfg.W) (hin : (cfg.win w).isOut = false) (hidle : ∀ i, cfg.idle w i = false)
    (hx : ∀ t : Fin cfg.N, ∀ a, (cfg.win w).xsize (cfg.grid.coords t) a = (cfg.win w).size a)
    (hclip : ∀ t t' : Fin cfg.N, (cfg.win w).index t = (cfg.win w).index t' → (cfg.win w).clip (cfg.grid.coords t) = (cfg.win w).clip (cfg.grid.coords t'))
    (A : Buf (Elt F) (((cfg.win w).arr.view.loc (c : Thread nD τ)))) (hA : dat.A w = A)
    (hafter : ∀ t, dat.after w t = blkOf w A t) (t : Fin cfg.N) (d) : dat.before w t d = blkOf w A t := by
  subst hA
  rw [dat.before_in_eq_fetched w hin hidle hclip (fun t => by rw [hafter, blkOf, Pipeline.Window.cut_fill]; rfl) t d]
  unfold Dat.fetched blkOf Dat.blockOf
  funext j
  have hm : (cfg.win w).moved (cfg.grid.coords t) j = true := ((cfg.win w).moved_iff _ j).mpr fun a => by rw [hx t a]; exact (j a).isLt
  unfold Pipeline.Window.fill
  rw [dif_pos hm, dif_pos hm]

end Blocks

/-! ## The tables' call -/

/-- The tables' call from the contents `V`: the three results at the tables, the position bias as it was. -/
def dat0 (c : Dev nD) : Dat τ (Elt F) Unit ℕ (UR sig nD τ) ℕ cfg0 c where
  A w := V c (Pipeline.arrRef spec0 w)
  after w t := match w with
    | ⟨0, _⟩ => blkOf (cfg := cfg0) (c := c) 0 (V c main_arg1) t
    | ⟨1, _⟩ => rhsTab (F := F)
    | ⟨2, _⟩ => rowsTab (blkOf (cfg := cfg0) (c := c) 0 (V c main_arg1) t)
    | ⟨3, _⟩ => colTab (F := F)
  Φ _ := Pipeline.scopedRest (Ix := Unit) (Name := ℕ) (U := UR sig nD τ) (Lvl := ℕ) (Val := Elt F) spec0 c
  q _ := fullShare
  owed _ := 0

theorem before0 (c : Dev nD) (t : Fin cfg0.N) (d) : (dat0 V c).before 0 t d = blkOf (cfg := cfg0) (c := c) 0 (V c main_arg1) t :=
  before_blk (cfg := cfg0) (dat0 V c) 0 rfl (fun _ => rfl) (by decide +kernel) (fun _ _ _ => rfl) (V c main_arg1) rfl (fun _ => rfl) t d

/-- The definitions' row for the tables' body is its call at the point, -/
theorem row0 (t : Fin cfg0.N) : defs₀ (F := F) .tc cfg0.body (cfg0.bodyArgs t (cfg0.slots t)) = bodyAt0 t := by
  unfold defs₀; rw [Defs.onTc_tc]
/-- and the attention body's likewise. -/
theorem row1 (t : Fin cfg1.N) : defs₀ (F := F) .tc cfg1.body (cfg1.bodyArgs t (cfg1.slots t)) = bodyAt1 t := by
  unfold defs₀; rw [Defs.onTc_tc]

theorem body0 (c : Dev nD) : BodyObligation (dat0 (F := F) V c) (defs₀ (F := F)) Variants.none () Set.univ := fun t => by
  rw [bigSep_W0, bigSep_W0, row0]
  show iprop((dat0 V c).Φ t.castSucc ∗ (dat0 V c).owesAt () t.castSucc
    ∗ (∃ d, owns (c : Thread nD τ) (st0_0 t) fullShare ((dat0 V c).before 0 t d)) ∗ (∃ d, owns (c : Thread nD τ) (st0_1 t) fullShare ((dat0 V c).before 1 t d))
    ∗ (∃ d, owns (c : Thread nD τ) (st0_2 t) fullShare ((dat0 V c).before 2 t d)) ∗ (∃ d, owns (c : Thread nD τ) (st0_3 t) fullShare ((dat0 V c).before 3 t d)))
    ⊢ wp frame (wpE (defs₀ (F := F)) Variants.none c none) Set.univ (bodyAt0 t) fun _ => iprop((dat0 V c).Φ t.succ ∗ (dat0 V c).owesAt () t.succ
    ∗ owns (c : Thread nD τ) (st0_0 t) fullShare ((dat0 V c).after 0 t) ∗ owns (c : Thread nD τ) (st0_1 t) fullShare ((dat0 V c).after 1 t)
    ∗ owns (c : Thread nD τ) (st0_2 t) fullShare ((dat0 V c).after 2 t) ∗ owns (c : Thread nD τ) (st0_3 t) fullShare ((dat0 V c).after 3 t))
  rw [show (dat0 V c).Φ t.succ = (dat0 V c).Φ t.castSucc from rfl, show (dat0 V c).owesAt () t.succ = (dat0 V c).owesAt () t.castSucc from rfl]
  simp only [before0]
  iintro ⟨HΦ, Ho, ⟨%d0, H0⟩, ⟨%d1, H1⟩, ⟨%d2, H2⟩, ⟨%d3, H3⟩⟩
  iapply (tables_run c _ _ _ _ _ _ _ _ (blkOf (cfg := cfg0) (c := c) 0 (V c main_arg1) t) Set.univ _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The attention call -/

/-- What the attention call finds in input window `w`'s buffer at point `t`. -/
abbrev inBlk (c : Dev nD) (w : Fin cfg1.W) (t : Fin cfg1.N) := blkOf (cfg := cfg1) (c := c) w (V c (Pipeline.arrRef spec1 w)) t

/-- The block one step leaves, of the blocks it reads. -/
def tileOf (x1 x2 x3 x4 x5 x6 x7 : Vec F S256x1024 .bf16) (x8 : Vec F S1x8x4x6x64x128 .f32) : Vec F S256x1024 .bf16 :=
  View.canon (attnPieces x1 x2 x3 x4 x5 x6 x7 x8)

theorem attnPieces_cover (x1 x2 x3 x4 x5 x6 x7 : Vec F S256x1024 .bf16) (x8 : Vec F S1x8x4x6x64x128 .f32) (y : S256x1024.Idx) :
    ∃ p ∈ attnPieces x1 x2 x3 x4 x5 x6 x7 x8, y ∈ p.1.set :=
  View.cover_of_tiledL (attnPieces x1 x2 x3 x4 x5 x6 x7 x8) S256x128.size (by sl_kernel_rfl) y

/-- What the attention call leaves in its result's buffer at point `t`. -/
def outTile (c : Dev nD) (t : Fin cfg1.N) : Vec F S256x1024 .bf16 :=
  tileOf (inBlk V c 0 t) (inBlk V c 1 t) (inBlk V c 2 t) (inBlk V c 3 t) (inBlk V c 4 t) (inBlk V c 5 t) (inBlk V c 6 t) (inBlk V c 7 t)

/-- The attention call from the contents `V`: the inputs as they were, each holding its share of the array several of them stage, and the result at
    `outTile`. -/
def dat1 (c : Dev nD) : Dat τ (Elt F) Unit ℕ (UR sig nD τ) ℕ cfg1 c where
  A w := V c (Pipeline.arrRef spec1 w)
  after w t := match w with
    | ⟨0, _⟩ => inBlk V c 0 t
    | ⟨1, _⟩ => inBlk V c 1 t
    | ⟨2, _⟩ => inBlk V c 2 t
    | ⟨3, _⟩ => inBlk V c 3 t
    | ⟨4, _⟩ => inBlk V c 4 t
    | ⟨5, _⟩ => inBlk V c 5 t
    | ⟨6, _⟩ => inBlk V c 6 t
    | ⟨7, _⟩ => inBlk V c 7 t
    | ⟨8, _⟩ => outTile V c t
  Φ _ := Pipeline.scopedRest (Ix := Unit) (Name := ℕ) (U := UR sig nD τ) (Lvl := ℕ) (Val := Elt F) spec1 c
  q w := Pipeline.shareOf spec1 w
  owed _ := 0

theorem xs1_0 : ∀ t : Fin cfg1.N, ∀ a, (cfg1.win 0).xsize (cfg1.grid.coords t) a = (cfg1.win 0).size a := by decide +kernel
theorem cl1_0 (t t' : Fin cfg1.N) (h : (cfg1.win 0).index t = (cfg1.win 0).index t') : (cfg1.win 0).clip (cfg1.grid.coords t) = (cfg1.win 0).clip (cfg1.grid.coords t') :=
  funext fun a => congrArg (fun n => Pipeline.Clip.of n ((cfg1.win 0).size a) (S8192x4608.size a)) (congrFun h a)
theorem before1_0 (c : Dev nD) (t : Fin cfg1.N) (d) : (dat1 V c).before 0 t d = inBlk V c 0 t :=
  before_blk (cfg := cfg1) (dat1 V c) 0 rfl (fun _ => rfl) xs1_0 cl1_0 (V c (Pipeline.arrRef spec1 0)) (by dsimp only [dat1]) (fun t => by dsimp only [dat1]) t d
theorem xs1_1 : ∀ t : Fin cfg1.N, ∀ a, (cfg1.win 1).xsize (cfg1.grid.coords t) a = (cfg1.win 1).size a := by decide +kernel
theorem cl1_1 (t t' : Fin cfg1.N) (h : (cfg1.win 1).index t = (cfg1.win 1).index t') : (cfg1.win 1).clip (cfg1.grid.coords t) = (cfg1.win 1).clip (cfg1.grid.coords t') :=
  funext fun a => congrArg (fun n => Pipeline.Clip.of n ((cfg1.win 1).size a) (S8192x4608.size a)) (congrFun h a)
theorem before1_1 (c : Dev nD) (t : Fin cfg1.N) (d) : (dat1 V c).before 1 t d = inBlk V c 1 t :=
  before_blk (cfg := cfg1) (dat1 V c) 1 rfl (fun _ => rfl) xs1_1 cl1_1 (V c (Pipeline.arrRef spec1 1)) (by dsimp only [dat1]) (fun t => by dsimp only [dat1]) t d
theorem xs1_2 : ∀ t : Fin cfg1.N, ∀ a, (cfg1.win 2).xsize (cfg1.grid.coords t) a = (cfg1.win 2).size a := by decide +kernel
theorem cl1_2 (t t' : Fin cfg1.N) (h : (cfg1.win 2).index t = (cfg1.win 2).index t') : (cfg1.win 2).clip (cfg1.grid.coords t) = (cfg1.win 2).clip (cfg1.grid.coords t') :=
  funext fun a => congrArg (fun n => Pipeline.Clip.of n ((cfg1.win 2).size a) (S8192x4608.size a)) (congrFun h a)
theorem before1_2 (c : Dev nD) (t : Fin cfg1.N) (d) : (dat1 V c).before 2 t d = inBlk V c 2 t :=
  before_blk (cfg := cfg1) (dat1 V c) 2 rfl (fun _ => rfl) xs1_2 cl1_2 (V c (Pipeline.arrRef spec1 2)) (by dsimp only [dat1]) (fun t => by dsimp only [dat1]) t d
theorem xs1_3 : ∀ t : Fin cfg1.N, ∀ a, (cfg1.win 3).xsize (cfg1.grid.coords t) a = (cfg1.win 3).size a := by decide +kernel
theorem cl1_3 (t t' : Fin cfg1.N) (h : (cfg1.win 3).index t = (cfg1.win 3).index t') : (cfg1.win 3).clip (cfg1.grid.coords t) = (cfg1.win 3).clip (cfg1.grid.coords t') :=
  funext fun a => congrArg (fun n => Pipeline.Clip.of n ((cfg1.win 3).size a) (S8192x4608.size a)) (congrFun h a)
theorem before1_3 (c : Dev nD) (t : Fin cfg1.N) (d) : (dat1 V c).before 3 t d = inBlk V c 3 t :=
  before_blk (cfg := cfg1) (dat1 V c) 3 rfl (fun _ => rfl) xs1_3 cl1_3 (V c (Pipeline.arrRef spec1 3)) (by dsimp only [dat1]) (fun t => by dsimp only [dat1]) t d
theorem xs1_4 : ∀ t : Fin cfg1.N, ∀ a, (cfg1.win 4).xsize (cfg1.grid.coords t) a = (cfg1.win 4).size a := by decide +kernel
theorem cl1_4 (t t' : Fin cfg1.N) (h : (cfg1.win 4).index t = (cfg1.win 4).index t') : (cfg1.win 4).clip (cfg1.grid.coords t) = (cfg1.win 4).clip (cfg1.grid.coords t') :=
  funext fun a => congrArg (fun n => Pipeline.Clip.of n ((cfg1.win 4).size a) (S8192x4608.size a)) (congrFun h a)
theorem before1_4 (c : Dev nD) (t : Fin cfg1.N) (d) : (dat1 V c).before 4 t d = inBlk V c 4 t :=
  before_blk (cfg := cfg1) (dat1 V c) 4 rfl (fun _ => rfl) xs1_4 cl1_4 (V c (Pipeline.arrRef spec1 4)) (by dsimp only [dat1]) (fun t => by dsimp only [dat1]) t d
theorem xs1_5 : ∀ t : Fin cfg1.N, ∀ a, (cfg1.win 5).xsize (cfg1.grid.coords t) a = (cfg1.win 5).size a := by decide +kernel
theorem cl1_5 (t t' : Fin cfg1.N) (h : (cfg1.win 5).index t = (cfg1.win 5).index t') : (cfg1.win 5).clip (cfg1.grid.coords t) = (cfg1.win 5).clip (cfg1.grid.coords t') :=
  funext fun a => congrArg (fun n => Pipeline.Clip.of n ((cfg1.win 5).size a) (S8192x4608.size a)) (congrFun h a)
theorem before1_5 (c : Dev nD) (t : Fin cfg1.N) (d) : (dat1 V c).before 5 t d = inBlk V c 5 t :=
  before_blk (cfg := cfg1) (dat1 V c) 5 rfl (fun _ => rfl) xs1_5 cl1_5 (V c (Pipeline.arrRef spec1 5)) (by dsimp only [dat1]) (fun t => by dsimp only [dat1]) t d
theorem xs1_6 : ∀ t : Fin cfg1.N, ∀ a, (cfg1.win 6).xsize (cfg1.grid.coords t) a = (cfg1.win 6).size a := by decide +kernel
theorem cl1_6 (t t' : Fin cfg1.N) (h : (cfg1.win 6).index t = (cfg1.win 6).index t') : (cfg1.win 6).clip (cfg1.grid.coords t) = (cfg1.win 6).clip (cfg1.grid.coords t') :=
  funext fun a => congrArg (fun n => Pipeline.Clip.of n ((cfg1.win 6).size a) (S8192x4608.size a)) (congrFun h a)
theorem before1_6 (c : Dev nD) (t : Fin cfg1.N) (d) : (dat1 V c).before 6 t d = inBlk V c 6 t :=
  before_blk (cfg := cfg1) (dat1 V c) 6 rfl (fun _ => rfl) xs1_6 cl1_6 (V c (Pipeline.arrRef spec1 6)) (by dsimp only [dat1]) (fun t => by dsimp only [dat1]) t d
theorem before1_7 (c : Dev nD) (t : Fin cfg1.N) (d) : (dat1 V c).before 7 t d = inBlk V c 7 t :=
  before_blk (cfg := cfg1) (dat1 V c) 7 rfl (fun _ => rfl) (fun _ _ => rfl) (fun _ _ _ => rfl) (V c (Pipeline.arrRef spec1 7)) (by dsimp only [dat1]) (fun t => by dsimp only [dat1]) t d

/-- What one step is called with, -/
def stepPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))
/-- and what it hands back. -/
def stepPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

theorem after1_0 (c : Dev nD) (t : Fin cfg1.N) : (dat1 V c).after 0 t = inBlk V c 0 t := by dsimp only [dat1]
theorem after1_1 (c : Dev nD) (t : Fin cfg1.N) : (dat1 V c).after 1 t = inBlk V c 1 t := by dsimp only [dat1]
theorem after1_2 (c : Dev nD) (t : Fin cfg1.N) : (dat1 V c).after 2 t = inBlk V c 2 t := by dsimp only [dat1]
theorem after1_3 (c : Dev nD) (t : Fin cfg1.N) : (dat1 V c).after 3 t = inBlk V c 3 t := by dsimp only [dat1]
theorem after1_4 (c : Dev nD) (t : Fin cfg1.N) : (dat1 V c).after 4 t = inBlk V c 4 t := by dsimp only [dat1]
theorem after1_5 (c : Dev nD) (t : Fin cfg1.N) : (dat1 V c).after 5 t = inBlk V c 5 t := by dsimp only [dat1]
theorem after1_6 (c : Dev nD) (t : Fin cfg1.N) : (dat1 V c).after 6 t = inBlk V c 6 t := by dsimp only [dat1]
theorem after1_7 (c : Dev nD) (t : Fin cfg1.N) : (dat1 V c).after 7 t = inBlk V c 7 t := by dsimp only [dat1]
theorem after1_8 (c : Dev nD) (t : Fin cfg1.N) : (dat1 V c).after 8 t = outTile V c t := by dsimp only [dat1]

set_option maxHeartbeats 800000 in
theorem step (c : Dev nD) (t : Fin cfg1.N) :
    stepPre V c t ⊢ wp frame (wpE (defs₀ (F := F)) Variants.none c none) Set.univ (bodyAt1 t) (fun _ => stepPost V c t) := by
  unfold stepPre stepPost bodyAt1
  simp only [before1_0, before1_1, before1_2, before1_3, before1_4, before1_5, before1_6, before1_7]
  rw [show (dat1 V c).Φ t.succ = (dat1 V c).Φ t.castSucc from rfl, show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((attnRun c (grid1.coords t) _ _ _ _ _ _ _ _ _ _ _ _ _ _ _ _ _ _ (inBlk V c 0 t) (inBlk V c 1 t) (inBlk V c 2 t) (inBlk V c 3 t) (inBlk V c 4 t) (inBlk V c 5 t) (inBlk V c 6 t) (inBlk V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%f8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns
  iexists _; isplitr; swap; · iexact H8
  ipureintro
  rw [attnRun_pieces]
  exact View.read_writes_eq_canon _ _ _ (attnPieces_cover _ _ _ _ _ _ _ _)

theorem body1 (c : Dev nD) : BodyObligation (dat1 (F := F) V c) (defs₀ (F := F)) Variants.none () Set.univ := fun t => by
  rw [bigSep_W1, bigSep_W1, row1]
  exact triple_restated (step V c t) rfl .rfl fun _ => .rfl

end Cert.Proof.NA

end
-- ==== Proof.Regs.lean ====
/- The two calls as segments of the program, between the host's stretches, and the whole run: the arguments end as launched and the result at what
   the attention call leaves. -/
module

public import proofs.«01_k».proof.Proof.Dats
public import proofs.«01_k».proof.Proof.Gen.KernelIdeal.Regions

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

/-- Nothing is owed between threads, so no level is assigned. -/
abbrev Lz : GSem nD τ sig → Finset Unit := fun _ => ∅
abbrev lz : GSem nD τ sig → Unit → ℕ := fun _ _ => 0

/-- The generator's register at some state, and nothing owed: what rides beside the buffers. -/
abbrev Ride (c : Dev nD) : sProp 𝕄 := iprop((∃ r, prngReg c r) ∗ ∃ W, owes (c : Thread nD τ) (0 : CellTallies nD τ sig Unit) W)

variable (m : (ℓ : Loc nD τ sig) → Buf (Elt F) ℓ) (ρ : Dev nD → PrngReg)

/-! ## What the calls leave -/

/-- The contents the tables' call starts from. -/
abbrev VA : Val (F := F) := fun c b => V1 m c b
/-- What each buffer holds after the tables' call. -/
def W2 (c : Dev nD) : Valuation τ sig (Elt F) :=
  Function.update (Function.update (Function.update (V1 m c) main_v0_0 ((dat0 (VA m) c).arrAt 1 cfg0.N)) main_v0_1 ((dat0 (VA m) c).arrAt 2 cfg0.N))
    main_v0_2 ((dat0 (VA m) c).arrAt 3 cfg0.N)
/-- The tables' call's share of the unknowns. -/
def outsA : Outs (F := F) := fun _ r c => W2 m c r
/-- The contents the attention call starts from. -/
abbrev VB : Val (F := F) := fun c b => V5 m (outsA m) c b
/-- What the attention call leaves in its result. -/
def resArr (c : Dev nD) : Buf (Elt F) ((c : Thread nD τ).loc main_v17) := (dat1 (VB m) c).arrAt 8 cfg1.N
/-- What each buffer holds at the end. -/
def W6 (c : Dev nD) : Valuation τ sig (Elt F) := Function.update (V5 m (outsA m) c) main_v17 (resArr m c)
/-- What the two calls leave. -/
def outsAB : Outs (F := F) := fun J r c => match J with
  | 6 => W6 m c r
  | _ => W2 m c r

theorem V2_eq (c : Dev nD) : V2 m (outsAB m) c = W2 m c := by
  have e0 : outsAB m 2 main_v0_0 c = (dat0 (VA m) c).arrAt 1 cfg0.N := by
    show W2 m c main_v0_0 = _
    unfold W2
    rw [Function.update_of_ne (StableHlo.devRef_ne_of_ne (by decide)), Function.update_of_ne (StableHlo.devRef_ne_of_ne (by decide)), Function.update_self]
  have e1 : outsAB m 2 main_v0_1 c = (dat0 (VA m) c).arrAt 2 cfg0.N := by
    show W2 m c main_v0_1 = _
    unfold W2
    rw [Function.update_of_ne (StableHlo.devRef_ne_of_ne (by decide)), Function.update_self]
  have e2 : outsAB m 2 main_v0_2 c = (dat0 (VA m) c).arrAt 3 cfg0.N := by
    show W2 m c main_v0_2 = _
    unfold W2
    rw [Function.update_self]
  unfold V2 W2
  rw [e0, e1, e2]

theorem V5_eq (c : Dev nD) : V5 m (outsAB m) c = V5 m (outsA m) c := rfl

theorem V6_eq (c : Dev nD) : V6 m (outsAB m) c = W6 m c := by
  have e : outsAB m 6 main_v17 c = resArr m c := by
    show W6 m c main_v17 = _
    unfold W6; rw [Function.update_self]
  unfold V6; rw [e]; rfl

/-- The proof data of the two calls. -/
def pd : (p : Fin 2) → (c : Dev nD) → Dat τ (Elt F) Unit ℕ (UR sig nD τ) ℕ (cfgs p) c
  | ⟨0, _⟩ => fun c => dat0 (VA m) c
  | ⟨1, _⟩ => fun c => dat1 (VB m) c

theorem in_ne : ∀ w : Fin 9, (spec1 w).isOut = false → Pipeline.arrRef spec1 w ≠ main_v17 := by decide
theorem out_eq : ∀ w : Fin 9, ¬ (spec1 w).isOut = false → w = 8 := by decide

/-! ## The segments -/

set_option backward.isDefEq.respectTransparency.types false in
/-- The tables' call: entered at `V1`, left at `W2`. -/
def R0 : Pipeline.RegionSeg (pcfgs (F := F)) adm (pd m) () defs₀ Variants.none Lz lz 0 where
  win := launch0.win.to₀
  block_pos := launch0.block_pos
  stage_whole := launch0.stage_whole
  K := PEmpty
  osem k := k.elim
  ho := Pipeline.OwnSemFacts.none _
  hbody c := (body0 (VA m) c).loose
  hwaits := Pipeline.hwaits_of_owed_zero _ _ _ _ Lz lz 0 fun _ _ => rfl
  pre c := iprop(unscopedBufs c (fun b => V1 m c b) ∗ Ride (F := F) c)
  post c := iprop(unscopedBufs c (fun b => W2 m c b) ∗ Ride (F := F) c)
  X _ := BI.emp
  Y _ := BI.emp
  Z c := iprop(Pipeline.unscopedRest (Ix := Unit) (Name := ℕ) (U := UR sig nD τ) (Lvl := ℕ) spec0 c (fun b => V1 m c b) ∗ ∃ r, prngReg c r)
  hentry c := by
    rw [Pipeline.ownSems0_none]
    have hsplit := Pipeline.arrays_of_unscopedBufs (p := 0) (pcfgs (F := F)) adm (pd m) launch0.win launch0.arr_whole c
      ((pd m 0 c).share_full fun _ => rfl) (fun b => V1 m c b) fun _ => rfl
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    show _ ⊢ Pipeline.scopedRest (Ix := Unit) (Name := ℕ) (U := UR sig nD τ) (Lvl := ℕ) (Val := Elt F) spec0 c
    iintro ⟨-, -, Hr⟩; iexact Hr
  hout c := by
    rw [Pipeline.ownSems0_none]
    show Pipeline.scopedRest (Ix := Unit) (Name := ℕ) (U := UR sig nD τ) (Lvl := ℕ) (Val := Elt F) spec0 c ⊢ _
    iintro Hr
    isplitr; · iempintro
    isplitr; · iempintro
    iexact Hr
  hexit c := by
    have hjoin := Pipeline.unscopedBufs_of_arrays (p := 0) (pcfgs (F := F)) adm (Ix := Unit) (Name := ℕ) (U := UR sig nD τ) (Lvl := ℕ) launch0.win launch0.arr_whole c
      (pd m) ((pd m 0 c).share_full fun _ => rfl) (fun b => V1 m c b) (fun b => W2 m c b) ((pd m 0 c).arrAt · cfg0.N)
      (fun w => by
        fin_cases w
        · refine ((pd m 0 c).arrAt_in 0 rfl _).trans ?_
          show V1 m c main_arg1 = W2 m c main_arg1
          unfold W2
          rw [Function.update_of_ne (StableHlo.devRef_ne_of_ne (by decide)), Function.update_of_ne (StableHlo.devRef_ne_of_ne (by decide)),
            Function.update_of_ne (StableHlo.devRef_ne_of_ne (by decide))]
        · show _ = W2 m c main_v0_0
          unfold W2
          rw [Function.update_of_ne (StableHlo.devRef_ne_of_ne (by decide)), Function.update_of_ne (StableHlo.devRef_ne_of_ne (by decide)), Function.update_self]
          rfl
        · show _ = W2 m c main_v0_1
          unfold W2
          rw [Function.update_of_ne (StableHlo.devRef_ne_of_ne (by decide)), Function.update_self]
          rfl
        · show _ = W2 m c main_v0_2
          unfold W2
          rw [Function.update_self]
          rfl)
      (fun b hb => by
        have h1 : b ≠ main_v0_0 := fun h => hb (h ▸ Finset.mem_image.mpr ⟨1, Finset.mem_univ _, rfl⟩)
        have h2 : b ≠ main_v0_1 := fun h => hb (h ▸ Finset.mem_image.mpr ⟨2, Finset.mem_univ _, rfl⟩)
        have h3 : b ≠ main_v0_2 := fun h => hb (h ▸ Finset.mem_image.mpr ⟨3, Finset.mem_univ _, rfl⟩)
        show W2 m c b = V1 m c b
        unfold W2
        rw [Function.update_of_ne (StableHlo.devRef_ne_of_ne h3), Function.update_of_ne (StableHlo.devRef_ne_of_ne h2), Function.update_of_ne (StableHlo.devRef_ne_of_ne h1)])
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

set_option backward.isDefEq.respectTransparency.types false in
/-- The attention call: entered at `V5`, left at `W6`, its seven windows on the projected activations dealt shares of the one array. -/
def R1 : Pipeline.RegionSeg (pcfgs (F := F)) adm (pd m) () defs₀ Variants.none Lz lz 1 where
  win := launch₀1.win
  block_pos := launch₀1.block_pos
  stage_whole := launch₀1.stage_whole
  K := PEmpty
  osem k := k.elim
  ho := Pipeline.OwnSemFacts.none _
  hbody c := (body1 (VB m) c).loose
  hwaits := Pipeline.hwaits_of_owed_zero _ _ _ _ Lz lz 1 fun _ _ => rfl
  pre c := iprop(unscopedBufs c (fun b => V5 m (outsA m) c b) ∗ Ride (F := F) c)
  post c := iprop(unscopedBufs c (fun b => W6 m c b) ∗ Ride (F := F) c)
  X _ := BI.emp
  Y _ := BI.emp
  Z c := iprop(Pipeline.unscopedRest (Ix := Unit) (Name := ℕ) (U := UR sig nD τ) (Lvl := ℕ) spec1 c (fun b => V5 m (outsA m) c b) ∗ ∃ r, prngReg c r)
  hentry c := by
    rw [Pipeline.ownSems0_none]
    have hsplit := Pipeline.arrays_of_unscopedBufs_shared (p := 1) (pcfgs (F := F)) adm (pd m) launch₀1.win launch₀1.sharedIn launch₀1.arr_whole c
      (fun _ _ => rfl) (fun b => V5 m (outsA m) c b) fun w => (by dsimp only [pd, dat1]; rfl)
    iintro ⟨⟨Hub, Hr, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    show _ ⊢ Pipeline.scopedRest (Ix := Unit) (Name := ℕ) (U := UR sig nD τ) (Lvl := ℕ) (Val := Elt F) spec1 c
    iintro ⟨-, -, Hr⟩; iexact Hr
  hout c := by
    rw [Pipeline.ownSems0_none]
    show Pipeline.scopedRest (Ix := Unit) (Name := ℕ) (U := UR sig nD τ) (Lvl := ℕ) (Val := Elt F) spec1 c ⊢ _
    iintro Hr
    isplitr; · iempintro
    isplitr; · iempintro
    iexact Hr
  hexit c := by
    have hkeep : ∀ b : Ref sig .tc, b ≠ main_v17 → W6 m c b = V5 m (outsA m) c b := fun b h => by
      unfold W6; rw [Function.update_of_ne (StableHlo.devRef_ne_of_ne h)]
    have hjoin := Pipeline.unscopedBufs_of_arrays_shared (p := 1) (pcfgs (F := F)) adm (Ix := Unit) (Name := ℕ) (U := UR sig nD τ) (Lvl := ℕ) launch₀1.win
      launch₀1.sharedIn launch₀1.arr_whole c (pd m) (fun _ _ => rfl) (fun b => V5 m (outsA m) c b) (fun b => W6 m c b) ((pd m 1 c).arrAt · cfg1.N)
      (fun w => by
        by_cases hw : (cfg1.win w).isOut = false
        · refine ((pd m 1 c).arrAt_in w hw _).trans ?_
          refine (show (pd m 1 c).A w = V5 m (outsA m) c (Pipeline.arrRef spec1 w) by dsimp only [pd, dat1]).trans (hkeep _ ?_).symm
          exact in_ne w hw
        · obtain rfl := out_eq w hw
          show _ = W6 m c main_v17
          unfold W6
          rw [Function.update_self]
          rfl)
      (fun b hb => hkeep b fun h => hb (h ▸ Finset.mem_image.mpr ⟨8, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.NA

end
-- ==== Proof.Whole.lean ====
/- The whole program: the two calls between the host's stretches. -/
module

public import proofs.«01_k».proof.Proof.Regs
public import Idealize.ShloMosaic.Lib.Pipeline.Frame

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The one resource algebra of both regions. -/
local notation "𝕄" => MT nD τ sig Unit (Elt F) ℕ (UR sig nD τ) ℕ

variable (m : (ℓ : Loc nD τ sig) → Buf (Elt F) ℓ) (ρ : Dev nD → PrngReg)

/-- What rides beside the buffers at each of the three places a call or the end meets. -/
abbrev Rd : Fin 3 → Dev nD → sProp 𝕄 := fun _ c => Ride (F := F) c

theorem pre0 (c : Dev nD) : iprop(StableHlo.held (c : Thread nD τ) (Pipeline.ucRefs τ sig) (V1 m c) ∗ Rd (F := F) 0 c) ⊢ (R0 m).pre c := by
  dsimp only [R0]
  rw [Pipeline.unscopedBufs_held]
theorem post0 (c : Dev nD) : (R0 m).post c ⊢ iprop(StableHlo.held (c : Thread nD τ) (Pipeline.ucRefs τ sig) (V2 m (outsAB m) c) ∗ Rd (F := F) 1 c) := by
  dsimp only [R0]
  rw [Pipeline.unscopedBufs_held, V2_eq]
theorem pre1 (c : Dev nD) : iprop(StableHlo.held (c : Thread nD τ) (Pipeline.ucRefs τ sig) (V5 m (outsAB m) c) ∗ Rd (F := F) 1 c) ⊢ (R1 m).pre c := by
  dsimp only [R1]
  rw [Pipeline.unscopedBufs_held, V5_eq]
theorem leave (c : Dev nD) : (R1 m).post c
    ⊢ (iprop((StableHlo.held (c : Thread nD τ) (Pipeline.ucRefs τ sig) (V6 m (outsAB m) c) ∗ ∃ r, prngReg c r)
      ∗ ∃ W, owes (c : Thread nD τ) (0 : CellTallies nD τ sig Unit) W) : sProp 𝕄) := by
  dsimp only [R1]
  rw [Pipeline.unscopedBufs_held, V6_eq]
  iintro ⟨Hh, Hp, Ho⟩
  isplitr [Ho]
  · isplitl [Hh] <;> iassumption
  · iexact Ho

theorem enter1 (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (V0 m c) ∗ Ride (F := F) c) := by
  rw [← Pipeline.unscopedBufs_held (Ix := Unit) (Name := ℕ) (U := UR sig nD τ) (Lvl := ℕ) c (V0 m c)]
  iintro ⟨Hh, -, Ho, -, Hp, -⟩
  isplitl [Hh]; · iexact Hh
  isplitl [Hp]; · iexists _; iexact Hp
  iexists _; iexact Ho

theorem enter : (bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp))
    ⊢ (bigSep Finset.univ fun c : Dev nD => iprop(StableHlo.held (c : Thread nD τ) (Pipeline.ucRefs τ sig) (V0 m c) ∗ Ride (F := F) c) : sProp 𝕄) := by
  exact bigSep_mono fun c _ => enter1 m ρ c

theorem res_end (c : Dev nD) : V6 m (outsAB m) c main_v17 = resArr m c := by
  rw [V6_eq]; unfold W6; rw [Function.update_self]

set_option maxHeartbeats 400000 in
set_option backward.isDefEq.respectTransparency.types false in
/-- Every run of the program ends with the result at what the attention call leaves, the arguments as launched, and no semaphore raised. -/
theorem run_all : θ_run defs (onTc (τ := τ) (main (F := F))) ⟨m, fun _ => 0, ρ⟩ (fun r => (∀ c : Dev nD,
      r.2.mem ((c.tc : Thread nD τ).loc main_v17) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pd m) () cellOf_inj
    (Idealize.ShloMosaic.emb₁ (nD := nD) (τ := τ) (sig := sig)) defs₀ Variants.none Lz lz m ρ main
    (segs m (outsAB m) Variants.none Lz lz Rd () (pd m) (R0 m) (R1 m))
    (fun c Q => by
      rewrite [main_chain c, Pipeline.Seg.run_eq_chain,
        show (segs m (outsAB m) Variants.none Lz lz Rd () (pd m) (R0 m) (R1 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()) ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl)
    (fun _ => BI.emp) (initOf (Pipeline.cells cfgs cellOf_inj) (Pipeline.launchToks cfgs cellOf_inj)) ?hu
    (T₀ := fun c => iprop(StableHlo.held (c : Thread nD τ) (Pipeline.ucRefs τ sig) (V0 m c) ∗ Ride (F := F) c))
    (Tₙ := fun c => iprop(StableHlo.held (c : Thread nD τ) (Pipeline.ucRefs τ sig) (V6 m (outsAB m) c) ∗ ∃ r, prngReg c r))
    (hch := fun c => ⟨.rfl, pre0 m c, post0 m c, .rfl, .rfl, pre1 m c, leave m c⟩)
    (hinit := ?_) (QY := fun c s => s.mem ((c.tc : Thread nD τ).loc main_v17) = resArr m c
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  case hu =>
    iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    · iapply (show (BI.emp : sProp 𝕄) ⊢ bigSep Finset.univ (fun _ : Dev nD => (BI.emp : sProp 𝕄)) from by rw [BI.bigSep_emp_const])
      iempintro
  · iintro ⟨H, -⟩
    imodintro
    iapply (enter m ρ)
    iexact H
  · unfold StableHlo.held
    iintro ⟨⟨Hh, -⟩, HSI⟩
    ihave Hr := (pointsTo_read_all (Pipeline.ucRefs τ sig) (fun b => ((c : Thread nD τ).1, b)) (V6 m (outsAB m) c) s') $$ [Hh HSI]
    · isplitl [Hh] <;> iassumption
    icases Hr with ⟨%h, HSI⟩
    imodintro
    isplitr
    · ipureintro
      exact ⟨(h (Proc.devRef .tc main_v17) (Finset.mem_filter.mpr ⟨StableHlo.devRef_mem_tcRefs main_v17, by decide⟩)).trans (res_end m c),
        (h (Proc.devRef .tc main_arg0) (Finset.mem_filter.mpr ⟨StableHlo.devRef_mem_tcRefs main_arg0, by decide⟩)).trans (V6_main_arg0 m (outsAB m) c),
        (h (Proc.devRef .tc main_arg1) (Finset.mem_filter.mpr ⟨StableHlo.devRef_mem_tcRefs main_arg1, by decide⟩)).trans (V6_main_arg1 m (outsAB m) c)⟩
    · iexact HSI

/-- The frame's part of it. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run_all m ρ)

end Cert.Proof.NA

end
-- ==== Proof.Frames.lean ====
/- The frames of the three programs and the named constants. -/
module

public import proofs.«01_k».proof.Defs
public import proofs.«01_k».proof.Proof.Whole
public import proofs.«01_k».proof.Proof.Words.Whole
public import proofs.«01_k».proof.Proof.Gen.Kernel
public import proofs.«01_k».proof.Proof.Gen.ReferenceIdeal
public import proofs.«01_k».proof.Proof.Gen.ReferenceIdeal.Run
public import proofs.«01_k».proof.Proof.Gen.Pre_finite_scores

@[expose] public section

noncomputable section

namespace Cert.Proof

open Idealize.ShloMosaic Idealize.SL.Sem

theorem frame_ideal : Cert.quiescent_KernelIdeal (hKernelIdeal := Cert.KernelIdeal.Gen.facts) :=
  fun m ρ _ => NA.run_frame (F := Ideal) m ρ

theorem frame_ideal_pre : Cert.quiescent_KernelIdeal_pre_finite_scores (hKernelIdeal := Cert.KernelIdeal.Gen.facts)
    (hPre_finite_scores := Cert.Pre_finite_scores.Gen.facts) :=
  fun m ρ _ => NA.run_frame (F := Ideal) m ρ

theorem frame_ref : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run (F := Ideal) m ρ)

theorem frame_ref_pre : Cert.quiescent_ReferenceIdeal_pre_finite_scores (hReferenceIdeal := Cert.ReferenceIdeal.Gen.facts)
    (hPre_finite_scores := Cert.Pre_finite_scores.Gen.facts) :=
  fun m ρ _ => frame_ref m ρ trivial

theorem consts_named : Cert.preserves_Kernel_KernelIdeal :=
  ⟨IdealRules.named_const.statement Cert.KernelIdeal.κ "mask" .f32 0xF149F2CA#32 ⊥ rfl,
   IdealRules.named_const.statement Cert.KernelIdeal.κ "log2e" .f32 0x3FB8AA3B#32 _ rfl,
   IdealRules.named_const.statement Cert.KernelIdeal.κ "scale_log2e" .f32 0x3E0293EE#32 _ rfl⟩

theorem frame_words : Cert.quiescent_Kernel (hKernel := Cert.Kernel.Gen.facts) :=
  fun m ρ _ => NAW.run_frame (F := Bits) m ρ

end Cert.Proof

end
-- ==== Proof.HeadAt.lean ====
/- One head of one step, element by element, over the extended reals. -/
module

public import proofs.«01_k».proof.Proof.AttnTile
public import Idealize.ShloMosaic.Lib.Pointwise

@[expose] public section

set_option maxRecDepth 16384

noncomputable section

namespace Cert.Proof.NA

open Cert.KernelIdeal Cert.KernelIdeal.Gen
open Idealize.ShloMosaic Idealize.ShloMosaic.TcCoe Idealize.ShloMosaic.Tactic

/-- One of three blocks. -/
abbrev pick3 {α : Type} (a b c : α) (n : ℕ) : α := if n = 0 then a else if n = 1 then b else c

theorem ofBits_zero : Ideal.ofBits .f32 0x00000000#32 = 0 := by simp [Ideal.ofBits, Ideal.ieee]
theorem ofBits_one : Ideal.ofBits .bf16 0x3F80#16 = 1 := by
  simp [Ideal.ofBits, Ideal.ieee, -EReal.coe_mul]; norm_num
theorem ofBits_bot : Ideal.ofBits .f32 0xFF800000#32 = ⊥ := by simp [Ideal.ofBits, Ideal.ieee]

theorem stack3_at (a b c : Vec Ideal S256x128 .bf16) (k : Fin 768) (d : Fin 128) :
    stack3 a b c (ix2 k d) = pick3 a b c (k.val / 256) (ix2 ⟨k.val % 256, by omega⟩ d) := by
  have key : ∀ (x : Vec Ideal S256x128 .bf16) (l : Fin 256), x = pick3 a b c (k.val / 256) → l.val = k.val % 256 →
      x (ix2 l d) = pick3 a b c (k.val / 256) (ix2 ⟨k.val % 256, by omega⟩ d) := fun x l hx hl => by
    rw [hx, show l = ⟨k.val % 256, by omega⟩ from Fin.ext hl]
  have hk := k.isLt
  pointwise [stack3]
  split_ifs <;> first
    | exact key a _ (if_pos (by omega)).symm (by first | omega | (dsimp only; omega))
    | exact key b _ ((if_neg (by omega)).trans (if_pos (by omega))).symm (by first | omega | (dsimp only; omega))
    | exact key c _ ((if_neg (by omega)).trans (if_neg (by omega))).symm (by first | omega | (dsimp only; omega))

theorem tileRow_at (t : Fin 6 → Vec Ideal S1x1x1x1x64x128 .f32) (q : Fin 64) (k : Fin 768) :
    tileRow t (ix2 q k) = t ⟨k.val / 128, by omega⟩ (ix6 0 0 0 0 q ⟨k.val % 128, by omega⟩) := by
  have key : ∀ (p : Fin 6) (l : Fin 128), p.val = k.val / 128 → l.val = k.val % 128 →
      t p (ix6 0 0 0 0 q l) = t ⟨k.val / 128, by omega⟩ (ix6 0 0 0 0 q ⟨k.val % 128, by omega⟩) := fun p l hp hl => by
    rw [show p = ⟨k.val / 128, by omega⟩ from Fin.ext hp, show l = ⟨k.val % 128, by omega⟩ from Fin.ext hl]
  have hk := k.isLt
  pointwise [tileRow]
  split_ifs <;> refine key _ _ ?_ ?_ <;> simp <;> omega

theorem tileBias_at (T : Fin 4 → Fin 6 → Vec Ideal S1x1x1x1x64x128 .f32) (r : Fin 256) (k : Fin 768) :
    tileBias T (ix2 r k) = T ⟨r.val / 64, by omega⟩ ⟨k.val / 128, by omega⟩ (ix6 0 0 0 0 ⟨r.val % 64, by omega⟩ ⟨k.val % 128, by omega⟩) := by
  have key : ∀ (p : Fin 4) (l : Fin 64), p.val = r.val / 64 → l.val = r.val % 64 →
      tileRow (T p) (ix2 l k) = T ⟨r.val / 64, by omega⟩ ⟨k.val / 128, by omega⟩ (ix6 0 0 0 0 ⟨r.val % 64, by omega⟩ ⟨k.val % 128, by omega⟩) := fun p l hp hl => by
    rw [tileRow_at, show p = ⟨r.val / 64, by omega⟩ from Fin.ext hp, show l = ⟨r.val % 64, by omega⟩ from Fin.ext hl]
  have hr := r.isLt
  pointwise [tileBias]
  split_ifs <;> refine key _ _ ?_ ?_ <;> simp <;> omega

theorem headScore_at (q a b c : Vec Ideal S256x128 .bf16) (T : Fin 4 → Fin 6 → Vec Ideal S1x1x1x1x64x128 .f32) (r : Fin 256) (k : Fin 768) :
    headScore q a b c T (ix2 r k) = (∑ x : Fin 128, q (ix2 r x) * stack3 a b c (ix2 k x)) + tileBias T (ix2 r k) := by
  pointwise [headScore]

theorem headWeight_at (s : FVec Ideal S256x768 .f32) (r : Fin 256) (k : Fin 768) :
    headWeight s (ix2 r k) = Ideal.exp2 (s (ix2 r k) - Finset.univ.fold max ⊥ (fun x : Fin 768 => s (ix2 r x))) := by
  pointwise [headWeight]
  rw [show Ideal.ofBits .f32 4286578688#32 = _ from ofBits_bot]
  rfl

theorem headSums_at (p : FVec Ideal S256x768 .f32) (v : FVec Ideal S768x256 .bf16) (r k : Fin 256) :
    headSums p v (ix2 r k) = ∑ x : Fin 768, p (ix2 r x) * v (ix2 x k) := by
  pointwise [headSums]

theorem extV_at (v0 v1 v2 : Vec Ideal S256x128 .bf16) (k : Fin 768) (r : Fin 256) :
    extV v0 v1 v2 (ix2 k r) = if h : r.val < 128 then stack3 v0 v1 v2 (ix2 k ⟨r.val, h⟩) else 1 := by
  pointwise [extV]

theorem headDiv_at (o : FVec Ideal S256x256 .f32) (r : Fin 256) (k : Fin 128) :
    headDiv o (ix2 r k) = Ideal.div (o (ix2 r ⟨k.val, by omega⟩)) (o (ix2 r ⟨128, by omega⟩)) := by
  pointwise [headDiv]

/-- One element of one head: the weighted sum of the values over the sum of the weights. -/
theorem headOut_at (q k0 k1 k2 v0 v1 v2 : Vec Ideal S256x128 .bf16) (T : Fin 4 → Fin 6 → Vec Ideal S1x1x1x1x64x128 .f32) (r : Fin 256) (d : Fin 128)
    (s : Fin 768 → EReal) (v : Fin 768 → EReal) (hs : ∀ k, headScore q k0 k1 k2 T (ix2 r k) = s k) (hv : ∀ k, stack3 v0 v1 v2 (ix2 k d) = v k) :
    headOut q k0 k1 k2 v0 v1 v2 T (ix2 r d)
      = Ideal.div (∑ k : Fin 768, Ideal.exp2 (s k - Finset.univ.fold max ⊥ s) * v k) (∑ k : Fin 768, Ideal.exp2 (s k - Finset.univ.fold max ⊥ s) * 1) := by
  unfold headOut
  rw [headDiv_at, headSums_at, headSums_at]
  have hd := d.isLt
  refine congrArg₂ Ideal.div (Finset.sum_congr rfl fun k _ => ?_) (Finset.sum_congr rfl fun k _ => ?_)
  · rw [headWeight_at, extV_at, dif_pos hd, hs, funext hs, ← hv]
  · rw [headWeight_at, extV_at, dif_neg (by simp), hs, funext hs]
end Cert.Proof.NA
end
-- ==== Proof.ResAt.lean ====
/- The attention call's result, element by element, of the arrays it reads. -/
module

public import proofs.«01_k».proof.Proof.Dats
public import Idealize.ShloMosaic.Lib.Pointwise
public import Idealize.ShloMosaic.Lib.Pipeline.ValueKit

@[expose] public section

set_option maxRecDepth 16384

noncomputable section

namespace Cert.Proof.NA

open Cert.KernelIdeal Cert.KernelIdeal.Gen
open Idealize.ShloMosaic Idealize.ShloMosaic.TcCoe Idealize.ShloMosaic.Tactic

open Idealize.ShloMosaic.Rounds
open Idealize.ShloMosaic.Pipeline (Dat Cfg Window BodyObligation cellOf)

variable (V : Val (F := Ideal))

theorem at_8 : ∀ t : Fin cfg1.grid.N, win1_8.index t = ![t.val, 0] := by decide +kernel
theorem at_7 : ∀ t : Fin cfg1.grid.N, win1_7.index t = ![if t.val = 0 then 0 else if t.val = 31 then 2 else 1, 0, 0, 0, 0, 0] := by decide +kernel
theorem at_0 : ∀ t : Fin cfg1.grid.N, win1_0.index t = ![t.val, 0] := by decide +kernel
theorem at_1 : ∀ t : Fin cfg1.grid.N, win1_1.index t = ![t.val - 1, 1] := by decide +kernel
theorem at_2 : ∀ t : Fin cfg1.grid.N, win1_2.index t = ![t.val, 1] := by decide +kernel
theorem at_3 : ∀ t : Fin cfg1.grid.N, win1_3.index t = ![min 31 (t.val + 1), 1] := by decide +kernel
theorem at_4 : ∀ t : Fin cfg1.grid.N, win1_4.index t = ![t.val - 1, 2] := by decide +kernel
theorem at_5 : ∀ t : Fin cfg1.grid.N, win1_5.index t = ![t.val, 2] := by decide +kernel
theorem at_6 : ∀ t : Fin cfg1.grid.N, win1_6.index t = ![min 31 (t.val + 1), 2] := by decide +kernel

theorem pt_lt (t : Fin cfg1.N) : t.val < 32 := t.isLt

/-- The result as one function of its index. -/
def outG (c : Dev nD) : S8192x1024.Idx → EReal := fun i =>
  outTile V c ⟨(i 0).val / 256, by have : (i 0).val < 8192 := (i 0).isLt; show _ < 32; omega⟩ (ix2 ⟨(i 0).val % 256, by omega⟩ ⟨(i 1).val, (i 1).isLt⟩)

theorem arr8 (c : Dev nD) : (dat1 V c).arrAt 8 cfg1.N = outG V c := by
  refine (dat1 V c).arrAt_eq_of_covers 8 _ (by decide +kernel) fun t hf y => ?_
  rw [after1_8]
  blk_simp
  have e0 : (((win1_8.blk t).view.emb y) 0).val = t.val * 256 + (y 0).val := by
    blk_simp
    rw [at_8]
    rfl
  have e1 : (((win1_8.blk t).view.emb y) 1).val = (y 1).val := by
    blk_simp
    rw [at_8]
    show 0 * 1024 + (y 1).val = _
    omega
  have h0 : (y 0).val < 256 := (y 0).isLt
  unfold outG
  refine congr (congrArg (outTile V c) (Fin.ext ?_)) (funext fun a => ?_)
  · show t.val = _ / 256
    rw [e0]
    omega
  · fin_cases a
    · refine Fin.ext ?_
      show (y 0).val = _ % 256
      rw [e0]
      omega
    · exact Fin.ext e1.symm

theorem inBlk_0 (c : Dev nD) (t : Fin cfg1.N) (a : Fin 256) (l : Fin 1024) : inBlk V c 0 t (ix2 a l)
    = V c main_v16 (ix2 ⟨t.val * 256 + a.val, by have := pt_lt t; have := a.isLt; omega⟩ ⟨l.val, by have := l.isLt; omega⟩) := by
  have hm : (cfg1.win 0).moved (cfg1.grid.coords t) (ix2 a l) = true := ((cfg1.win 0).moved_iff _ _).mpr fun b => by rw [xs1_0 t b]; exact (ix2 a l b).isLt
  show (cfg1.win 0).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_0 t) 0)
  · blk_simp
    exact (congrArg (fun n => n * 1024 + l.val) (congrFun (at_0 t) 1)).trans (by show 0 * 1024 + l.val = l.val; omega)

theorem inBlk_1 (c : Dev nD) (t : Fin cfg1.N) (a : Fin 256) (l : Fin 1024) : inBlk V c 1 t (ix2 a l)
    = V c main_v16 (ix2 ⟨(t.val - 1) * 256 + a.val, by have := pt_lt t; have := a.isLt; omega⟩ ⟨1024 + l.val, by have := l.isLt; omega⟩) := by
  have hm : (cfg1.win 1).moved (cfg1.grid.coords t) (ix2 a l) = true := ((cfg1.win 1).moved_iff _ _).mpr fun b => by rw [xs1_1 t b]; exact (ix2 a l b).isLt
  show (cfg1.win 1).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_1 t) 0)
  · blk_simp
    exact congrArg (fun n => n * 1024 + l.val) (congrFun (at_1 t) 1)

theorem inBlk_2 (c : Dev nD) (t : Fin cfg1.N) (a : Fin 256) (l : Fin 1024) : inBlk V c 2 t (ix2 a l)
    = V c main_v16 (ix2 ⟨t.val * 256 + a.val, by have := pt_lt t; have := a.isLt; omega⟩ ⟨1024 + l.val, by have := l.isLt; omega⟩) := by
  have hm : (cfg1.win 2).moved (cfg1.grid.coords t) (ix2 a l) = true := ((cfg1.win 2).moved_iff _ _).mpr fun b => by rw [xs1_2 t b]; exact (ix2 a l b).isLt
  show (cfg1.win 2).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_2 t) 0)
  · blk_simp
    exact congrArg (fun n => n * 1024 + l.val) (congrFun (at_2 t) 1)

theorem inBlk_3 (c : Dev nD) (t : Fin cfg1.N) (a : Fin 256) (l : Fin 1024) : inBlk V c 3 t (ix2 a l)
    = V c main_v16 (ix2 ⟨min 31 (t.val + 1) * 256 + a.val, by have := pt_lt t; have := a.isLt; omega⟩ ⟨1024 + l.val, by have := l.isLt; omega⟩) := by
  have hm : (cfg1.win 3).moved (cfg1.grid.coords t) (ix2 a l) = true := ((cfg1.win 3).moved_iff _ _).mpr fun b => by rw [xs1_3 t b]; exact (ix2 a l b).isLt
  show (cfg1.win 3).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_3 t) 0)
  · blk_simp
    exact congrArg (fun n => n * 1024 + l.val) (congrFun (at_3 t) 1)

theorem inBlk_4 (c : Dev nD) (t : Fin cfg1.N) (a : Fin 256) (l : Fin 1024) : inBlk V c 4 t (ix2 a l)
    = V c main_v16 (ix2 ⟨(t.val - 1) * 256 + a.val, by have := pt_lt t; have := a.isLt; omega⟩ ⟨2048 + l.val, by have := l.isLt; omega⟩) := by
  have hm : (cfg1.win 4).moved (cfg1.grid.coords t) (ix2 a l) = true := ((cfg1.win 4).moved_iff _ _).mpr fun b => by rw [xs1_4 t b]; exact (ix2 a l b).isLt
  show (cfg1.win 4).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_4 t) 0)
  · blk_simp
    exact congrArg (fun n => n * 1024 + l.val) (congrFun (at_4 t) 1)

theorem inBlk_5 (c : Dev nD) (t : Fin cfg1.N) (a : Fin 256) (l : Fin 1024) : inBlk V c 5 t (ix2 a l)
    = V c main_v16 (ix2 ⟨t.val * 256 + a.val, by have := pt_lt t; have := a.isLt; omega⟩ ⟨2048 + l.val, by have := l.isLt; omega⟩) := by
  have hm : (cfg1.win 5).moved (cfg1.grid.coords t) (ix2 a l) = true := ((cfg1.win 5).moved_iff _ _).mpr fun b => by rw [xs1_5 t b]; exact (ix2 a l b).isLt
  show (cfg1.win 5).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_5 t) 0)
  · blk_simp
    exact congrArg (fun n => n * 1024 + l.val) (congrFun (at_5 t) 1)

theorem inBlk_6 (c : Dev nD) (t : Fin cfg1.N) (a : Fin 256) (l : Fin 1024) : inBlk V c 6 t (ix2 a l)
    = V c main_v16 (ix2 ⟨min 31 (t.val + 1) * 256 + a.val, by have := pt_lt t; have := a.isLt; omega⟩ ⟨2048 + l.val, by have := l.isLt; omega⟩) := by
  have hm : (cfg1.win 6).moved (cfg1.grid.coords t) (ix2 a l) = true := ((cfg1.win 6).moved_iff _ _).mpr fun b => by rw [xs1_6 t b]; exact (ix2 a l b).isLt
  show (cfg1.win 6).fill _ _ _ _ = _
  unfold Pipeline.Window.fill
  rw [dif_pos hm, View.read_apply]
  blk_simp
  refine congrArg (V c main_v16) (funext fun b => Fin.ext ?_)
  fin_cases b
  · blk_simp
    exact congrArg (fun n => n * 256 + a.val) (congrFun (at_6 t) 0)
  · blk_simp
    exact congrArg (fun n => n * 1024 + l.val) (congrFun (at_6 t) 1)

theorem inBlk_7 (c : Dev nD) (t : Fin cfg1.N) (h : Fin 8) (r : Fin 4) (p : Fin 6) (q : Fin 64) (l : Fin 128) : inBlk V c 7 t (ix6 0 h r p q l)
    = V c main_v13 (ix6 ⟨if t.val = 0 then 0 else if t.val = 31 then 2 else 1, by split <;> (try split) <;> omega⟩ h r p q l) := by
  have hm : (cfg1.win 7).moved (cfg1.grid.coords t) (ix6 0 h r p q l) = true := ((cfg1.win 7).moved_iff _ _).mpr fun b => (ix6 (0 : Fin 1) h r p q l b).isLt
  show (cfg1.win 7).fill _ _ _ _ = _
  unfold Pipeline.Window.fill
  rw [dif_pos hm, View.read_apply]
  blk_simp
  refine congrArg (V c main_v13) (funext fun b => Fin.ext ?_)
  fin_cases b
  · blk_simp
    exact (congrArg (fun n => n + 0) (congrFun (at_7 t) 0))
  · blk_simp
    exact (congrArg (fun n => n * 8 + h.val) (congrFun (at_7 t) 1)).trans (by show 0 * 8 + h.val = h.val; omega)
  · blk_simp
    exact (congrArg (fun n => n * 4 + r.val) (congrFun (at_7 t) 2)).trans (by show 0 * 4 + r.val = r.val; omega)
  · blk_simp
    exact (congrArg (fun n => n * 6 + p.val) (congrFun (at_7 t) 3)).trans (by show 0 * 6 + p.val = p.val; omega)
  · blk_simp
    exact (congrArg (fun n => n * 64 + q.val) (congrFun (at_7 t) 4)).trans (by show 0 * 64 + q.val = q.val; omega)
  · blk_simp
    exact (congrArg (fun n => n * 128 + l.val) (congrFun (at_7 t) 5)).trans (by show 0 * 128 + l.val = l.val; omega)

theorem ld_band (x : Vec Ideal S256x1024 .bf16) (h : Fin 8) (a : Fin 256) (d : Fin 128) :
    View.ld x (band h) (ix2 a d) = x (ix2 a ⟨h.val * 128 + d.val, by have := h.isLt; have := d.isLt; omega⟩) := by
  refine congrArg x (funext fun b => Fin.ext ?_)
  fin_cases b
  · show 0 + 1 * a.val = a.val
    omega
  · show 128 * h.val + 1 * d.val = h.val * 128 + d.val
    omega
theorem ld_tile (x : Vec Ideal S1x8x4x6x64x128 .f32) (h : Fin 8) (r : Fin 4) (p : Fin 6) (q : Fin 64) (l : Fin 128) :
    View.ld x (tileRect h r p) (ix6 0 0 0 0 q l) = x (ix6 0 h r p q l) := by
  refine congrArg x (funext fun b => Fin.ext ?_)
  fin_cases b
  · rfl
  · show h.val + 1 * 0 = h.val
    omega
  · show r.val + 1 * 0 = r.val
    omega
  · show p.val + 1 * 0 = p.val
    omega
  · show 0 + 1 * q.val = q.val
    omega
  · show 0 + 1 * l.val = l.val
    omega

theorem emb_not_mem (h g : Fin 8) (hg : g ≠ h) (x : (band h).shape.Idx) : (band h).emb x ∉ (band g).set := by
  intro hm
  have e := Rect.mem_set_unit.mp hm 1
  have e1 : 128 * g.val ≤ 128 * h.val + 1 * (x 1).val := e.1
  have e2 : 128 * h.val + 1 * (x 1).val < 128 * g.val + 128 := e.2
  have h2 : (x 1).val < 128 := (x 1).isLt
  exact hg (Fin.ext (by omega))

theorem canon_heads (w : Fin 8 → Vec Ideal S256x128 .bf16) (h : Fin 8) (x : S256x128.Idx) :
    ∀ L : List (Fin 8), h ∈ L → View.canon (L.map fun g : Fin 8 => (⟨band g, w g⟩ : View.Piece (Elt Ideal) S256x1024 .bf16)) ((band h).emb x) = w h x
  | [], hm => absurd hm (List.not_mem_nil)
  | g :: L, hm => by
    rw [List.map_cons]
    by_cases e : g = h
    · subst e
      exact View.canon_cons_emb _ _ _ _
    · exact (View.canon_cons_of_not_mem (⟨band g, w g⟩ : View.Piece (Elt Ideal) S256x1024 .bf16) _ (emb_not_mem h g e x)).trans
        (canon_heads w h x L ((List.mem_cons.mp hm).resolve_left fun e' => e e'.symm))

theorem tileOf_at (x1 x2 x3 x4 x5 x6 x7 : Vec Ideal S256x1024 .bf16) (x8 : Vec Ideal S1x8x4x6x64x128 .f32) (a : Fin 256) (j : Fin 1024) :
    tileOf x1 x2 x3 x4 x5 x6 x7 x8 (ix2 a j) = headVal x1 x2 x3 x4 x5 x6 x7 x8 ⟨j.val / 128, by have := j.isLt; omega⟩ (ix2 a ⟨j.val % 128, by omega⟩) := by
  have hj := j.isLt
  unfold tileOf attnPieces
  refine Eq.trans (congrArg _ (funext fun b => Fin.ext ?_))
    (canon_heads (headVal x1 x2 x3 x4 x5 x6 x7 x8) ⟨j.val / 128, by omega⟩ (ix2 a ⟨j.val % 128, by omega⟩) [7, 6, 5, 4, 3, 2, 1, 0] (by
      generalize (⟨j.val / 128, _⟩ : Fin 8) = h
      revert h
      decide))
  fin_cases b
  · show a.val = 0 + 1 * a.val
    omega
  · show j.val = 128 * (j.val / 128) + 1 * (j.val % 128)
    omega

end Cert.Proof.NA
end
-- ==== Proof.HostParts.lean ====
/- The host's stretches in parts: the bias of the attention call and its queries, keys and values. -/
module

public import proofs.«01_k».proof.Proof.Regs
public import Idealize.ShloMosaic.Lib.Pointwise
public import Idealize.ShloMosaic.Lib.StableHlo.ReadAt

@[expose] public section

set_option maxRecDepth 16384

noncomputable section

namespace Cert.Proof.NA

open Cert.KernelIdeal Cert.KernelIdeal.Gen
open Idealize.ShloMosaic Idealize.ShloMosaic.TcCoe Idealize.ShloMosaic.Tactic

variable (m : (ℓ : Loc nD τ sig) → Buf (Elt Ideal) ℓ)

/-- The row of the position bias each tile half takes, as the host's constant has it. -/
def dr : IVec S144 32 := fun i => lit0 (S144.rowMajor i)
/-- Which tile halves lie outside the window, as the host's constant has it. -/
def flags : FVec Ideal S72x2 .f32 := fun i => FloatOps.ofBits .f32 (lit1 (S72x2.rowMajor i))
/-- The rows as the gather takes them. -/
def drTake : IVec S144x1 32 :=
  broadcastInDim S144x1 ![0] bcast_S144_S144x1_0
    (select (cmpi .slt dr (broadcastInDim S144 ![] bcast_S_S144 (constantI S_ 32 0#32))) (addi dr (broadcastInDim S144 ![] bcast_S_S144 (constantI S_ 32 16#32))) dr)
/-- Every row taken is there. -/
def drOk : IVec S144 1 :=
  Host.reduce IntOp.andi (andi (cmpi .sge drTake (broadcastInDim S144x1 ![] bcast_S_S144x1 (constantI S_ 32 0#32)))
      (cmpi .sle drTake (broadcastInDim S144x1 ![0, 1] bcast_S1x1_S144x1_0_1 (broadcastInDim S1x1 ![1] bcast_S1_S1x1_1 (constantI S1 32 15#32)))))
    (constantI S_ 1 1#1) reducesTo_S144x1_S144_d1 h_S_
/-- The position bias with a row of zeros below it. -/
def padded (x : FVec Ideal S8x15x31 .f32) : FVec Ideal S8x16x31 .f32 :=
  concatenate S8x16x31 1 [⟨S8x15x31, x⟩, ⟨S8x1x31, broadcastInDim S8x1x31 ![] bcast_S_S8x1x31 (constant S_ .f32 0x00000000#32)⟩] concatenates_S8x15x31_S8x1x31_S8x16x31_d1
/-- The rows, gathered. -/
def taken (x : FVec Ideal S8x15x31 .f32) : FVec Ideal S8x144x31 .f32 :=
  Host.gather gather_S8x16x31_S144x1_S8x144x31_02_1_n_n_1_1_8131 (padded x) drTake
/-- The rows gathered where they are there. -/
def picked (x : FVec Ideal S8x15x31 .f32) : FVec Ideal S8x144x31 .f32 :=
  select (broadcastInDim S8x144x31 ![1] bcast_S144_S8x144x31_1 drOk) (taken x)
    (broadcastInDim S8x144x31 ![] bcast_S_S8x144x31 (constant S_ .f32 0x7FC00000#32))
/-- The left operand of the bias product. -/
def feats (x : FVec Ideal S8x144x31 .f32) : FVec Ideal S8x72x65 .f32 :=
  concatenate S8x72x65 2 [⟨S8x72x62, shapeCast S8x72x62 x shapeCasts_S8x144x31_S8x72x62⟩, ⟨S8x72x2, broadcastInDim S8x72x2 ![1, 2] bcast_S72x2_S8x72x2_1_2 flags⟩,
    ⟨S8x72x1, broadcastInDim S8x72x1 ![] bcast_S_S8x72x1 (constant S_ .f32 0x3F800000#32)⟩] concatenates_S8x72x62_S8x72x2_S8x72x1_S8x72x65_d2
/-- It, one row for each tile. -/
def lhs (f : FVec Ideal S8x72x65 .f32) : FVec Ideal S576x65 .f32 :=
  shapeCast S576x65 (transpose S3x8x24x65 [1, 0, 2, 3] (shapeCast S8x3x24x65 f shapeCasts_S8x72x65_S8x3x24x65) transposes_S8x3x24x65_S3x8x24x65_1_0_2_3) shapeCasts_S3x8x24x65_S576x65
/-- The bias product, by tiles. -/
def tiles (l : FVec Ideal S576x65 .f32) (r : FVec Ideal S65x64x128 .f32) : FVec Ideal S3x8x4x6x64x128 .f32 :=
  shapeCast S3x8x4x6x64x128 (Host.dotGeneral dot_S576x65_S65x8192_S576x8192_1_0_0_1_n_n (some .bf16x3) l (shapeCast S65x8192 r shapeCasts_S65x64x128_S65x8192)) shapeCasts_S576x8192_S3x8x4x6x64x128
/-- The projections, their columns scaled. -/
def scaled (x : FVec Ideal S8192x4608 .f32) (s : FVec Ideal S1x4608 .f32) : FVec Ideal S8192x4608 .bf16 :=
  truncf .bf16 (mulf x (broadcastInDim S8192x4608 ![0, 1] bcast_S1x4608_S8192x4608_0_1 s)) bitsLt_bf16_f32

theorem V2_arg0 (c : Dev nD) : V2 m (outsA m) c main_arg0 = m ((c : Thread nD τ).loc main_arg0) := by
  unfold V2
  rw [Function.update_of_ne (StableHlo.devRef_ne_of_ne (by decide)), Function.update_of_ne (StableHlo.devRef_ne_of_ne (by decide)),
    Function.update_of_ne (StableHlo.devRef_ne_of_ne (by decide))]
  rfl
theorem V2_tab (c : Dev nD) : V2 m (outsA m) c main_v0_2 = W2 m c main_v0_2 := by
  unfold V2
  rw [Function.update_self]
  rfl
theorem v16_eq (c : Dev nD) : V5 m (outsA m) c main_v16 = scaled (m ((c : Thread nD τ).loc main_arg0)) (W2 m c main_v0_2) := by
  rw [← V2_arg0 m c, ← V2_tab m c]
  dsimp only [V5, V4, V3]
  generalize V2 m (outsA m) c = U
  after_reads_simp
  rfl

theorem v2_eq (c : Dev nD) : V3 m (outsA m) c main_v2 = padded (W2 m c main_v0_1) := by
  dsimp only [V3]
  after_reads_simp
  rfl
theorem cst_eq (c : Dev nD) : V4 m (outsA m) c main_cst = flags := by
  dsimp only [V4, V3]
  after_reads_simp
  rfl
theorem c_eq (c : Dev nD) : V3 m (outsA m) c main_c = dr := by
  dsimp only [V3]
  after_reads_simp
  rfl
theorem v00_eq (c : Dev nD) : V4 m (outsA m) c main_v0_0 = W2 m c main_v0_0 := by
  dsimp only [V4, V3]
  after_reads_simp
  rfl
theorem v3_eq (c : Dev nD) : V4 m (outsA m) c main_v3 = picked (W2 m c main_v0_1) := by
  unfold picked taken
  rw [← v2_eq]
  have hc := c_eq m c
  dsimp only [V4]
  generalize V3 m (outsA m) c = U at hc ⊢
  after_reads_simp
  unfold drOk drTake
  rw [← hc]
  rfl
theorem v13_eq (c : Dev nD) : V5 m (outsA m) c main_v13 = tiles (lhs (feats (picked (W2 m c main_v0_1)))) (W2 m c main_v0_0) := by
  rw [← v3_eq, ← v00_eq]
  have hc := cst_eq m c
  dsimp only [V5]
  generalize V4 m (outsA m) c = U at hc ⊢
  unfold feats
  rw [← hc]
  after_reads_simp
  rfl

end Cert.Proof.NA
end
-- ==== Proof.RefParts.lean ====
/- The reference in parts, each read at an index. -/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Proof.NAR

open Cert.ReferenceIdeal Cert.ReferenceIdeal.Gen
open Idealize.ShloMosaic Idealize.ShloMosaic.TcCoe Idealize.ShloMosaic.Tactic

/-- The first row of each window. -/
def rowStart : IVec S128 32 :=
  minsi (broadcastInDim S128 ![] bcast_S_S128 (id (constantI S_ 32 120#32)))
    (maxsi (broadcastInDim S128 ![] bcast_S_S128 (id (constantI S_ 32 0#32)))
      (subi (iotaInDim S128 32 0) (broadcastInDim S128 ![] bcast_S_S128 (constantI S_ 32 4#32))))
/-- The rows of each window. -/
def rowIdx : IVec S128x8 32 :=
  addi (broadcastInDim S128x8 ![0, 1] bcast_S128x1_S128x8_0_1 (broadcastInDim S128x1 ![0] bcast_S128_S128x1_0 rowStart))
    (broadcastInDim S128x8 ![0, 1] bcast_S1x8_S128x8_0_1 (broadcastInDim S1x8 ![1] bcast_S8_S1x8_1 (iotaInDim S8 32 0)))
/-- The rows as the gather takes them. -/
def rowTake : IVec S128x8x1 32 :=
  broadcastInDim S128x8x1 ![0, 1] bcast_S128x8_S128x8x1_0_1
    (select (cmpi .slt rowIdx (broadcastInDim S128x8 ![] bcast_S_S128x8 (constantI S_ 32 0#32)))
      (addi rowIdx (broadcastInDim S128x8 ![] bcast_S_S128x8 (constantI S_ 32 128#32))) rowIdx)
/-- The first column of each window. -/
def colStart : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))
/-- Which columns lie in the window. -/
def colIn : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 colStart)
        (broadcastInDim S64x1 ![] bcast_S_S64x1 (constantI S_ 32 16#32)))))
/-- The rows' offsets. -/
def rowOff : IVec S128x1x8x1 32 :=
  broadcastInDim S128x1x8x1 ![0, 2] bcast_S128x8_S128x1x8x1_0_2
    (addi (subi rowIdx (broadcastInDim S128x8 ![0, 1] bcast_S128x1_S128x8_0_1 (broadcastInDim S128x1 ![0] bcast_S128_S128x1_0 (iotaInDim S128 32 0))))
      (broadcastInDim S128x8 ![] bcast_S_S128x8 (constantI S_ 32 7#32)))
/-- The columns' offsets. -/
def colOff : IVec S1x64x1x64 32 :=
  broadcastInDim S1x64x1x64 ![1, 3] bcast_S64x64_S1x64x1x64_1_3
    (addi (minsi (broadcastInDim S64x64 ![] bcast_S_S64x64 (id (constantI S_ 32 15#32)))
        (maxsi (broadcastInDim S64x64 ![] bcast_S_S64x64 (id (constantI S_ 32 4294967281#32)))
          (subi (broadcastInDim S64x64 ![0, 1] bcast_S1x64_S64x64_0_1 (broadcastInDim S1x64 ![1] bcast_S64_S1x64_1 (iotaInDim S64 32 0)))
            (broadcastInDim S64x64 ![0, 1] bcast_S64x1_S64x64_0_1 (broadcastInDim S64x1 ![0] bcast_S64_S64x1_0 (iotaInDim S64 32 0))))))
      (broadcastInDim S64x64 ![] bcast_S_S64x64 (constantI S_ 32 15#32)))
/-- The pairs of offsets the position bias is taken at. -/
def offs : IVec S128x64x8x64x2 32 :=
  concatenate S128x64x8x64x2 4
    [⟨S128x64x8x64x1, broadcastInDim S128x64x8x64x1 ![0, 1, 2, 3] bcast_S128x64x8x64_S128x64x8x64x1_0_1_2_3
      (broadcastInDim S128x64x8x64 ![0, 1, 2, 3] bcast_S128x1x8x1_S128x64x8x64_0_1_2_3
        (select (cmpi .slt rowOff (broadcastInDim S128x1x8x1 ![] bcast_S_S128x1x8x1 (constantI S_ 32 0#32)))
          (addi rowOff (broadcastInDim S128x1x8x1 ![] bcast_S_S128x1x8x1 (constantI S_ 32 15#32))) rowOff))⟩,
     ⟨S128x64x8x64x1, broadcastInDim S128x64x8x64x1 ![0, 1, 2, 3] bcast_S128x64x8x64_S128x64x8x64x1_0_1_2_3
      (broadcastInDim S128x64x8x64 ![0, 1, 2, 3] bcast_S1x64x1x64_S128x64x8x64_0_1_2_3
        (select (cmpi .slt colOff (broadcastInDim S1x64x1x64 ![] bcast_S_S1x64x1x64 (constantI S_ 32 0#32)))
          (addi colOff (broadcastInDim S1x64x1x64 ![] bcast_S_S1x64x1x64 (constantI S_ 32 31#32))) colOff))⟩]
    concatenates_S128x64x8x64x1_S128x64x8x64x1_S128x64x8x64x2_d4
/-- The queries, the keys or the values, by rows and columns of the grid. -/
def part (o : ℕ) (h : S8192x4608.Slices ![0, o] S8192x1024) (x : FVec Ideal S8192x4608 .f32) : FVec Ideal S1x128x64x8x128 .f32 :=
  shapeCast _ (shapeCast _ (extractStridedSlice S8192x1024 ![0, o] x h) shapeCasts_S8192x1024_S1x8192x8x128) shapeCasts_S1x8192x8x128_S1x128x64x8x128
/-- The rows of each window, gathered. -/
def rowsOf (x : FVec Ideal S1x128x64x8x128 .f32) : FVec Ideal S1x128x8x64x8x128 .f32 :=
  Host.gather gather_S1x128x64x8x128_S128x8x1_S1x128x8x64x8x128_0345_1_n_n_1_2_11648128 x rowTake
/-- The position bias with the columns outside the window at −∞. -/
def biasOf (b : FVec Ideal S8x15x31 .f32) : FVec Ideal S8x128x64x8x64 .f32 :=
  select (broadcastInDim S8x128x64x8x64 ![2, 3, 4] bcast_S64x1x64_S8x128x64x8x64_2_3_4 (broadcastInDim S64x1x64 ![0, 2] bcast_S64x64_S64x1x64_0_2 colIn))
    (Host.gather gather_S8x15x31_S128x64x8x64x2_S8x128x64x8x64_0_12_n_n_12_4_811 b offs)
    (broadcastInDim S8x128x64x8x64 ![] bcast_S_S8x128x64x8x64 (id (constant S_ .f32 0xFF800000#32)))
/-- The scores. -/
def scores (x : FVec Ideal S8192x4608 .f32) (b : FVec Ideal S8x15x31 .f32) : FVec Ideal S1x8x128x64x8x64 .f32 :=
  addf (mulf (Host.dotGeneral dot_S1x128x64x8x128_S1x128x8x64x8x128_S1x8x128x64x8x64_4_5_2_23_031_041 none
      (part 0 slices_S8192x4608_S8192x1024_0_0 x) (rowsOf (part 1024 slices_S8192x4608_S8192x1024_0_1024 x)))
      (broadcastInDim S1x8x128x64x8x64 ![] bcast_S_S1x8x128x64x8x64 (constant S_ .f32 0x3DB504F3#32)))
    (broadcastInDim S1x8x128x64x8x64 ![1, 2, 3, 4, 5] bcast_S8x128x64x8x64_S1x8x128x64x8x64_1_2_3_4_5 (biasOf b))
/-- The scores of one query in a line. -/
def lined (s : FVec Ideal S1x8x128x64x8x64 .f32) : FVec Ideal S1x8x128x64x512 .f32 := shapeCast _ s shapeCasts_S1x8x128x64x8x64_S1x8x128x64x512
/-- The greatest score of each query. -/
def rowMax (s : FVec Ideal S1x8x128x64x512 .f32) : FVec Ideal S1x8x128x64 .f32 :=
  Host.reduce FloatOps.maximumf s (constant S_ .f32 0xFF800000#32) reducesTo_S1x8x128x64x512_S1x8x128x64_d4 h_S_
/-- The exponentials of the scores less one number of each query. -/
def less (s : FVec Ideal S1x8x128x64x512 .f32) (m : FVec Ideal S1x8x128x64 .f32) : FVec Ideal S1x8x128x64x512 .f32 :=
  Host.exp (subf s (broadcastInDim S1x8x128x64x512 ![0, 1, 2, 3, 4] bcast_S1x8x128x64x1_S1x8x128x64x512_0_1_2_3_4
    (broadcastInDim S1x8x128x64x1 ![0, 1, 2, 3] bcast_S1x8x128x64_S1x8x128x64x1_0_1_2_3
      (maximumf (broadcastInDim S1x8x128x64 ![] bcast_S_S1x8x128x64 (constant S_ .f32 0xFF800000#32))
        m))))
/-- The exponentials of the scores less their greatest. -/
def exps (s : FVec Ideal S1x8x128x64x512 .f32) : FVec Ideal S1x8x128x64x512 .f32 := less s (rowMax s)
/-- The weights. -/
def weights (e : FVec Ideal S1x8x128x64x512 .f32) : FVec Ideal S1x8x128x64x8x64 .f32 :=
  shapeCast _ (Host.divf e (broadcastInDim S1x8x128x64x512 ![0, 1, 2, 3, 4] bcast_S1x8x128x64x1_S1x8x128x64x512_0_1_2_3_4
    (broadcastInDim S1x8x128x64x1 ![0, 1, 2, 3] bcast_S1x8x128x64_S1x8x128x64x1_0_1_2_3
      (Host.reduceAdd e (constant S_ .f32 0x00000000#32) reducesTo_S1x8x128x64x512_S1x8x128x64_d4 h_S_)))) shapeCasts_S1x8x128x64x512_S1x8x128x64x8x64
/-- The weighted sums of the values. -/
def mixed (x : FVec Ideal S8192x4608 .f32) (w : FVec Ideal S1x8x128x64x8x64 .f32) : FVec Ideal S8192x1024 .bf16 :=
  truncf .bf16 (shapeCast _ (shapeCast _ (transpose S1x128x64x8x128 [0, 1, 4, 2, 3]
    (Host.dotGeneral dot_S1x128x8x64x8x128_S1x8x128x64x8x64_S1x128x8x128x64_23_45_5_3_014_021 none
      (rowsOf (part 2048 slices_S8192x4608_S8192x1024_0_2048 x)) w)
    transposes_S1x128x8x128x64_S1x128x64x8x128_0_1_4_2_3) shapeCasts_S1x128x64x8x128_S1x8192x8x128) shapeCasts_S1x8192x8x128_S8192x1024) bitsLt_bf16_f32
/-- The reference of its two arguments. -/
def refOf (x : FVec Ideal S8192x4608 .f32) (b : FVec Ideal S8x15x31 .f32) : FVec Ideal S8192x1024 .bf16 :=
  mixed x (weights (exps (lined (scores x b))))

theorem res_eq (m : (ℓ : Loc nD τ sig) → Buf (Elt Ideal) ℓ) (c : Dev nD) :
    Cert.ReferenceIdeal.Value.res_out0 (F := Ideal) m c = refOf (m ((c.tc : Thread nD τ).loc main_arg0)) (m ((c.tc : Thread nD τ).loc main_arg1)) := rfl

end Cert.Proof.NAR
end
-- ==== Proof.RefIx.lean ====
/- The reference's parts, the integers of its windows. -/
module

public import proofs.«01_k».proof.Proof.RefParts

@[expose] public section

set_option maxRecDepth 16384

noncomputable section

namespace Cert.Proof.NAR

open Cert.ReferenceIdeal Cert.ReferenceIdeal.Gen
open Idealize.ShloMosaic Idealize.ShloMosaic.TcCoe Idealize.ShloMosaic.Tactic

/-- The first row of the window of row `r`. -/
abbrev rs (r : ℕ) : ℕ := min 120 (r - 4)
/-- The first column of the window of column `c`. -/
abbrev cs (c : ℕ) : ℕ := min 48 (c - 8)
/-- Column `k` is in the window of column `c`. -/
abbrev inWin (c k : ℕ) : Prop := cs c ≤ k ∧ k < cs c + 16
/-- The place of column `k` in the position bias of column `c`. -/
abbrev dcol (c k : ℕ) : ℕ := min 30 (k + 15 - c)

theorem rs_le (r : ℕ) : rs r ≤ 120 := Nat.min_le_left _ _
theorem dcol_le (c k : ℕ) : dcol c k ≤ 30 := Nat.min_le_left _ _
theorem row_lt (r : ℕ) (i : Fin 8) : rs r + i.val < 128 := by have := rs_le r; have := i.isLt; omega
theorem drow_lt (r : Fin 128) (i : Fin 8) : rs r.val + i.val + 7 - r.val < 15 := by
  have := r.isLt
  have := i.isLt
  unfold rs
  omega
theorem dcol_lt (c k : ℕ) : dcol c k < 31 := by have := dcol_le c k; omega

theorem neg_inf : Ideal.ofBits .f32 0xFF800000#32 = ⊥ := by
  simp [Ideal.ofBits, Ideal.ieee]

theorem reduceMax5 {n0 n1 n2 n3 n4 : ℕ} (x : (⟨5, ![n0, n1, n2, n3, n4]⟩ : Shape).Idx → EReal) (init : S_.Idx → EReal)
    (h : (⟨5, ![n0, n1, n2, n3, n4]⟩ : Shape).ReducesTo [4] ⟨4, ![n0, n1, n2, n3]⟩) (hu : 0 < S_.numel)
    (a : Fin n0) (b : Fin n1) (c : Fin n2) (d : Fin n3) :
    Host.reduce (FloatOps.maximumf (F := Ideal) (φ := .f32)) x init h hu (ix4 a b c d)
      = Finset.univ.fold max (init (Shape.Idx.first hu)) (fun k : Fin n4 => x (ix5 a b c d k)) := by
  simp only [pointwise]

theorem rowTake_at (r : Fin 128) (i : Fin 8) : min (rowTake (ix3 r i 0)).toInt.toNat 127 = rs r.val + i.val := by
  pointwise [rowTake, rowIdx, rowStart]
  revert r i
  decide +kernel

theorem colIn_at (c k : Fin 64) : colIn (ix2 c k) = if inWin c.val k.val then 1#1 else 0#1 := by
  pointwise [colIn, colStart]
  revert c k
  decide +kernel

theorem offs_row (r : Fin 128) (c : Fin 64) (i : Fin 8) (k : Fin 64) : min (offs (ix5 r c i k 0)).toInt.toNat 14 = rs r.val + i.val + 7 - r.val := by
  pointwise [offs, rowOff, rowIdx, rowStart]
  clear c k
  revert r i
  decide +kernel

theorem offs_col (r : Fin 128) (c : Fin 64) (i : Fin 8) (k : Fin 64) : min (offs (ix5 r c i k 1)).toInt.toNat 30 = dcol c.val k.val := by
  pointwise [offs, colOff]
  clear r i
  revert c k
  decide +kernel

end Cert.Proof.NAR
end
-- ==== Proof.TabAt.lean ====
/- The three small tables, element by element. -/
module

public import proofs.«01_k».proof.Proof.RunTables
public import proofs.«01_k».proof.Proof.RefIx
public import Idealize.ShloMosaic.Lib.Pointwise

@[expose] public section

set_option maxRecDepth 16384

noncomputable section

namespace Cert.Proof.NA

open Cert.KernelIdeal Cert.KernelIdeal.Gen
open Idealize.ShloMosaic Idealize.ShloMosaic.TcCoe Idealize.ShloMosaic.Tactic

open Cert.Proof.NAR (inWin dcol dcol_le dcol_lt)

theorem log2e_named : (Named.named κ "log2e" 0x3FB8AA3B#32 : Ideal .f32) = (((Real.log 2)⁻¹ : ℝ) : EReal) := rfl
theorem scale_named : (Named.named κ "scale_log2e" 0x3E0293EE#32 : Ideal .f32) = (((11863283 / 134217728) * (Real.log 2)⁻¹ : ℝ) : EReal) := rfl
theorem mask_named : (Named.named κ "mask" 0xF149F2CA#32 : Ideal .f32) = ⊥ := rfl

theorem rowsTab_at (x) (h : Fin 8) (r : Fin 15) (c : Fin 31) : rowsTab (F := Ideal) x (ix3 h r c) = x (ix3 h r c) * (((Real.log 2)⁻¹ : ℝ) : EReal) := by
  pointwise [rowsTab, k0_pay2]
  exact congrArg (fun z : EReal => x (ix3 h r c) * z) log2e_named

theorem select_ite {α : Type} (p : Prop) [Decidable p] (a b : α) : Scalar.select (if p then 1#1 else 0#1) a b = if p then a else b := by
  by_cases p <;> simp [*, Scalar.select]

theorem slt_1024 : ∀ j : Fin 4608, IntOp.cmpi .slt (BitVec.ofNat 32 j.val) 1024#32 = if j.val < 1024 then 1#1 else 0#1 := by decide +kernel

theorem colTab_at (j : Fin 4608) : colTab (F := Ideal) (ix2 0 j)
    = if j.val < 1024 then (((11863283 / 134217728) * (Real.log 2)⁻¹ : ℝ) : EReal) else 1 := by
  pointwise [colTab, k0_pay3]
  rw [slt_1024, select_ite]
  exact congrArg (fun z : EReal => if j.val < 1024 then z else 1) scale_named

theorem pay4_at (f : Fin 65) (q : Fin 64) (l : Fin 128) : k0_pay4 (ix3 f q l) = if 64 ≤ l.val then 1#1 else 0#1 := by
  pointwise [k0_pay4]
  clear f q
  revert l
  decide +kernel
theorem pay5_at (f : Fin 65) (q : Fin 64) (l : Fin 128) : k0_pay5 (ix3 f q l) = BitVec.ofNat 32 (l.val % 64) := by
  pointwise [k0_pay5, k0_pay4]
  clear f q
  revert l
  decide +kernel
theorem pay6_at (f : Fin 65) (q : Fin 64) (l : Fin 128) : k0_pay6 (ix3 f q l) = if inWin q.val (l.val % 64) then 1#1 else 0#1 := by
  pointwise [k0_pay6]
  rw [pay5_at]
  clear f
  revert q l
  decide +kernel

theorem dcol_word : ∀ (q : Fin 64) (l : Fin 128), (Scalar.select (if 64 ≤ l.val then 1#1 else 0#1)
      (IntOp.addi (IntOp.addi (IntOp.minsi (15#32) (IntOp.maxsi (4294967281#32) (IntOp.subi (BitVec.ofNat 32 (l.val % 64)) (BitVec.ofNat 32 q.val)))) 15#32) 31#32)
      (IntOp.addi (IntOp.minsi (15#32) (IntOp.maxsi (4294967281#32) (IntOp.subi (BitVec.ofNat 32 (l.val % 64)) (BitVec.ofNat 32 q.val)))) 15#32))
    = BitVec.ofNat 32 (dcol q.val (l.val % 64) + 31 * (l.val / 64)) := by decide +kernel

theorem eq_word : ∀ (a f : Fin 65), IntOp.cmpi .eq (BitVec.ofNat 32 a.val) (BitVec.ofNat 32 f.val) = if a.val = f.val then 1#1 else 0#1 := by decide +kernel

theorem ite_and_bit (p r : Prop) [Decidable p] [Decidable r] : IntOp.andi (if p then 1#1 else 0#1) (if r then 1#1 else 0#1) = if p ∧ r then 1#1 else 0#1 := by
  by_cases p <;> by_cases r <;> simp [*, IntOp.andi]
theorem ite_or_bit (p r : Prop) [Decidable p] [Decidable r] : IntOp.ori (if p then 1#1 else 0#1) (if r then 1#1 else 0#1) = if p ∨ r then 1#1 else 0#1 := by
  by_cases p <;> by_cases r <;> simp [*, IntOp.ori]
theorem ite_not_bit (p : Prop) [Decidable p] : IntOp.xori (if p then 1#1 else 0#1) 1#1 = if ¬ p then 1#1 else 0#1 := by
  by_cases p <;> simp [*, IntOp.xori]
theorem dsec_lt (q : Fin 64) (l : Fin 128) : dcol q.val (l.val % 64) + 31 * (l.val / 64) < 62 := by
  have := dcol_le q.val (l.val % 64)
  have := l.isLt
  omega

theorem pay7_at (f : Fin 65) (q : Fin 64) (l : Fin 128) : k0_pay7 (ix3 f q l)
    = if dcol q.val (l.val % 64) + 31 * (l.val / 64) = f.val ∧ inWin q.val (l.val % 64) then 1#1 else 0#1 := by
  pointwise [k0_pay7]
  rw [pay4_at, pay5_at, pay6_at, dcol_word]
  have := dsec_lt q l
  rw [eq_word ⟨dcol q.val (l.val % 64) + 31 * (l.val / 64), by omega⟩ f, ite_and_bit]

theorem eq_lit (f : Fin 65) : IntOp.cmpi .eq (BitVec.ofNat 32 f.val) 62#32 = (if f.val = 62 then 1#1 else 0#1)
    ∧ IntOp.cmpi .eq (BitVec.ofNat 32 f.val) 63#32 = (if f.val = 63 then 1#1 else 0#1)
    ∧ IntOp.cmpi .eq (BitVec.ofNat 32 f.val) 64#32 = (if f.val = 64 then 1#1 else 0#1) :=
  ⟨eq_word f 62, eq_word f 63, eq_word f 64⟩

theorem pay8_at (f : Fin 65) (q : Fin 64) (l : Fin 128) : k0_pay8 (ix3 f q l)
    = if ((f.val = 62 ∧ ¬ 64 ≤ l.val) ∨ (f.val = 63 ∧ 64 ≤ l.val)) ∨ (f.val = 64 ∧ ¬ inWin q.val (l.val % 64)) then 1#1 else 0#1 := by
  pointwise [k0_pay8]
  rw [pay4_at, pay6_at, (eq_lit f).1, (eq_lit f).2.1, (eq_lit f).2.2, ite_not_bit, ite_not_bit, ite_and_bit, ite_and_bit, ite_and_bit, ite_or_bit, ite_or_bit]

theorem rhsTab_at (f : Fin 65) (q : Fin 64) (l : Fin 128) : rhsTab (F := Ideal) (ix3 f q l)
    = if dcol q.val (l.val % 64) + 31 * (l.val / 64) = f.val ∧ inWin q.val (l.val % 64) then 1
      else if ((f.val = 62 ∧ ¬ 64 ≤ l.val) ∨ (f.val = 63 ∧ 64 ≤ l.val)) ∨ (f.val = 64 ∧ ¬ inWin q.val (l.val % 64)) then ⊥ else 0 := by
  pointwise [rhsTab, k0_pay1]
  rw [pay7_at, pay8_at, select_ite, select_ite]
  exact congrArg (fun z : EReal => if dcol q.val (l.val % 64) + 31 * (l.val / 64) = f.val ∧ inWin q.val (l.val % 64) then 1
      else if ((f.val = 62 ∧ ¬ 64 ≤ l.val) ∨ (f.val = 63 ∧ 64 ≤ l.val)) ∨ (f.val = 64 ∧ ¬ inWin q.val (l.val % 64)) then z else 0) mask_named

theorem sum_bot {I : Type} [DecidableEq I] (s : Finset I) (f : I → EReal) (i : I) (hi : i ∈ s) (h : f i = ⊥) : ∑ j ∈ s, f j = ⊥ := by
  rw [← Finset.add_sum_erase s f hi, h, EReal.bot_add]

/-- One element of the bias product: the one row the keys' column picks, or −∞ where the key is outside the window. -/
theorem bias_sum (g : Fin 65 → EReal) (q : Fin 64) (l : Fin 128) (out : Prop) [Decidable out] (h64 : g 64 = 1)
    (hg : g ⟨62 + l.val / 64, by have := l.isLt; omega⟩ = if out then 1 else 0) :
    ∑ f : Fin 65, g f * rhsTab (F := Ideal) (ix3 f q l)
      = if inWin q.val (l.val % 64) ∧ ¬ out then g ⟨dcol q.val (l.val % 64) + 31 * (l.val / 64), by have := dsec_lt q l; omega⟩ else ⊥ := by
  have hl := l.isLt
  have hd := dsec_lt q l
  by_cases hw : inWin q.val (l.val % 64)
  · by_cases ho : out
    · rw [if_neg (fun h => h.2 ho)]
      refine sum_bot _ _ ⟨62 + l.val / 64, by omega⟩ (Finset.mem_univ _) ?_
      rw [hg, if_pos ho, one_mul, rhsTab_at, if_neg (fun h => by have := h.1; dsimp only at this; omega), if_pos (by dsimp only; omega)]
    · rw [if_pos ⟨hw, ho⟩]
      rw [Finset.sum_eq_single (⟨dcol q.val (l.val % 64) + 31 * (l.val / 64), by omega⟩ : Fin 65)]
      · rw [rhsTab_at, if_pos ⟨rfl, hw⟩, mul_one]
      · intro f _ hf
        rw [rhsTab_at, if_neg (fun h => hf (Fin.ext h.1.symm))]
        by_cases hm : ((f.val = 62 ∧ ¬ 64 ≤ l.val) ∨ (f.val = 63 ∧ 64 ≤ l.val)) ∨ (f.val = 64 ∧ ¬ inWin q.val (l.val % 64))
        · rcases hm with hm | hm
          · rw [show f = ⟨62 + l.val / 64, by omega⟩ from Fin.ext (by dsimp only; omega), hg, if_neg ho, zero_mul]
          · exact absurd hw hm.2
        · rw [if_neg hm, mul_zero]
      · intro h
        exact absurd (Finset.mem_univ _) h
  · rw [if_neg (fun h => hw h.1)]
    refine sum_bot _ _ 64 (Finset.mem_univ _) ?_
    rw [h64, one_mul, rhsTab_at, if_neg (fun h => hw h.2), if_pos (Or.inr ⟨rfl, hw⟩)]

end Cert.Proof.NA
end
-- ==== Proof.BiasAt.lean ====
/- The bias of the attention call, element by element. -/
module

public import proofs.«01_k».proof.Proof.HostParts
public import proofs.«01_k».proof.Proof.TabAt

@[expose] public section

set_option maxRecDepth 16384

noncomputable section

namespace Cert.Proof.NA

open Cert.KernelIdeal Cert.KernelIdeal.Gen
open Idealize.ShloMosaic Idealize.ShloMosaic.TcCoe Idealize.ShloMosaic.Tactic
open Cert.Proof.NAR (inWin dcol dcol_le dcol_lt rs rs_le)

/-- Which of the three table sets a block of rows takes. -/
abbrev varOf (b : ℕ) : ℕ := if b = 0 then 0 else if b = 31 then 2 else 1
/-- The place of a tile half in the constants. -/
abbrev place (b rq pc : ℕ) : ℕ := (varOf b * 4 + rq) * 12 + pc
/-- The key row `pc` rows below the first staged row is in the window of query row `rq` of the block. -/
abbrev rowIn (b rq pc : ℕ) : Prop := rs (4 * b + rq) + 4 ≤ 4 * b + pc ∧ 4 * b + pc < rs (4 * b + rq) + 12

theorem varOf_le (b : ℕ) : varOf b ≤ 2 := by unfold varOf; split_ifs <;> omega
theorem place_lt (b : ℕ) (rq : Fin 4) (pc : Fin 12) : place b rq.val pc.val < 144 := by
  have := varOf_le b
  have := rq.isLt
  have := pc.isLt
  unfold place
  omega

theorem lit0_at : ∀ (b : Fin 32) (rq : Fin 4) (pc : Fin 12), (lit0 ⟨place b.val rq.val pc.val, place_lt _ _ _⟩).toNat
    = if rowIn b.val rq.val pc.val then pc.val + 3 - rq.val else 15 := by decide +kernel
theorem lit1_at : ∀ (b : Fin 32) (rq : Fin 4) (pc : Fin 12), lit1 ⟨place b.val rq.val pc.val, place_lt _ _ _⟩
    = if rowIn b.val rq.val pc.val then 0#32 else 0x3F800000#32 := by decide +kernel

theorem take_at : ∀ n : Fin 144, min (drTake (ix2 n 0)).toInt.toNat 15 = (lit0 n).toNat := by
  intro n
  pointwise [drTake, dr]
  revert n
  decide +kernel
theorem ok_at : ∀ n : Fin 144, drOk (ix1 n) = 1#1 := by
  intro n
  pointwise [drOk, drTake, dr]
  revert n
  decide +kernel
theorem rowMajor72 : ∀ (t : Fin 72) (s : Fin 2), S72x2.rowMajor (ix2 t s) = ⟨t.val * 2 + s.val, by have := t.isLt; have := s.isLt; show _ < 144; omega⟩ := by decide +kernel
theorem flags_at (t : Fin 72) (s : Fin 2) : flags (ix2 t s) = Ideal.ofBits .f32 (lit1 ⟨t.val * 2 + s.val, by have := t.isLt; have := s.isLt; omega⟩) := by
  exact congrArg (fun n => Ideal.ofBits .f32 (lit1 n)) (rowMajor72 t s)

theorem rowTake (x : FVec Ideal S8x16x31 .f32) (o : IVec S144x1 32) (h : Fin 8) (n : Fin 144) (c : Fin 31) :
    Host.gather gather_S8x16x31_S144x1_S8x144x31_02_1_n_n_1_1_8131 x o (ix3 h n c) = x (ix3 h ⟨min (o (ix2 n 0)).toInt.toNat 15, by omega⟩ c) := by
  refine congrArg x ?_
  funext a
  fin_cases a <;> refine Fin.ext ?_
  · exact Nat.zero_add h.val
  · refine congrArg (fun z : S144x1.Idx => min (o z).toInt.toNat 15) (?_ : _ = ix2 n 0)
    funext a
    fin_cases a <;> rfl
  · exact Nat.zero_add c.val

theorem lit0_lt : ∀ n : Fin 144, (lit0 n).toNat < 16 := by decide +kernel

theorem padded_at (x : FVec Ideal S8x15x31 .f32) (h : Fin 8) (r : Fin 16) (c : Fin 31) : padded x (ix3 h r c) = if hr : r.val < 15 then x (ix3 h ⟨r.val, hr⟩ c) else 0 := by
  pointwise [padded]

theorem picked_at (x : FVec Ideal S8x15x31 .f32) (h : Fin 8) (n : Fin 144) (c : Fin 31) : picked x (ix3 h n c) = padded x (ix3 h ⟨(lit0 n).toNat, lit0_lt n⟩ c) := by
  pointwise [picked, taken]
  rw [ok_at, rowTake]
  show padded x (ix3 h _ c) = _
  exact congrArg (fun r => padded x (ix3 h r c)) (Fin.ext (take_at n))

theorem feats_at (x : FVec Ideal S8x144x31 .f32) (h : Fin 8) (t : Fin 72) (f : Fin 65) : feats x (ix3 h t f)
    = if hf : f.val < 62 then x (ix3 h ⟨2 * t.val + f.val / 31, by have := t.isLt; omega⟩ ⟨f.val % 31, by omega⟩)
      else if hg : f.val < 64 then flags (ix2 t ⟨f.val - 62, by omega⟩) else 1 := by
  pointwise [feats]
  by_cases h0 : f.val < 62
  · rw [dif_pos h0, dif_pos h0]
    exact congrArg (fun r => x (ix3 h r ⟨f.val % 31, by omega⟩)) (Fin.ext (by show t.val * 2 + f.val / 31 = 2 * t.val + f.val / 31; omega))
  · rw [dif_neg h0, dif_neg h0]
    by_cases h1 : f.val < 64
    · rw [dif_pos h1, dif_pos (by omega)]
    · rw [dif_neg h1, dif_neg (by omega)]

theorem lhs_at (f : FVec Ideal S8x72x65 .f32) (n : Fin 576) (g : Fin 65) : lhs f (ix2 n g)
    = f (ix3 ⟨n.val / 24 % 8, by omega⟩ ⟨n.val / 192 * 24 + n.val % 24, by have := n.isLt; omega⟩ g) := by
  pointwise [lhs]

theorem tiles_at (l : FVec Ideal S576x65 .f32) (r : FVec Ideal S65x64x128 .f32) (v : Fin 3) (h : Fin 8) (rq : Fin 4) (p : Fin 6) (q : Fin 64) (z : Fin 128) :
    tiles l r (ix6 v h rq p q z) = ∑ f : Fin 65, l (ix2 ⟨(v.val * 8 + h.val) * 24 + rq.val * 6 + p.val, by
        have := v.isLt
        have := h.isLt
        have := rq.isLt
        have := p.isLt
        omega⟩ f) * r (ix3 f q z) := by
  pointwise [tiles]
  refine Finset.sum_congr rfl fun f _ => congrArg (fun n => l (ix2 n f) * r (ix3 f q z)) (Fin.ext ?_)
  show v.val * 192 + h.val * 24 + rq.val * 6 + p.val = (v.val * 8 + h.val) * 24 + rq.val * 6 + p.val
  omega

theorem scaled_at (x : FVec Ideal S8192x4608 .f32) (s : FVec Ideal S1x4608 .f32) (n : Fin 8192) (j : Fin 4608) : scaled x s (ix2 n j) = x (ix2 n j) * s (ix2 0 j) := by
  pointwise [scaled]

theorem one_word : Ideal.ofBits .f32 0x3F800000#32 = 1 := by
  simp [Ideal.ofBits, Ideal.ieee, -EReal.coe_mul]; norm_num
theorem zero_word : Ideal.ofBits .f32 0x00000000#32 = 0 := by
  simp [Ideal.ofBits, Ideal.ieee]

/-- The bias of one query and one staged key: the position bias over `log 2` where the key is in the window, −∞ elsewhere. -/
theorem bias_at (x : FVec Ideal S8x15x31 .f32) (h : Fin 8) (b : Fin 32) (rq : Fin 4) (p : Fin 6) (q : Fin 64) (z : Fin 128) :
    tiles (lhs (feats (picked (rowsTab x)))) (rhsTab (F := Ideal)) (ix6 ⟨varOf b.val, by have := varOf_le b.val; omega⟩ h rq p q z)
      = if inWin q.val (z.val % 64) ∧ rowIn b.val rq.val (2 * p.val + z.val / 64) then
          x (ix3 h ⟨min 14 (2 * p.val + z.val / 64 + 3 - rq.val), by omega⟩ ⟨dcol q.val (z.val % 64), dcol_lt _ _⟩) * (((Real.log 2)⁻¹ : ℝ) : EReal) else ⊥ := by
  have hv := varOf_le b.val
  have hh := h.isLt
  have hrq := rq.isLt
  have hp := p.isLt
  have hz := z.isLt
  have hd := dcol_le q.val (z.val % 64)
  have hpl := place_lt b rq ⟨2 * p.val + z.val / 64, by omega⟩
  have ht : varOf b.val * 24 + rq.val * 6 + p.val < 72 := by omega
  have key : ∀ f : Fin 65, lhs (feats (picked (rowsTab (F := Ideal) x))) (ix2 ⟨(varOf b.val * 8 + h.val) * 24 + rq.val * 6 + p.val, by omega⟩ f)
      = feats (picked (rowsTab (F := Ideal) x)) (ix3 h ⟨varOf b.val * 24 + rq.val * 6 + p.val, ht⟩ f) := by
    intro f
    rw [lhs_at]
    exact congrArg₂ (fun a c => feats (picked (rowsTab (F := Ideal) x)) (ix3 a c f)) (Fin.ext (by dsimp only; omega)) (Fin.ext (by dsimp only; omega))
  rw [tiles_at, bias_sum (fun f => lhs (feats (picked (rowsTab (F := Ideal) x))) (ix2 ⟨(varOf b.val * 8 + h.val) * 24 + rq.val * 6 + p.val, by omega⟩ f)) q z
    (¬ rowIn b.val rq.val (2 * p.val + z.val / 64))]
  · by_cases hc : inWin q.val (z.val % 64) ∧ rowIn b.val rq.val (2 * p.val + z.val / 64)
    · rw [if_pos hc, if_pos ⟨hc.1, not_not.mpr hc.2⟩]
      rw [key, feats_at, dif_pos (by dsimp only; omega), picked_at]
      have hl := lit0_at b rq ⟨2 * p.val + z.val / 64, by omega⟩
      rw [if_pos hc.2] at hl
      have hr := hc.2
      have e : (⟨2 * (varOf b.val * 24 + rq.val * 6 + p.val) + (dcol q.val (z.val % 64) + 31 * (z.val / 64)) / 31, by omega⟩ : Fin 144)
          = ⟨place b.val rq.val (2 * p.val + z.val / 64), hpl⟩ := Fin.ext (by unfold place; dsimp only; omega)
      have e2 : (⟨(dcol q.val (z.val % 64) + 31 * (z.val / 64)) % 31, by omega⟩ : Fin 31) = ⟨dcol q.val (z.val % 64), dcol_lt _ _⟩ := Fin.ext (by dsimp only; omega)
      have hlt : 2 * p.val + z.val / 64 + 3 - rq.val < 15 := by
        have := lit0_lt ⟨place b.val rq.val (2 * p.val + z.val / 64), hpl⟩
        have hb := b.isLt
        unfold rowIn rs at hr
        omega
      rw [e, e2, padded_at]
      dsimp only at hl ⊢
      rw [dif_pos (by omega), rowsTab_at]
      exact congrArg (fun r => x (ix3 h r ⟨dcol q.val (z.val % 64), dcol_lt _ _⟩) * (((Real.log 2)⁻¹ : ℝ) : EReal)) (Fin.ext (by dsimp only; omega))
    · rw [if_neg hc, if_neg (fun k => hc ⟨k.1, not_not.mp k.2⟩)]
  · rw [key, feats_at, dif_neg (by decide), dif_neg (by decide)]
  · rw [key, feats_at, dif_neg (by dsimp only; omega), dif_pos (by dsimp only; omega), flags_at]
    have hl := lit1_at b rq ⟨2 * p.val + z.val / 64, by omega⟩
    have e : (⟨(varOf b.val * 24 + rq.val * 6 + p.val) * 2 + (62 + z.val / 64 - 62), by omega⟩ : Fin 144)
        = ⟨place b.val rq.val (2 * p.val + z.val / 64), hpl⟩ := Fin.ext (by unfold place; dsimp only; omega)
    dsimp only at hl ⊢
    rw [e, hl]
    split_ifs with hr
    · exact zero_word
    · exact one_word

end Cert.Proof.NA
end
-- ==== Proof.RegionTabs.lean ====
/- What the tables' call leaves: the three tables of the position bias. -/
module

public import proofs.«01_k».proof.Proof.Regs
public import Idealize.ShloMosaic.Lib.Pointwise
public import Idealize.ShloMosaic.Lib.Pipeline.ValueKit

@[expose] public section

set_option maxRecDepth 16384

noncomputable section

namespace Cert.Proof.NA

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation cellOf)

variable (V : Val (F := Ideal))

theorem ix_0 : ∀ t : Fin cfg0.grid.N, ∀ a, win0_0.index t a = 0 := by decide +kernel
theorem ix_1 : ∀ t : Fin cfg0.grid.N, ∀ a, win0_1.index t a = 0 := by decide +kernel
theorem ix_2 : ∀ t : Fin cfg0.grid.N, ∀ a, win0_2.index t a = 0 := by decide +kernel
theorem ix_3 : ∀ t : Fin cfg0.grid.N, ∀ a, win0_3.index t a = 0 := by decide +kernel

theorem blk0_whole (c : Dev nD) (t : Fin cfg0.N) : blkOf (cfg := cfg0) (c := c) 0 (V c main_arg1) t = V c main_arg1 := by
  funext y
  have hm : (cfg0.win 0).moved (cfg0.grid.coords t) y = true := ((cfg0.win 0).moved_iff _ _).mpr fun b => (y b).isLt
  show (cfg0.win 0).fill _ _ _ _ = _
  unfold Pipeline.Window.fill
  rw [dif_pos hm, View.read_apply]
  refine congrArg (V c main_arg1) (funext fun b => Fin.ext ?_)
  blk_simp
  rw [ix_0 t b, Nat.zero_mul, Nat.zero_add]

theorem tabs_1 (c : Dev nD) : (dat0 V c).arrAt 1 cfg0.N = rhsTab (F := Ideal) := by
  refine (dat0 V c).arrAt_eq_of_covers 1 _ (by decide +kernel) fun t hf y => ?_
  blk_simp
  refine congrArg (rhsTab (F := Ideal)) (funext fun b => Fin.ext ?_)
  blk_simp
  rw [ix_1 t b, Nat.zero_mul, Nat.zero_add]
theorem tabs_2 (c : Dev nD) : (dat0 V c).arrAt 2 cfg0.N = rowsTab (F := Ideal) (V c main_arg1) := by
  refine (dat0 V c).arrAt_eq_of_covers 2 _ (by decide +kernel) fun t hf y => ?_
  blk_simp
  show rowsTab (F := Ideal) (blkOf (cfg := cfg0) (c := c) 0 (V c main_arg1) t) _ = _
  rw [blk0_whole]
  refine congrArg (rowsTab (F := Ideal) (V c main_arg1)) (funext fun b => Fin.ext ?_)
  blk_simp
  rw [ix_2 t b, Nat.zero_mul, Nat.zero_add]
theorem tabs_3 (c : Dev nD) : (dat0 V c).arrAt 3 cfg0.N = colTab (F := Ideal) := by
  refine (dat0 V c).arrAt_eq_of_covers 3 _ (by decide +kernel) fun t hf y => ?_
  blk_simp
  refine congrArg (colTab (F := Ideal)) (funext fun b => Fin.ext ?_)
  blk_simp
  rw [ix_3 t b, Nat.zero_mul, Nat.zero_add]

variable (m : (ℓ : Loc nD τ sig) → Buf (Elt Ideal) ℓ)

theorem W2_rhs (c : Dev nD) : W2 m c main_v0_0 = rhsTab (F := Ideal) := by
  unfold W2
  rw [Function.update_of_ne (StableHlo.devRef_ne_of_ne (by decide)), Function.update_of_ne (StableHlo.devRef_ne_of_ne (by decide)), Function.update_self]
  exact tabs_1 _ c
theorem W2_rows (c : Dev nD) : W2 m c main_v0_1 = rowsTab (F := Ideal) (m ((c : Thread nD τ).loc main_arg1)) := by
  unfold W2
  rw [Function.update_of_ne (StableHlo.devRef_ne_of_ne (by decide)), Function.update_self]
  exact tabs_2 _ c
theorem W2_cols (c : Dev nD) : W2 m c main_v0_2 = colTab (F := Ideal) := by
  unfold W2
  rw [Function.update_self]
  exact tabs_3 _ c

end Cert.Proof.NA
end
-- ==== Proof.RefAt.lean ====
/- The reference's parts, each read at an index. -/
module

public import proofs.«01_k».proof.Proof.RefIx

@[expose] public section

set_option maxRecDepth 16384

noncomputable section

namespace Cert.Proof.NAR

open Cert.ReferenceIdeal Cert.ReferenceIdeal.Gen
open Idealize.ShloMosaic Idealize.ShloMosaic.TcCoe Idealize.ShloMosaic.Tactic

theorem rowsOf_at (x) (r : Fin 128) (k : Fin 64) (h i : Fin 8) (d : Fin 128) :
    rowsOf x (ix6 0 r i k h d) = x (ix5 0 ⟨rs r.val + i.val, row_lt _ _⟩ k h d) := by
  refine congrArg x ?_
  funext a
  fin_cases a <;> refine Fin.ext ?_
  · rfl
  · exact rowTake_at r i
  · exact Nat.zero_add k.val
  · exact Nat.zero_add h.val
  · exact Nat.zero_add d.val

theorem biasTake (b : FVec Ideal S8x15x31 .f32) (o : IVec S128x64x8x64x2 32) (r : Fin 128) (c k : Fin 64) (h i : Fin 8) :
    Host.gather gather_S8x15x31_S128x64x8x64x2_S8x128x64x8x64_0_12_n_n_12_4_811 b o (ix5 h r c i k)
      = b (ix3 h ⟨min (o (ix5 r c i k 0)).toInt.toNat 14, by omega⟩ ⟨min (o (ix5 r c i k 1)).toInt.toNat 30, by omega⟩) := by
  refine congrArg b ?_
  funext a
  fin_cases a <;> refine Fin.ext ?_
  · exact Nat.zero_add h.val
  · refine congrArg (fun z : S128x64x8x64x2.Idx => min (o z).toInt.toNat 14) (?_ : _ = ix5 r c i k 0)
    funext a
    fin_cases a <;> rfl
  · refine congrArg (fun z : S128x64x8x64x2.Idx => min (o z).toInt.toNat 30) (?_ : _ = ix5 r c i k 1)
    funext a
    fin_cases a <;> rfl

theorem biasTake_at (b : FVec Ideal S8x15x31 .f32) (r : Fin 128) (c k : Fin 64) (h i : Fin 8) :
    Host.gather gather_S8x15x31_S128x64x8x64x2_S8x128x64x8x64_0_12_n_n_12_4_811 b offs (ix5 h r c i k)
      = b (ix3 h ⟨rs r.val + i.val + 7 - r.val, drow_lt _ _⟩ ⟨dcol c.val k.val, dcol_lt _ _⟩) := by
  rw [biasTake]
  exact congrArg b (congrArg₂ (ix3 h) (Fin.ext (offs_row r c i k)) (Fin.ext (offs_col r c i k)))

theorem part_at (o : ℕ) (ho : o + 1024 ≤ 4608) (hs) (x : FVec Ideal S8192x4608 .f32) (r : Fin 128) (c : Fin 64) (h : Fin 8) (d : Fin 128) :
    part o hs x (ix5 0 r c h d) = x (ix2 ⟨r.val * 64 + c.val, by have := r.isLt; have := c.isLt; omega⟩ ⟨o + (h.val * 128 + d.val), by have := h.isLt; have := d.isLt; omega⟩) := by
  pointwise [part]

theorem biasOf_at (b : FVec Ideal S8x15x31 .f32) (r : Fin 128) (c k : Fin 64) (h i : Fin 8) :
    biasOf b (ix5 h r c i k) = if inWin c.val k.val then
      b (ix3 h ⟨rs r.val + i.val + 7 - r.val, drow_lt _ _⟩ ⟨dcol c.val k.val, dcol_lt _ _⟩) else ⊥ := by
  pointwise [biasOf]
  rw [colIn_at, biasTake_at]
  split <;> simp [Scalar.select, constant, neg_inf]

/-- The score of one query and one key. -/
def score (x : FVec Ideal S8192x4608 .f32) (b : FVec Ideal S8x15x31 .f32) (h : Fin 8) (r : Fin 128) (c : Fin 64) (i : Fin 8) (k : Fin 64) : EReal :=
  (∑ d : Fin 128, x (ix2 ⟨r.val * 64 + c.val, by have := r.isLt; have := c.isLt; omega⟩ ⟨h.val * 128 + d.val, by have := h.isLt; have := d.isLt; omega⟩)
      * x (ix2 ⟨(rs r.val + i.val) * 64 + k.val, by have := row_lt r.val i; have := k.isLt; omega⟩ ⟨1024 + (h.val * 128 + d.val), by have := h.isLt; have := d.isLt; omega⟩))
    * ((11863283 / 134217728 : ℝ) : EReal)
  + if inWin c.val k.val then
      b (ix3 h ⟨rs r.val + i.val + 7 - r.val, drow_lt _ _⟩ ⟨dcol c.val k.val, dcol_lt _ _⟩) else ⊥

theorem scale_word : Ideal.ofBits .f32 0x3DB504F3#32 = ((11863283 / 134217728 : ℝ) : EReal) := by
  simp [Ideal.ofBits, Ideal.ieee, -EReal.coe_mul]; norm_num

theorem scores_at (x b) (r : Fin 128) (c k : Fin 64) (h i : Fin 8) : scores x b (ix6 0 h r c i k) = score x b h r c i k := by
  pointwise [scores]
  simp only [rowsOf_at, biasOf_at]
  simp only [part_at 0 (by omega), part_at 1024 (by omega), Nat.zero_add]
  rw [show Ideal.ofBits .f32 1035273459#32 = _ from scale_word]
  rfl

theorem rowMax_at (s : FVec Ideal S1x8x128x64x512 .f32) (r : Fin 128) (c : Fin 64) (h : Fin 8) :
    rowMax s (ix4 0 h r c) = Finset.univ.fold max ⊥ (fun k : Fin 512 => s (ix5 0 h r c k)) := by
  unfold rowMax
  rw [reduceMax5]
  exact congrArg (fun z => Finset.univ.fold max z _) neg_inf

theorem less_at (s : FVec Ideal S1x8x128x64x512 .f32) (m) (r : Fin 128) (c : Fin 64) (h : Fin 8) (k : Fin 512) :
    less s m (ix5 0 h r c k) = Ideal.exp (s (ix5 0 h r c k) - m (ix4 0 h r c)) := by
  pointwise [less]
  rw [show Ideal.ofBits .f32 4286578688#32 = _ from neg_inf, max_eq_right bot_le]

theorem exps_at (s : FVec Ideal S1x8x128x64x512 .f32) (r : Fin 128) (c : Fin 64) (h : Fin 8) (k : Fin 512) :
    exps s (ix5 0 h r c k) = Ideal.exp (s (ix5 0 h r c k) - Finset.univ.fold max ⊥ (fun k : Fin 512 => s (ix5 0 h r c k))) :=
  (less_at s (rowMax s) r c h k).trans (by rw [rowMax_at])

theorem weights_at (s) (r : Fin 128) (c k : Fin 64) (h i : Fin 8) : weights s (ix6 0 h r c i k)
    = Ideal.div (s (ix5 0 h r c ⟨i.val * 64 + k.val, by have := i.isLt; have := k.isLt; omega⟩)) (∑ x : Fin 512, s (ix5 0 h r c x)) := by
  pointwise [weights]

theorem lined_at (s) (r : Fin 128) (c : Fin 64) (h : Fin 8) (x : Fin 512) : lined s (ix5 0 h r c x)
    = s (ix6 0 h r c ⟨x.val / 64, by have := x.isLt; omega⟩ ⟨x.val % 64, by omega⟩) := by
  pointwise [lined]

theorem mixed_at (x w) (n : Fin 8192) (j : Fin 1024) : mixed x w (ix2 n j)
    = ∑ i : Fin 8, ∑ k : Fin 64, x (ix2 ⟨(rs (n.val / 64) + i.val) * 64 + k.val, by have := row_lt (n.val / 64) i; have := k.isLt; omega⟩ ⟨2048 + j.val, by have := j.isLt; omega⟩)
        * w (ix6 0 ⟨j.val / 128, by have := j.isLt; omega⟩ ⟨n.val / 64, by have := n.isLt; omega⟩ ⟨n.val % 64, by omega⟩ i k) := by
  pointwise [mixed]
  refine Finset.sum_congr rfl fun i _ => Finset.sum_congr rfl fun k _ => ?_
  rw [rowsOf_at, part_at 2048 (by omega)]
  congr 3
  refine Fin.ext ?_
  show 2048 + (j.val / 128 * 128 + j.val % 128) = 2048 + j.val
  omega

end Cert.Proof.NAR
end
-- ==== Proof.RefOut.lean ====
/- The reference's result at an index. -/
module

public import proofs.«01_k».proof.Proof.RefAt

@[expose] public section

set_option maxRecDepth 16384

noncomputable section

namespace Cert.Proof.NAR

open Cert.ReferenceIdeal Cert.ReferenceIdeal.Gen
open Idealize.ShloMosaic Idealize.ShloMosaic.TcCoe Idealize.ShloMosaic.Tactic

/-- The scores of one query in a line. -/
def line (x : FVec Ideal S8192x4608 .f32) (b : FVec Ideal S8x15x31 .f32) (h : Fin 8) (r : Fin 128) (c : Fin 64) (y : Fin 512) : EReal :=
  score x b h r c ⟨y.val / 64, by have := y.isLt; omega⟩ ⟨y.val % 64, by omega⟩

/-- The value a key of the line carries. -/
def lineV (x : FVec Ideal S8192x4608 .f32) (n : Fin 8192) (j : Fin 1024) (y : Fin 512) : EReal :=
  x (ix2 ⟨(rs (n.val / 64) + y.val / 64) * 64 + y.val % 64, by have := row_lt (n.val / 64) ⟨y.val / 64, by have := y.isLt; omega⟩; simp only at this; omega⟩ ⟨2048 + j.val, by have := j.isLt; omega⟩)

theorem lined_scores (x b) (h : Fin 8) (r : Fin 128) (c : Fin 64) (y : Fin 512) : lined (scores x b) (ix5 0 h r c y) = line x b h r c y := by
  rw [lined_at, scores_at]
  rfl

theorem sum_line {M : Type} [AddCommMonoid M] (f : Fin 512 → M) :
    ∑ i : Fin 8, ∑ k : Fin 64, f ⟨i.val * 64 + k.val, by have := i.isLt; have := k.isLt; omega⟩ = ∑ y : Fin 512, f y := by
  rw [← Finset.sum_product']
  refine Finset.sum_bij' (fun p _ => (⟨p.1.val * 64 + p.2.val, by have := p.1.isLt; have := p.2.isLt; omega⟩ : Fin 512))
    (fun y _ => (⟨y.val / 64, by have := y.isLt; omega⟩, ⟨y.val % 64, by omega⟩)) (fun _ _ => Finset.mem_univ _) (fun _ _ => by simp) ?_ ?_ (fun _ _ => rfl)
  · rintro ⟨a, b⟩ _
    have := a.isLt
    have := b.isLt
    refine Prod.ext (Fin.ext ?_) (Fin.ext ?_)
    · show (a.val * 64 + b.val) / 64 = a.val
      omega
    · show (a.val * 64 + b.val) % 64 = b.val
      omega
  · intro y _
    refine Fin.ext ?_
    show y.val / 64 * 64 + y.val % 64 = y.val
    omega

/-- One element of the result: the values weighted by the softmax of the scores. -/
theorem refOf_at (x b) (n : Fin 8192) (j : Fin 1024) (s : Fin 512 → EReal)
    (hs : ∀ y, line x b ⟨j.val / 128, by have := j.isLt; omega⟩ ⟨n.val / 64, by have := n.isLt; omega⟩ ⟨n.val % 64, by omega⟩ y = s y) :
    refOf x b (ix2 n j) = ∑ y : Fin 512, lineV x n j y * Ideal.div (Ideal.exp (s y - Finset.univ.fold max ⊥ s)) (∑ z : Fin 512, Ideal.exp (s z - Finset.univ.fold max ⊥ s)) := by
  rw [← sum_line]
  unfold refOf
  rw [mixed_at]
  refine Finset.sum_congr rfl fun i _ => Finset.sum_congr rfl fun k _ => ?_
  have hi := i.isLt
  have hk := k.isLt
  rw [weights_at]
  simp only [exps_at, lined_scores, hs]
  refine congrArg₂ (· * ·) ?_ rfl
  unfold lineV
  congr 3
  show _ = (rs (n.val / 64) + (i.val * 64 + k.val) / 64) * 64 + (i.val * 64 + k.val) % 64
  rw [show (i.val * 64 + k.val) / 64 = i.val by omega, show (i.val * 64 + k.val) % 64 = k.val by omega]
end Cert.Proof.NAR
end
-- ==== Proof.Softmax.lean ====
/- Two softmaxes that agree: one with base two over more keys, one with base e. -/
module

public import Idealize.ShloMosaic.PureOps.Ideal

@[expose] public section

namespace Cert.Proof.Soft

open Idealize.ShloMosaic

theorem sum_mul_real {I : Type*} (s : Finset I) (f : I → EReal) (r : ℝ) (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih, mul_comm, EReal.left_distrib_of_nonneg_of_ne_top (by exact_mod_cast hr) (EReal.coe_ne_top r),
      mul_comm, mul_comm (r : EReal)]

theorem coe_sum {I : Type*} (s : Finset I) (f : I → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem foldMax_eq {I : Type*} (s : Finset I) (f : I → EReal) (M : EReal) (hle : ∀ i ∈ s, f i ≤ M) (hat : ∃ i ∈ s, f i = M) : s.fold max ⊥ f = M := by
  refine le_antisymm (Finset.fold_max_le M |>.mpr ⟨bot_le, hle⟩) ?_
  obtain ⟨i, hi, e⟩ := hat
  exact Finset.le_fold_max M |>.mpr (Or.inr ⟨i, hi, e.ge⟩)

theorem softmax_eq {I K : Type} [Fintype I] [Fintype K] (e : I → K) (he : Function.Injective e) (S v : I → EReal) (T v' : K → EReal)
    (hT : ∀ i, T (e i) = (((Real.log 2)⁻¹ : ℝ) : EReal) * S i) (hT' : ∀ k, k ∉ Set.range e → T k = ⊥) (hv : ∀ i, v' (e i) = v i)
    (hS : ∀ i, S i ≠ ⊤) (hne : ∃ i, S i ≠ ⊥) :
    Ideal.div (∑ k, Ideal.exp2 (T k - Finset.univ.fold max ⊥ T) * v' k) (∑ k, Ideal.exp2 (T k - Finset.univ.fold max ⊥ T) * 1)
      = ∑ i, v i * Ideal.div (Ideal.exp (S i - Finset.univ.fold max ⊥ S)) (∑ j, Ideal.exp (S j - Finset.univ.fold max ⊥ S)) := by
  have hlog : 0 < Real.log 2 := Real.log_pos (by norm_num)
  have hL : 0 < (Real.log 2)⁻¹ := inv_pos.mpr hlog
  set L := (Real.log 2)⁻¹ with hLdef
  obtain ⟨i1, hi1⟩ := hne
  obtain ⟨i0, -, hi0⟩ := Finset.exists_max_image Finset.univ S ⟨i1, Finset.mem_univ _⟩
  have hb : S i0 ≠ ⊥ := fun h => hi1 (le_bot_iff.mp (h ▸ hi0 i1 (Finset.mem_univ _)))
  obtain ⟨m, hm⟩ : ∃ m : ℝ, S i0 = (m : EReal) := ⟨(S i0).toReal, (EReal.coe_toReal (hS i0) hb).symm⟩
  have hMS : Finset.univ.fold max ⊥ S = (m : EReal) := foldMax_eq _ _ _ (fun i hi => hm ▸ hi0 i hi) ⟨i0, Finset.mem_univ _, hm⟩
  have hMT : Finset.univ.fold max ⊥ T = ((L * m : ℝ) : EReal) := by
    refine foldMax_eq _ _ _ (fun k _ => ?_) ⟨e i0, Finset.mem_univ _, by rw [hT, hm, EReal.coe_mul]⟩
    by_cases hk : k ∈ Set.range e
    · obtain ⟨i, rfl⟩ := hk
      rw [hT, EReal.coe_mul]
      exact mul_le_mul_of_nonneg_left (hm ▸ hi0 i (Finset.mem_univ _)) (by exact_mod_cast hL.le)
    · rw [hT' k hk]
      exact bot_le
  rw [hMS, hMT]
  have hw : ∀ i, ∃ a : ℝ, 0 ≤ a ∧ Ideal.exp (S i - (m : EReal)) = (a : EReal) ∧ Ideal.exp2 (T (e i) - ((L * m : ℝ) : EReal)) = (a : EReal) := by
    intro i
    by_cases hi : S i = ⊥
    · refine ⟨0, le_rfl, ?_, ?_⟩
      · rw [hi, EReal.bot_sub]
        rfl
      · rw [hT, hi, EReal.coe_mul_bot_of_pos hL, EReal.bot_sub]
        rfl
    · obtain ⟨s, hs⟩ : ∃ s : ℝ, S i = (s : EReal) := ⟨(S i).toReal, (EReal.coe_toReal (hS i) hi).symm⟩
      refine ⟨Real.exp (s - m), (Real.exp_pos _).le, ?_, ?_⟩
      · rw [hs, ← EReal.coe_sub]
        exact Ideal.exp_coe _
      · rw [hT, hs, ← EReal.coe_mul, ← EReal.coe_sub, Ideal.exp2_coe]
        refine congrArg _ ?_
        show (2 : ℝ) ^ (L * s - L * m) = _
        rw [Real.rpow_def_of_pos (by norm_num), ← mul_sub, ← mul_assoc, hLdef, mul_inv_cancel₀ hlog.ne', one_mul]
  choose a ha hexp hexp2 using hw
  have hout : ∀ k, k ∉ Set.range e → Ideal.exp2 (T k - ((L * m : ℝ) : EReal)) = 0 := fun k hk => by
    rw [hT' k hk, EReal.bot_sub]
    rfl
  have h1 : ∑ k, Ideal.exp2 (T k - ((L * m : ℝ) : EReal)) * v' k = ∑ i, (a i : EReal) * v i :=
    (Fintype.sum_of_injective e he _ _ (fun k hk => by rw [hout k hk, zero_mul]) (fun i => by rw [hexp2, hv])).symm
  have h2 : ∑ k, Ideal.exp2 (T k - ((L * m : ℝ) : EReal)) * 1 = ((∑ i, a i : ℝ) : EReal) := by
    rw [coe_sum]
    exact (Fintype.sum_of_injective e he _ _ (fun k hk => by rw [hout k hk, zero_mul]) (fun i => by rw [hexp2, mul_one])).symm
  have h3 : ∑ j, Ideal.exp (S j - (m : EReal)) = ((∑ i, a i : ℝ) : EReal) := by
    rw [coe_sum]
    exact Finset.sum_congr rfl fun i _ => hexp i
  have ha0 : 0 < a i0 := by
    have := hexp i0
    rw [hm, ← EReal.coe_sub, Ideal.exp_coe] at this
    rw [← EReal.coe_eq_coe_iff.mp this]
    exact Real.exp_pos _
  have hA : 0 < ∑ i, a i := Finset.sum_pos' (fun i _ => ha i) ⟨i0, Finset.mem_univ _, ha0⟩
  rw [h1, h2, h3, Ideal.div_coe hA.ne', sum_mul_real _ _ _ (by positivity)]
  refine Finset.sum_congr rfl fun i _ => ?_
  rw [hexp, Ideal.div_coe hA.ne', mul_comm (a i : EReal), mul_assoc]

end Cert.Proof.Soft
-- ==== Proof.Scores.lean ====
/- One element of the attention's result is the reference's: the staged keys beside the window's keys. -/
module

public import proofs.«01_k».proof.Proof.HeadAt
public import proofs.«01_k».proof.Proof.ResAt
public import proofs.«01_k».proof.Proof.BiasAt
public import proofs.«01_k».proof.Proof.RegionTabs
public import proofs.«01_k».proof.Proof.RefOut
public import proofs.«01_k».proof.Proof.Softmax

@[expose] public section

set_option maxRecDepth 16384

noncomputable section

namespace Cert.Proof.NA

open Cert.KernelIdeal Cert.KernelIdeal.Gen
open Idealize.ShloMosaic Idealize.ShloMosaic.TcCoe Idealize.ShloMosaic.Tactic
open Cert.Proof.NAR (inWin dcol dcol_lt rs rs_le row_lt drow_lt cs)

/-! ## The staged keys -/

/-- The block of rows the `k`th staged block of point `t` is. -/
abbrev blkRow (t k : ℕ) : ℕ := if k = 0 then t - 1 else if k = 1 then t else min 31 (t + 1)
/-- The row of the staged key `k` of point `t`. -/
abbrev kRow (t k : ℕ) : ℕ := blkRow t (k / 256) * 256 + k % 256
theorem kRow_lt (t : Fin cfg1.N) (k : Fin 768) : kRow t.val k.val < 8192 := by
  have := pt_lt t
  have := k.isLt
  unfold kRow blkRow
  split_ifs <;> omega

variable (V : Val (F := Ideal))

theorem keys_at (c : Dev nD) (t : Fin cfg1.N) (h : Fin 8) (k : Fin 768) (x : Fin 128) :
    stack3 (View.ld (inBlk V c 1 t) (band h)) (View.ld (inBlk V c 2 t) (band h)) (View.ld (inBlk V c 3 t) (band h)) (ix2 k x)
      = V c main_v16 (ix2 ⟨kRow t.val k.val, kRow_lt t k⟩ ⟨1024 + (h.val * 128 + x.val), by have := h.isLt; have := x.isLt; omega⟩) := by
  rw [stack3_at]
  unfold pick3
  have hk := k.isLt
  have ht := pt_lt t
  by_cases h0 : k.val / 256 = 0
  · rw [if_pos h0, ld_band, inBlk_1]
    exact congrArg (fun r => V c main_v16 (ix2 r ⟨1024 + (h.val * 128 + x.val), by have := h.isLt; have := x.isLt; omega⟩))
      (Fin.ext (congrArg (fun z => z * 256 + k.val % 256) (if_pos h0).symm))
  · rw [if_neg h0]
    by_cases h1 : k.val / 256 = 1
    · rw [if_pos h1, ld_band, inBlk_2]
      exact congrArg (fun r => V c main_v16 (ix2 r ⟨1024 + (h.val * 128 + x.val), by have := h.isLt; have := x.isLt; omega⟩))
        (Fin.ext (congrArg (fun z => z * 256 + k.val % 256) ((if_neg h0).trans (if_pos h1)).symm))
    · rw [if_neg h1, ld_band, inBlk_3]
      exact congrArg (fun r => V c main_v16 (ix2 r ⟨1024 + (h.val * 128 + x.val), by have := h.isLt; have := x.isLt; omega⟩))
        (Fin.ext (congrArg (fun z => z * 256 + k.val % 256) ((if_neg h0).trans (if_neg h1)).symm))

theorem vals_at (c : Dev nD) (t : Fin cfg1.N) (h : Fin 8) (k : Fin 768) (x : Fin 128) :
    stack3 (View.ld (inBlk V c 4 t) (band h)) (View.ld (inBlk V c 5 t) (band h)) (View.ld (inBlk V c 6 t) (band h)) (ix2 k x)
      = V c main_v16 (ix2 ⟨kRow t.val k.val, kRow_lt t k⟩ ⟨2048 + (h.val * 128 + x.val), by have := h.isLt; have := x.isLt; omega⟩) := by
  rw [stack3_at]
  unfold pick3
  have hk := k.isLt
  have ht := pt_lt t
  by_cases h0 : k.val / 256 = 0
  · rw [if_pos h0, ld_band, inBlk_4]
    exact congrArg (fun r => V c main_v16 (ix2 r ⟨2048 + (h.val * 128 + x.val), by have := h.isLt; have := x.isLt; omega⟩))
      (Fin.ext (congrArg (fun z => z * 256 + k.val % 256) (if_pos h0).symm))
  · rw [if_neg h0]
    by_cases h1 : k.val / 256 = 1
    · rw [if_pos h1, ld_band, inBlk_5]
      exact congrArg (fun r => V c main_v16 (ix2 r ⟨2048 + (h.val * 128 + x.val), by have := h.isLt; have := x.isLt; omega⟩))
        (Fin.ext (congrArg (fun z => z * 256 + k.val % 256) ((if_neg h0).trans (if_pos h1)).symm))
    · rw [if_neg h1, ld_band, inBlk_6]
      exact congrArg (fun r => V c main_v16 (ix2 r ⟨2048 + (h.val * 128 + x.val), by have := h.isLt; have := x.isLt; omega⟩))
        (Fin.ext (congrArg (fun z => z * 256 + k.val % 256) ((if_neg h0).trans (if_neg h1)).symm))

/-! ## The window's keys among them -/

/-- The staged key the key `y` of query `n`'s window is. -/
def place512 (n : Fin 8192) (y : Fin 512) : Fin 768 :=
  ⟨(rs (n.val / 64) + y.val / 64 + 4 - 4 * (n.val / 256)) * 64 + y.val % 64, by
    have := n.isLt
    have := y.isLt
    unfold rs
    omega⟩
theorem place512_inj (n : Fin 8192) : Function.Injective (place512 n) := by
  intro y y' e
  have e' : (rs (n.val / 64) + y.val / 64 + 4 - 4 * (n.val / 256)) * 64 + y.val % 64 = (rs (n.val / 64) + y'.val / 64 + 4 - 4 * (n.val / 256)) * 64 + y'.val % 64 :=
    congrArg Fin.val e
  have := n.isLt
  refine Fin.ext ?_
  unfold rs at e'
  omega
theorem place512_row (n : Fin 8192) (y : Fin 512) : kRow (n.val / 256) (place512 n y).val = (rs (n.val / 64) + y.val / 64) * 64 + y.val % 64 := by
  have := n.isLt
  have := y.isLt
  show blkRow (n.val / 256) (((rs (n.val / 64) + y.val / 64 + 4 - 4 * (n.val / 256)) * 64 + y.val % 64) / 256) * 256 + _ = _
  show _ + ((rs (n.val / 64) + y.val / 64 + 4 - 4 * (n.val / 256)) * 64 + y.val % 64) % 256 = _
  unfold blkRow rs
  split_ifs <;> omega

/-- The key's row is in the window. -/
theorem place512_rowIn (n : Fin 8192) (y : Fin 512) : rowIn (n.val / 256) (n.val % 256 / 64) ((place512 n y).val / 64) := by
  have := n.isLt
  have := y.isLt
  have e : 4 * (n.val / 256) + n.val % 256 / 64 = n.val / 64 := by omega
  show rs (4 * (n.val / 256) + n.val % 256 / 64) + 4 ≤ 4 * (n.val / 256) + ((rs (n.val / 64) + y.val / 64 + 4 - 4 * (n.val / 256)) * 64 + y.val % 64) / 64
    ∧ 4 * (n.val / 256) + ((rs (n.val / 64) + y.val / 64 + 4 - 4 * (n.val / 256)) * 64 + y.val % 64) / 64 < rs (4 * (n.val / 256) + n.val % 256 / 64) + 12
  rw [e]
  unfold rs
  omega
theorem place512_of (n : Fin 8192) (k : Fin 768) (hr : rowIn (n.val / 256) (n.val % 256 / 64) (k.val / 64)) : k ∈ Set.range (place512 n) := by
  have hn := n.isLt
  have hk := k.isLt
  have e : 4 * (n.val / 256) + n.val % 256 / 64 = n.val / 64 := by omega
  have h1 : rs (n.val / 64) + 4 ≤ 4 * (n.val / 256) + k.val / 64 := by
    have h := hr.1
    rwa [e] at h
  have h2 : 4 * (n.val / 256) + k.val / 64 < rs (n.val / 64) + 12 := by
    have h := hr.2
    rwa [e] at h
  refine ⟨⟨(4 * (n.val / 256) + k.val / 64 - 4 - rs (n.val / 64)) * 64 + k.val % 64, by omega⟩, Fin.ext ?_⟩
  show (rs (n.val / 64) + ((4 * (n.val / 256) + k.val / 64 - 4 - rs (n.val / 64)) * 64 + k.val % 64) / 64 + 4 - 4 * (n.val / 256)) * 64
    + ((4 * (n.val / 256) + k.val / 64 - 4 - rs (n.val / 64)) * 64 + k.val % 64) % 64 = k.val
  omega

/-! ## The scores -/

/-- The score the call gives one staged key. -/
def stageScore (x : FVec Ideal S8192x4608 .f32) (b : FVec Ideal S8x15x31 .f32) (n : Fin 8192) (h : Fin 8) (k : Fin 768) : EReal :=
  (∑ d : Fin 128, (x (ix2 n ⟨h.val * 128 + d.val, by have := h.isLt; have := d.isLt; omega⟩) * (((11863283 / 134217728) * (Real.log 2)⁻¹ : ℝ) : EReal))
      * (x (ix2 ⟨kRow (n.val / 256) k.val, kRow_lt ⟨n.val / 256, by have := n.isLt; show _ < 32; omega⟩ k⟩ ⟨1024 + (h.val * 128 + d.val), by have := h.isLt; have := d.isLt; omega⟩) * 1))
  + if inWin (n.val % 64) (k.val % 64) ∧ rowIn (n.val / 256) (n.val % 256 / 64) (k.val / 64) then
      b (ix3 h ⟨min 14 (k.val / 64 + 3 - n.val % 256 / 64), by omega⟩ ⟨dcol (n.val % 64) (k.val % 64), dcol_lt _ _⟩) * (((Real.log 2)⁻¹ : ℝ) : EReal) else ⊥

theorem prod_eq (q k : Fin 128 → ℝ) (b s l : ℝ) :
    (∑ d, ((q d : EReal) * ((s * l : ℝ) : EReal)) * ((k d : EReal) * 1)) + (b : EReal) * (l : EReal)
      = (l : EReal) * ((∑ d, (q d : EReal) * (k d : EReal)) * (s : EReal) + (b : EReal)) := by
  have e1 : ∀ d, ((q d : EReal) * ((s * l : ℝ) : EReal)) * ((k d : EReal) * 1) = ((q d * (s * l) * k d : ℝ) : EReal) := fun d => by
    rw [mul_one, ← EReal.coe_mul, ← EReal.coe_mul]
  have e2 : ∀ d, (q d : EReal) * (k d : EReal) = ((q d * k d : ℝ) : EReal) := fun d => (EReal.coe_mul _ _).symm
  simp only [e1, e2]
  rw [← Soft.coe_sum, ← Soft.coe_sum, ← EReal.coe_mul, ← EReal.coe_mul, ← EReal.coe_add, ← EReal.coe_add, ← EReal.coe_mul]
  refine congrArg _ ?_
  rw [mul_add, Finset.sum_mul, Finset.mul_sum]
  refine congrArg₂ (· + ·) (Finset.sum_congr rfl fun d _ => by ring) (by ring)

/-- The precondition, unpacked: what the scores are made of is finite. -/
structure Fin2 (x : FVec Ideal S8192x4608 .f32) (b : FVec Ideal S8x15x31 .f32) : Prop where
  hx : ∀ (n : Fin 8192) (j : Fin 4608), j.val < 2048 → ∃ r : ℝ, x (ix2 n j) = (r : EReal)
  hb : ∀ (h : Fin 8) (r : Fin 15) (c : Fin 31), ∃ r' : ℝ, b (ix3 h r c) = (r' : EReal)

variable {x : FVec Ideal S8192x4608 .f32} {b : FVec Ideal S8x15x31 .f32}

theorem log_inv_pos : (0 : ℝ) < (Real.log 2)⁻¹ := inv_pos.mpr (Real.log_pos (by norm_num))

theorem stage_eq (hf : Fin2 x b) (n : Fin 8192) (h : Fin 8) (y : Fin 512) : stageScore x b n h (place512 n y)
    = (((Real.log 2)⁻¹ : ℝ) : EReal) * NAR.line x b h ⟨n.val / 64, by have := n.isLt; omega⟩ ⟨n.val % 64, by omega⟩ y := by
  have hn := n.isLt
  have hy := y.isLt
  have hh := h.isLt
  have em : (place512 n y).val % 64 = y.val % 64 := by
    show ((rs (n.val / 64) + y.val / 64 + 4 - 4 * (n.val / 256)) * 64 + y.val % 64) % 64 = _
    omega
  unfold stageScore NAR.line NAR.score
  by_cases hc : inWin (n.val % 64) (y.val % 64)
  · rw [if_pos ⟨by rw [em]; exact hc, place512_rowIn n y⟩, if_pos hc]
    have hq : ∀ d : Fin 128, ∃ r : ℝ, x (ix2 n ⟨h.val * 128 + d.val, by have := d.isLt; omega⟩) = (r : EReal) := fun d => hf.hx _ _ (by have := d.isLt; dsimp only; omega)
    choose q hq using hq
    have hk : ∀ d : Fin 128, ∃ r : ℝ, x (ix2 ⟨(rs (n.val / 64) + y.val / 64) * 64 + y.val % 64, by
        have := row_lt (n.val / 64) ⟨y.val / 64, by omega⟩; simp only at this; omega⟩ ⟨1024 + (h.val * 128 + d.val), by have := d.isLt; omega⟩) = (r : EReal) :=
      fun d => hf.hx _ _ (by have := d.isLt; dsimp only; omega)
    choose k hk using hk
    obtain ⟨w, hw⟩ := hf.hb h ⟨rs (n.val / 64) + y.val / 64 + 7 - n.val / 64, drow_lt ⟨n.val / 64, by omega⟩ ⟨y.val / 64, by omega⟩⟩ ⟨dcol (n.val % 64) (y.val % 64), dcol_lt _ _⟩
    refine Eq.trans (congrArg₂ (· + ·) (Finset.sum_congr rfl fun d _ => ?_) ?_) ((prod_eq q k w _ _).trans (congrArg (fun z : EReal => (((Real.log 2)⁻¹ : ℝ) : EReal) * z)
      (congrArg₂ (fun u v : EReal => u * ((11863283 / 134217728 : ℝ) : EReal) + v) (Finset.sum_congr rfl fun d _ => ?_) hw.symm)))
    · rw [← hq d, ← hk d]
      exact congrArg (fun r => x (ix2 n ⟨h.val * 128 + d.val, by have := d.isLt; omega⟩) * (((11863283 / 134217728) * (Real.log 2)⁻¹ : ℝ) : EReal)
        * (x (ix2 r ⟨1024 + (h.val * 128 + d.val), by have := d.isLt; omega⟩) * 1)) (Fin.ext (place512_row n y))
    · rw [← hw]
      refine congrArg₂ (fun u v => b (ix3 h u v) * (((Real.log 2)⁻¹ : ℝ) : EReal)) (Fin.ext ?_) (Fin.ext (by dsimp only; rw [em]))
      show min 14 (((rs (n.val / 64) + y.val / 64 + 4 - 4 * (n.val / 256)) * 64 + y.val % 64) / 64 + 3 - n.val % 256 / 64) = rs (n.val / 64) + y.val / 64 + 7 - n.val / 64
      unfold rs
      omega
    · rw [← hq d, ← hk d]
      refine congrArg (fun r => x (ix2 r ⟨h.val * 128 + d.val, by have := d.isLt; omega⟩) * _) (Fin.ext ?_)
      show n.val = n.val / 64 * 64 + n.val % 64
      omega
  · rw [if_neg (fun h' => hc (by rw [em] at h'; exact h'.1)), if_neg hc, EReal.add_bot, EReal.add_bot, EReal.coe_mul_bot_of_pos log_inv_pos]

theorem stage_out (n : Fin 8192) (h : Fin 8) (k : Fin 768) (hk : k ∉ Set.range (place512 n)) : stageScore x b n h k = ⊥ := by
  unfold stageScore
  rw [if_neg (fun h' => hk (place512_of n k h'.2)), EReal.add_bot]

theorem line_real (hf : Fin2 x b) (h : Fin 8) (r : Fin 128) (c : Fin 64) (y : Fin 512) :
    (∃ w : ℝ, NAR.line x b h r c y = (w : EReal)) ∨ (¬ inWin c.val (y.val % 64) ∧ NAR.line x b h r c y = ⊥) := by
  have hr := r.isLt
  have hcc := c.isLt
  have hy := y.isLt
  have hh := h.isLt
  unfold NAR.line NAR.score
  by_cases hc : inWin c.val (y.val % 64)
  · refine Or.inl ?_
    rw [if_pos hc]
    have hq : ∀ d : Fin 128, ∃ w : ℝ, x (ix2 ⟨r.val * 64 + c.val, by omega⟩ ⟨h.val * 128 + d.val, by have := d.isLt; omega⟩) = (w : EReal) :=
      fun d => hf.hx _ _ (by have := d.isLt; dsimp only; omega)
    choose q hq using hq
    have hk : ∀ d : Fin 128, ∃ w : ℝ, x (ix2 ⟨(rs r.val + y.val / 64) * 64 + y.val % 64, by
        have := row_lt r.val ⟨y.val / 64, by omega⟩; simp only at this; omega⟩ ⟨1024 + (h.val * 128 + d.val), by have := d.isLt; omega⟩) = (w : EReal) :=
      fun d => hf.hx _ _ (by have := d.isLt; dsimp only; omega)
    choose k hk using hk
    obtain ⟨w, hw⟩ := hf.hb h ⟨rs r.val + y.val / 64 + 7 - r.val, drow_lt r ⟨y.val / 64, by omega⟩⟩ ⟨dcol c.val (y.val % 64), dcol_lt _ _⟩
    refine ⟨(∑ d, q d * k d) * (11863283 / 134217728) + w, ?_⟩
    rw [EReal.coe_add, EReal.coe_mul, Soft.coe_sum]
    refine congrArg₂ (fun u v : EReal => u * ((11863283 / 134217728 : ℝ) : EReal) + v) (Finset.sum_congr rfl fun d _ => ?_) hw
    rw [EReal.coe_mul, ← hq d, ← hk d]
  · refine Or.inr ⟨hc, ?_⟩
    rw [if_neg hc, EReal.add_bot]

theorem line_ne_top (hf : Fin2 x b) (h : Fin 8) (r : Fin 128) (c : Fin 64) (y : Fin 512) : NAR.line x b h r c y ≠ ⊤ := by
  rcases line_real hf h r c y with ⟨w, e⟩ | ⟨_, e⟩ <;> rw [e]
  · exact EReal.coe_ne_top w
  · exact bot_ne_top
theorem line_some (hf : Fin2 x b) (h : Fin 8) (r : Fin 128) (c : Fin 64) : ∃ y, NAR.line x b h r c y ≠ ⊥ := by
  have hc := c.isLt
  refine ⟨⟨c.val, by omega⟩, ?_⟩
  rcases line_real hf h r c ⟨c.val, by omega⟩ with ⟨w, e⟩ | ⟨hn, _⟩
  · rw [e]
    exact EReal.coe_ne_bot w
  · exfalso
    apply hn
    show min 48 (c.val - 8) ≤ c.val % 64 ∧ c.val % 64 < min 48 (c.val - 8) + 16
    omega

/-! ## The result -/

/-- One element of the attention call's result, where it starts from the scaled projections and the bias tiles. -/
theorem outG_at (hf : Fin2 x b) (c : Dev nD) (hX : V c main_v16 = scaled x (colTab (F := Ideal)))
    (hB : V c main_v13 = tiles (lhs (feats (picked (rowsTab b)))) (rhsTab (F := Ideal))) (n : Fin 8192) (j : Fin 1024) :
    outG V c (ix2 n j) = NAR.refOf x b (ix2 n j) := by
  have hn := n.isLt
  have hj := j.isLt
  have ht : n.val / 256 < cfg1.N := by show _ < 32; omega
  have hX' : ∀ (n' : Fin 8192) (j' : Fin 4608), V c main_v16 (ix2 n' j')
      = x (ix2 n' j') * if j'.val < 1024 then (((11863283 / 134217728) * (Real.log 2)⁻¹ : ℝ) : EReal) else 1 := fun n' j' => by
    rw [hX, scaled_at, colTab_at]
  show outTile V c ⟨n.val / 256, ht⟩ (ix2 ⟨n.val % 256, by omega⟩ ⟨j.val, hj⟩) = _
  unfold outTile
  rw [tileOf_at]
  unfold headVal
  rw [headOut_at (s := stageScore x b n ⟨j.val / 128, by omega⟩)
    (v := fun k => x (ix2 ⟨kRow (n.val / 256) k.val, kRow_lt ⟨n.val / 256, ht⟩ k⟩ ⟨2048 + j.val, by omega⟩))]
  · rw [NAR.refOf_at x b n j _ fun _ => rfl]
    refine Soft.softmax_eq (place512 n) (place512_inj n) _ _ _ _ (fun y => stage_eq hf n _ y) (fun k hk => stage_out n _ k hk) (fun y => ?_)
      (fun y => line_ne_top hf _ _ _ y) (line_some hf _ _ _)
    exact congrArg (fun r => x (ix2 r ⟨2048 + j.val, by omega⟩)) (Fin.ext (place512_row n y))
  · intro k
    have hk := k.isLt
    rw [headScore_at]
    unfold stageScore
    refine congrArg₂ (· + ·) (Finset.sum_congr rfl fun d _ => ?_) ?_
    · have hd := d.isLt
      refine (congrArg₂ (· * ·) ((ld_band _ _ _ _).trans (inBlk_0 V c ⟨n.val / 256, ht⟩ _ _)) (keys_at V c ⟨n.val / 256, ht⟩ ⟨j.val / 128, by omega⟩ k d)).trans ?_
      rw [hX', hX', if_pos (by dsimp only; omega), if_neg (by dsimp only; omega)]
      refine congrArg (fun r => x (ix2 r ⟨j.val / 128 * 128 + d.val, by omega⟩) * _ * _) (Fin.ext ?_)
      show n.val / 256 * 256 + n.val % 256 = n.val
      omega
    · rw [tileBias_at, ld_tile, inBlk_7, hB]
      refine (bias_at b ⟨j.val / 128, by omega⟩ ⟨n.val / 256, by omega⟩ ⟨n.val % 256 / 64, by omega⟩ ⟨k.val / 128, by omega⟩ ⟨n.val % 256 % 64, by omega⟩ ⟨k.val % 128, by omega⟩).trans ?_
      have e1 : n.val % 256 % 64 = n.val % 64 := by omega
      have e2 : k.val % 128 % 64 = k.val % 64 := by omega
      have e3 : 2 * (k.val / 128) + k.val % 128 / 64 = k.val / 64 := by omega
      dsimp only
      simp only [e1, e2, e3]
  · intro k
    refine (vals_at V c ⟨n.val / 256, ht⟩ ⟨j.val / 128, by omega⟩ k ⟨j.val % 128, by omega⟩).trans ?_
    rw [hX', if_neg (by dsimp only; omega), mul_one]
    refine congrArg (fun r => x (ix2 ⟨kRow (n.val / 256) k.val, kRow_lt ⟨n.val / 256, ht⟩ k⟩ r)) (Fin.ext ?_)
    show 2048 + (j.val / 128 * 128 + j.val % 128) = 2048 + j.val
    omega

variable (m : (ℓ : Loc nD τ sig) → Buf (Elt Ideal) ℓ)

theorem resArr_eq (c : Dev nD) (hf : Fin2 (m ((c : Thread nD τ).loc main_arg0)) (m ((c : Thread nD τ).loc main_arg1))) :
    resArr m c = NAR.refOf (m ((c : Thread nD τ).loc main_arg0)) (m ((c : Thread nD τ).loc main_arg1)) := by
  unfold resArr
  rw [arr8]
  funext i
  rw [eq_ix2 i]
  refine outG_at (VB m) hf c ?_ ?_ _ _
  · exact (v16_eq m c).trans (congrArg _ (W2_cols m c))
  · exact (v13_eq m c).trans (by rw [W2_rows, W2_rhs])

end Cert.Proof.NA
end
-- ==== Proof.Values.lean ====
/- The attention agrees with the reference where the scores are finite. -/
module

public import proofs.«01_k».proof.Defs
public import proofs.«01_k».proof.Proof.Scores
public import proofs.«01_k».proof.Proof.Whole
public import proofs.«01_k».proof.Proof.Gen.ReferenceIdeal.Run
public import proofs.«01_k».proof.Proof.Gen.Pre_finite_scores
public import Idealize.ShloMosaic.Lib.ReduceAll

@[expose] public section

noncomputable section

namespace Cert.Proof

open Idealize.ShloMosaic Idealize.SL.Sem Idealize.ShloMosaic.TcCoe

theorem inf_word : Ideal.ofBits .f32 0x7F800000#32 = ⊤ := by simp [Ideal.ofBits, Ideal.ieee]

/-- A value whose magnitude is below +∞ is a number. -/
theorem real_of_lt (v : EReal) (h : Ideal.cmp .olt (max v (-v)) (Ideal.ofBits .f32 0x7F800000#32) = 1#1) : ∃ r : ℝ, v = (r : EReal) := by
  rw [inf_word] at h
  induction v with
  | bot => exfalso; revert h; simp [Ideal.cmp]
  | top => exfalso; revert h; simp [Ideal.cmp]
  | coe r => exact ⟨r, rfl⟩

attribute [local instance] Cert.Pre_finite_scores.Gen.facts in
open Cert.Pre_finite_scores in
theorem finite_of_pre (x : FVec Ideal S8192x4608 .f32) (b : FVec Ideal S8x15x31 .f32)
    (h : Cert.Pre_finite_scores.fn (F := Ideal) x b = fun _ => 1#1) : NA.Fin2 x b := by
  have h0 := congrFun h ix0
  haveI : Subsingleton S_.Idx := ⟨fun a b => funext fun i => i.elim0⟩
  obtain ⟨h1, h2⟩ := IntOp.andi_eq_one.1 h0
  refine ⟨fun n j hj => ?_, fun hh r c => ?_⟩
  · have e := Host.reduce_andi_all _ _ _ _ _ h1 (ix2 n ⟨j.val, hj⟩)
    refine real_of_lt _ ?_
    refine Eq.trans ?_ e
    refine congrArg (fun i => Ideal.cmp .olt (max (x i) (-x i)) (Ideal.ofBits .f32 0x7F800000#32)) (funext fun a => Fin.ext ?_)
    fin_cases a
    · exact (Nat.zero_add n.val).symm
    · exact (Nat.zero_add j.val).symm
  · have e := Host.reduce_andi_all _ _ _ _ _ h2 (ix3 hh r c)
    exact real_of_lt _ e

theorem same_values : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hin
  refine ⟨fun c => NA.resArr m c, ?_, ?_⟩
  · exact (θ_run Cert.KernelIdeal.defs _ _).mono (fun r h => h.1) (NA.run_all (F := Ideal) m g)
  · refine (θ_run Cert.ReferenceIdeal.defs _ _).mono (fun r h c => ⟨?_, (h c).2⟩) (Cert.ReferenceIdeal.Value.run (F := Ideal) m' g')
    refine (h c).1.trans ((NAR.res_eq m' c).trans ?_)
    rw [(hin c).1, (hin c).2]
    exact (NA.resArr_eq m c (finite_of_pre _ _ (hpre c))).symm

end Cert.Proof

end
-- ==== Proof.DownRef.lean ====
/- The second feed-forward product's reference, element by element. -/
module

public import proofs.«01_k».proof.Proof.Gen.Reference2Ideal
public import proofs.«01_k».proof.Proof.Gen.Reference2Ideal.Run
public import Idealize.ShloMosaic.Lib.Pointwise

@[expose] public section

set_option maxRecDepth 16384

noncomputable section

namespace Cert.Proof

open Idealize.ShloMosaic

/-- One element of a row over the root of the row's mean square, times its scale. -/
def normed (y : Fin 2048 → EReal) (g : Fin 2048 → EReal) (j : Fin 2048) : EReal :=
  y j * Ideal.rsqrt (Ideal.div (∑ k : Fin 2048, y k * y k) (Ideal.ofBits .f32 0x45000000#32) + Ideal.ofBits .f32 0x358637BD#32) * g j

end Cert.Proof

namespace Cert.Proof.DownR

open Cert.Reference2Ideal Cert.Reference2Ideal.Gen
open Idealize.ShloMosaic Idealize.ShloMosaic.TcCoe Idealize.ShloMosaic.Tactic

/-- The residual row with the product added. -/
def sumOf (act : FVec Ideal S8192x5632 .f32) (x : FVec Ideal S8192x2048 .f32) (w : FVec Ideal S5632x2048 .f32) : FVec Ideal S8192x2048 .f32 :=
  addf x (Host.dotGeneral dot_S8192x5632_S5632x2048_S8192x2048_1_0_0_1_n_n none act w)

/-- The norm's factor of each row. -/
def factor (y : FVec Ideal S8192x2048 .f32) : FVec Ideal S8192x1 .f32 :=
  Host.rsqrt (addf (Host.divf (broadcastInDim S8192x1 ![0] bcast_S8192_S8192x1_0 (Host.reduceAdd (mulf y y) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))

/-- The norm of each row. -/
def norm (y : FVec Ideal S8192x2048 .f32) (g : FVec Ideal S2048 .f32) : FVec Ideal S8192x2048 .f32 :=
  mulf (mulf y (broadcastInDim S8192x2048 ![0, 1] bcast_S8192x1_S8192x2048_0_1 (factor y)))
    (broadcastInDim S8192x2048 ![0, 1] bcast_S1x2048_S8192x2048_0_1 (broadcastInDim S1x2048 ![1] bcast_S2048_S1x2048_1 g))

theorem sumOf_at (act x w) (n : Fin 8192) (j : Fin 2048) : sumOf act x w (ix2 n j) = x (ix2 n j) + ∑ f : Fin 5632, act (ix2 n f) * w (ix2 f j) := by
  pointwise [sumOf]

theorem norm_at (y g) (n : Fin 8192) (j : Fin 2048) : norm y g (ix2 n j) = normed (fun k => y (ix2 n k)) (fun k => g (ix1 k)) j := by
  pointwise [norm, factor, normed]

theorem res_at (act x w g) (n : Fin 8192) (j : Fin 2048) : norm (sumOf act x w) g (ix2 n j)
    = normed (fun k => x (ix2 n k) + ∑ f : Fin 5632, act (ix2 n f) * w (ix2 f k)) (fun k => g (ix1 k)) j := by
  rw [norm_at]
  simp only [sumOf_at]

end Cert.Proof.DownR
end
-- ==== Proof.Down.lean ====
/- The second feed-forward product's call, element by element. -/
module

public import proofs.«01_k».proof.Proof.Gen.Kernel2Ideal.Value
public import proofs.«01_k».proof.Proof.DownRef
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Down

open Cert.Kernel2Ideal Cert.Kernel2Ideal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- One element of a block the call writes, of the blocks it reads. -/
theorem pay_at (x : Vec Ideal S512x2048 .f32) (act : Vec Ideal S512x5632 .bf16) (w : Vec Ideal S5632x2048 .bf16) (g : Vec Ideal S1x2048 .f32) (a : Fin 512) (j : Fin 2048) :
    k0_pay1 x act w g (ix2 a j) = normed (fun k => x (ix2 a k) + ∑ f : Fin 5632, act (ix2 a f) * w (ix2 f k)) (fun k => g (ix2 0 k)) j := by
  pointwise [k0_pay1, normed]

theorem out_at (act : Vec Ideal S512x5632 .bf16) (w : Vec Ideal S5632x2048 .bf16) (x : Vec Ideal S512x2048 .f32) (g : Vec Ideal S1x2048 .f32) :
    out0_4 act w x g = k0_pay1 x act w g := by
  have z : (![0, 0] : Fin 2 → ℕ) = fun _ => 0 := funext fun a => by fin_cases a <;> rfl
  unfold out0_4
  rw [View.canon_unit_zero z]
  rw [View.ld_unit_zero z, View.ld_unit_zero z, View.ld_unit_zero z, View.ld_unit_zero z]

theorem at_0 : ∀ t : Fin cfg0.grid.N, win0_0.index t = ![t.val, 0] := by decide +kernel
theorem at_1 : ∀ t : Fin cfg0.grid.N, win0_1.index t = ![0, 0] := by decide +kernel
theorem at_2 : ∀ t : Fin cfg0.grid.N, win0_2.index t = ![t.val, 0] := by decide +kernel
theorem at_3 : ∀ t : Fin cfg0.grid.N, win0_3.index t = ![0, 0] := by decide +kernel
theorem at_4 : ∀ t : Fin cfg0.grid.N, win0_4.index t = ![t.val, 0] := by decide +kernel
theorem pt_lt (t : Fin cfg0.N) : t.val < 16 := lt_of_lt_of_eq t.isLt (show cfg0.N = 16 from N_0)

theorem V_v0 (c : Dev nD) (n : Fin 8192) (f : Fin 5632) : V m c main_v0 (ix2 n f) = m ((c : Thread nD τ).loc main_arg0) (ix2 n f) := by
  unfold V
  after_reads_at
theorem V_v1 (c : Dev nD) (f : Fin 5632) (j : Fin 2048) : V m c main_v1 (ix2 f j) = m ((c : Thread nD τ).loc main_arg2) (ix2 f j) := by
  unfold V
  after_reads_at
theorem V_v2 (c : Dev nD) (j : Fin 2048) : V m c main_v2 (ix2 0 j) = m ((c : Thread nD τ).loc main_arg3) (ix1 j) := by
  unfold V
  after_reads_at

theorem blk_0 (c : Dev nD) (t : Fin cfg0.N) (a : Fin 512) (f : Fin 5632) : iblk m c 0 t (ix2 a f)
    = m ((c : Thread nD τ).loc main_arg0) (ix2 ⟨t.val * 512 + a.val, by have := pt_lt t; have := a.isLt; omega⟩ f) := by
  refine Eq.trans ?_ (V_v0 m c _ _)
  show ((cfg0.win 0).blk t).view.read (Elt Ideal) (V m c main_v0) (ix2 a f) = _
  rw [View.read_apply]
  blk_simp
  refine congrArg (V m c main_v0) (funext fun b => Fin.ext ?_)
  fin_cases b
  · blk_simp
    exact congrArg (fun n => n * 512 + a.val) (congrFun (at_0 t) 0)
  · blk_simp
    exact (congrArg (fun n => n * 5632 + f.val) (congrFun (at_0 t) 1)).trans (by show 0 * 5632 + f.val = f.val; omega)

theorem blk_1 (c : Dev nD) (t : Fin cfg0.N) (f : Fin 5632) (j : Fin 2048) : iblk m c 1 t (ix2 f j)
    = m ((c : Thread nD τ).loc main_arg2) (ix2 f j) := by
  refine Eq.trans ?_ (V_v1 m c _ _)
  show ((cfg0.win 1).blk t).view.read (Elt Ideal) (V m c main_v1) (ix2 f j) = _
  rw [View.read_apply]
  blk_simp
  refine congrArg (V m c main_v1) (funext fun b => Fin.ext ?_)
  fin_cases b
  · blk_simp
    exact (congrArg (fun n => n * 5632 + f.val) (congrFun (at_1 t) 0)).trans (by show 0 * 5632 + f.val = f.val; omega)
  · blk_simp
    exact (congrArg (fun n => n * 2048 + j.val) (congrFun (at_1 t) 1)).trans (by show 0 * 2048 + j.val = j.val; omega)

theorem blk_2 (c : Dev nD) (t : Fin cfg0.N) (a : Fin 512) (j : Fin 2048) : iblk m c 2 t (ix2 a j)
    = m ((c : Thread nD τ).loc main_arg1) (ix2 ⟨t.val * 512 + a.val, by have := pt_lt t; have := a.isLt; omega⟩ j) := by
  refine Eq.trans ?_ (congrFun (V_main_arg1 m c) _)
  show ((cfg0.win 2).blk t).view.read (Elt Ideal) (V m c main_arg1) (ix2 a j) = _
  rw [View.read_apply]
  blk_simp
  refine congrArg (V m c main_arg1) (funext fun b => Fin.ext ?_)
  fin_cases b
  · blk_simp
    exact congrArg (fun n => n * 512 + a.val) (congrFun (at_2 t) 0)
  · blk_simp
    exact (congrArg (fun n => n * 2048 + j.val) (congrFun (at_2 t) 1)).trans (by show 0 * 2048 + j.val = j.val; omega)

theorem blk_3 (c : Dev nD) (t : Fin cfg0.N) (j : Fin 2048) : iblk m c 3 t (ix2 0 j) = m ((c : Thread nD τ).loc main_arg3) (ix1 j) := by
  refine Eq.trans ?_ (V_v2 m c _)
  show ((cfg0.win 3).blk t).view.read (Elt Ideal) (V m c main_v2) (ix2 0 j) = _
  rw [View.read_apply]
  blk_simp
  refine congrArg (V m c main_v2) (funext fun b => Fin.ext ?_)
  fin_cases b
  · blk_simp
    exact (congrArg (fun n => n * 1 + 0) (congrFun (at_3 t) 0))
  · blk_simp
    exact (congrArg (fun n => n * 2048 + j.val) (congrFun (at_3 t) 1)).trans (by show 0 * 2048 + j.val = j.val; omega)

/-- The result, by elements of the arguments. -/
def res (c : Dev nD) : FVec Ideal S8192x2048 .f32 :=
  Cert.Proof.DownR.norm (Cert.Proof.DownR.sumOf (m ((c : Thread nD τ).loc main_arg0)) (m ((c : Thread nD τ).loc main_arg1)) (m ((c : Thread nD τ).loc main_arg2)))
    (m ((c : Thread nD τ).loc main_arg3))

theorem arr_eq (c : Dev nD) : (dats m 0 c).arrAt 4 cfg0.N = res m c := by
  refine Dat.arrAt_eq_of_covers (dats m 0 c) 4 _ (by decide +kernel) fun t hf y => ?_
  have hy0 : (y 0).val < 512 := (y 0).isLt
  have hy1 : (y 1).val < 2048 := (y 1).isLt
  have ht := pt_lt t
  obtain ⟨a, j, rfl⟩ : ∃ (a : Fin 512) (j : Fin 2048), y = ix2 a j := ⟨⟨(y 0).val, hy0⟩, ⟨(y 1).val, hy1⟩, funext fun b => by fin_cases b <;> rfl⟩
  have e : ((cfg0.win 4).blk t).view.emb (ix2 a j) = ix2 ⟨t.val * 512 + a.val, by have := a.isLt; omega⟩ j := by
    refine funext fun b => Fin.ext ?_
    fin_cases b
    · blk_simp
      exact congrArg (fun n => n * 512 + a.val) (congrFun (at_4 t) 0)
    · blk_simp
      exact (congrArg (fun n => n * 2048 + j.val) (congrFun (at_4 t) 1)).trans (by show 0 * 2048 + j.val = j.val; omega)
  rw [e]
  show (dats m 0 c).after 4 t (ix2 a j) = _
  rw [after0_4, out_at, pay_at]
  unfold res
  rw [DownR.res_at]
  simp only [blk_0, blk_1, blk_2, blk_3]

end Cert.Proof.Down
end
-- ==== Proof.DownValues.lean ====
/- The second feed-forward product's claims. -/
module

public import proofs.«01_k».proof.Defs
public import proofs.«01_k».proof.Proof.Down
public import proofs.«01_k».proof.Proof.Gen.Kernel2.Frame

@[expose] public section

noncomputable section

namespace Cert.Proof

open Idealize.ShloMosaic Idealize.SL.Sem Idealize.ShloMosaic.TcCoe

theorem frame_down_words : Cert.quiescent_Kernel2 (hKernel2 := Cert.Kernel2.Gen.facts) :=
  fun m ρ _ => Cert.Kernel2.Gen.frame (F := Bits) m ρ

theorem frame_down : Cert.quiescent_Kernel2Ideal (hKernel2Ideal := Cert.Kernel2Ideal.Gen.facts) :=
  fun m ρ _ => Cert.Kernel2Ideal.Gen.frame (F := Ideal) m ρ

theorem frame_down_ref : Cert.quiescent_Reference2Ideal (hReference2Ideal := Cert.Reference2Ideal.Gen.facts) :=
  fun m ρ _ => (θ_run Cert.Reference2Ideal.defs _ _).mono
    (fun r h => ⟨fun c => (h c).2, sem_eq_zero_of_no_sems (by decide) r.2⟩) (Cert.Reference2Ideal.Value.run (F := Ideal) m ρ)

theorem same_down : Cert.algebraic_Kernel2Ideal_Reference2Ideal (hKernel2Ideal := Cert.Kernel2Ideal.Gen.facts)
    (hReference2Ideal := Cert.Reference2Ideal.Gen.facts) := by
  intro m g m' g' hpre hin
  refine ⟨fun c => Down.res m c, ?_, ?_⟩
  · exact (θ_run Cert.Kernel2Ideal.defs _ _).mono (fun r h c => ⟨(h c).1.trans (Down.arr_eq m c), (h c).2⟩) (Cert.Kernel2Ideal.Value.run_blocks (F := Ideal) m g)
  · refine (θ_run Cert.Reference2Ideal.defs _ _).mono (fun r h c => ⟨?_, (h c).2⟩) (Cert.Reference2Ideal.Value.run (F := Ideal) m' g')
    refine (h c).1.trans ?_
    rw [(hin c).1, (hin c).2.1, (hin c).2.2.1, (hin c).2.2.2]
    rfl

end Cert.Proof

end
-- ==== Proof.Up.Words.lean ====
/- The run of Kernel3: every point's body does what is named for it, so the call leaves its arguments unchanged. -/
module

public import proofs.«01_k».proof.Proof.Up.WordsSteps

@[expose] public section

-- membership in a rectangle of production extents (`View.cover_of_tiled`): the elaborator's structural look
-- recurses once per coordinate of the long axes
set_option maxRecDepth 16384

noncomputable section

namespace Cert.Proof.UpWords

open Cert.Kernel3 Cert.Kernel3.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 88 := lt_of_lt_of_eq t.isLt (show cfg0.N = 88 from N_0)
  by_cases h0 : t.val % 11 = 0
  · by_cases hz : t.val = 0
    · rw [PhiS_castSucc m c t, PhiS_zero m c _ _ hz, PhiA0_eq]
      rw [outsAt0_A m c t h0]
      unfold out0_A_10 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, ⟨%e10, H10⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_10 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexact HS1
      isplitl [HS2]; · iexact HS2
      iintro ⟨H0, H1, H2, H3, H4, H5, H6, H7, H8, H9, ⟨%e10, H10⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _)
  · by_cases hz : t.val = 0
    · exfalso; have hN : t.val < 88 := lt_of_lt_of_eq t.isLt (show cfg0.N = 88 from N_0); omega
    · rw [PhiS_castSucc m c t, PhiS_pos m c _ _ hz]
      rw [outsAt0_B m c t h0]
      unfold out0_B_10 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, ⟨%e10, H10⟩, HS0, ⟨%fT1, HS1⟩, ⟨%fT2, HS2⟩⟩
      isplitl [HS0 HS1 HS2 Hg]
      · isplitl [HS0 HS1 HS2]
        · isplitl [HS0]
          · iexact HS0
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 88 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel3`'s statement (Defs.lean) at any `F` — Proof.lean cites it at `Bits`:
    `theorem Cert.Proof.claim : Cert.Claim := ⟨Cert.Proof.UpWords.facts, fun m ρ _ => Cert.Proof.UpWords.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.UpWords

end
-- ==== Proof.Up.Steps.lean ====
/- The run of Kernel3Ideal: what each grid point leaves in the output and in the carried scratch named. -/
module

public import proofs.«01_k».proof.Proof.Gen.Kernel3Ideal.Frame.RunA
public import proofs.«01_k».proof.Proof.Gen.Kernel3Ideal.Frame.RunB
public import Idealize.ShloMosaic.Lib.Pipeline.Value
public import Idealize.ShloMosaic.Lib.Claim

@[expose] public section

-- membership in a rectangle of production extents (`View.cover_of_tiled`): the elaborator's structural look
-- recurses once per coordinate of the long axes
set_option maxRecDepth 16384

noncomputable section

namespace Cert.Proof.UpRun

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 10 tile its block (1 store of `S1024x512`, checked by the kernel's evaluation: Lib/Ring.lean `Piece.tiledL`, linear in the pieces, through a loop's `@[irreducible]` trip theorem too), so they cover it. -/
theorem cover0_A_10 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1 S1024x512.size (by sl_kernel_rfl) y

/-- What case A leaves in output 10's staging buffer: its pieces read back over junk. -/
def out0_A_10 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) : Vec F S1024x512 .bf16 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).1)

/-- Case A's pieces for scratch `arg13`, which the kernel carries between points, cover it: 3 pieces (stores and landed copies) of several sizes (`S1024x2048`, `S16x2048`) tiling it when cut into blocks of `![16, 2048]` (Lib/Ring.lean `Piece.tiledBy`). -/
theorem scover0_A_0 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) (y : S1056x2048.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 ![16, 2048] (by sl_kernel_rfl) y

/-- What case A leaves in scratch `arg13`: its pieces read back over junk. -/
def sout0_A_0 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) : Vec F S1056x2048 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1)

/-- Case B's pieces for output 10 tile its block (1 store of `S1024x512`, checked by the kernel's evaluation: Lib/Ring.lean `Piece.tiledL`, linear in the pieces, through a loop's `@[irreducible]` trip theorem too), so they cover it. -/
theorem cover0_B_10 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) (xs0 : Vec F S1056x2048 .bf16) (y : S1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1 S1024x512.size (by sl_kernel_rfl) y

/-- What case B leaves in output 10's staging buffer: its pieces read back over junk. -/
def out0_B_10 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) (xs0 : Vec F S1056x2048 .bf16) : Vec F S1024x512 .bf16 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0).1)

/-- Case B stores nothing into scratch `arg13`: it holds what the point before left. -/
def sout0_B_0 (c : Dev nD) (i : grid0.Coords) (arg2 : Memref sig .tc .vmem S1024x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (arg14 : Memref sig .tc .vmem S1056x512 .f32) (harg14 : arg14.IsWhole) (arg15 : Memref sig .tc .vmem S1056x512 .f32) (harg15 : arg15.IsWhole) (hc0 : ¬cond0_0 i)
    (x0 : Vec F S1024x2048 .f32) (x1 : Vec F S8x2048 .f32) (x2 : Vec F S8x2048 .f32) (x3 : Vec F S1x2048 .f32) (x4 : Vec F S2048x512 .f32) (x5 : Vec F S2048x512 .f32) (x6 : Vec F S3x512 .f32) (x7 : Vec F S3x512 .f32) (x8 : Vec F S1x512 .f32) (x9 : Vec F S1x512 .f32) (xs0 : Vec F S1056x2048 .bf16) : Vec F S1056x2048 .bf16 := xs0

/-! ## What the outputs hold after each point -/

/-- What the body leaves in the output's buffer and in the carried scratch at point `t`, over what the scratch held (`a`). -/
def stepAt (c : Dev nD) (t : Fin cfg0.N) (a : Vec F S1056x2048 .bf16) : Vec F S1024x512 .bf16 × Vec F S1056x2048 .bf16 :=
  if h0 : t.val % 11 = 0 then
    (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t))
  else
    (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) a, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) a)

/-- The two cases of the step. -/
theorem stepAt_A (c : Dev nD) (t : Fin cfg0.N) (a : Vec F S1056x2048 .bf16) (h0 : t.val % 11 = 0) :
    stepAt m c t a = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  unfold stepAt; exact dif_pos h0

theorem stepAt_B (c : Dev nD) (t : Fin cfg0.N) (a : Vec F S1056x2048 .bf16) (h0 : ¬t.val % 11 = 0) :
    stepAt m c t a = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) a, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) a) := by
  unfold stepAt; exact dif_neg h0

/-- The output's buffer and the carried scratch after point `n`, from the first point on. -/
def outsAt0 (c : Dev nD) : (n : ℕ) → n < cfg0.N → Vec F S1024x512 .bf16 × Vec F S1056x2048 .bf16
  | 0, hn => stepAt m c ⟨0, hn⟩ (VS0_0.read (Elt F) VS0_0.junk)
  | n + 1, hn => stepAt m c ⟨n + 1, hn⟩ (outsAt0 c n (Nat.lt_of_succ_lt hn)).2

/-- After a point of case A. -/
theorem outsAt0_A (c : Dev nD) (t : Fin cfg0.N) (h0 : t.val % 11 = 0) :
    outsAt0 m c t.val t.isLt = (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact stepAt_A m c ⟨0, hn⟩ _ h0
  | succ n => exact stepAt_A m c ⟨n + 1, hn⟩ _ h0

/-- After a point of case B, over what the point before left. -/
theorem outsAt0_B (c : Dev nD) (t : Fin cfg0.N) (h0 : ¬t.val % 11 = 0) :
    outsAt0 m c t.val t.isLt = (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2) := by
  obtain ⟨n, hn⟩ := t
  cases n with
  | zero => exact absurd (Nat.zero_mod _) h0
  | succ n => exact stepAt_B m c ⟨n + 1, hn⟩ _ h0

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

end Cert.Proof.UpRun

end
-- ==== Proof.Up.Run.lean ====
/- The run of Kernel3Ideal: every point's body does what is named for it, so the call leaves its arguments unchanged. -/
module

public import proofs.«01_k».proof.Proof.Up.Steps

@[expose] public section

-- membership in a rectangle of production extents (`View.cover_of_tiled`): the elaborator's structural look
-- recurses once per coordinate of the long axes
set_option maxRecDepth 16384

noncomputable section

namespace Cert.Proof.UpRun

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 88 := lt_of_lt_of_eq t.isLt (show cfg0.N = 88 from N_0)
  by_cases h0 : t.val % 11 = 0
  · by_cases hz : t.val = 0
    · rw [PhiS_castSucc m c t, PhiS_zero m c _ _ hz, PhiA0_eq]
      rw [outsAt0_A m c t h0]
      unfold out0_A_10 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, ⟨%e10, H10⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_10 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexact HS1
      isplitl [HS2]; · iexact HS2
      iintro ⟨H0, H1, H2, H3, H4, H5, H6, H7, H8, H9, ⟨%e10, H10⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _ _ _ _ _ _ _)
  · by_cases hz : t.val = 0
    · exfalso; have hN : t.val < 88 := lt_of_lt_of_eq t.isLt (show cfg0.N = 88 from N_0); omega
    · rw [PhiS_castSucc m c t, PhiS_pos m c _ _ hz]
      rw [outsAt0_B m c t h0]
      unfold out0_B_10 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, ⟨%e10, H10⟩, HS0, ⟨%fT1, HS1⟩, ⟨%fT2, HS2⟩⟩
      isplitl [HS0 HS1 HS2 Hg]
      · isplitl [HS0 HS1 HS2]
        · isplitl [HS0]
          · iexact HS0
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated . -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 88 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Proof.UpRun.facts, fun m ρ _ => Cert.Proof.UpRun.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v2) = (dats m 0 c).arrAt 10 cfg0.N :=
  (h c).1 10

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 5 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 5).trans (((dats m 0 c).arrAt_in 5 rfl _).trans ((A_eq m c 5).trans (V_main_arg2 m c)))

/-- After the frame run, argument `main_arg3` is as launched: input window 7 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 7).trans (((dats m 0 c).arrAt_in 7 rfl _).trans ((A_eq m c 7).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post10 m r h c,
      kept_main_arg0 m r h c,
      kept_main_arg1 m r h c,
      kept_main_arg2 m r h c,
      kept_main_arg3 m r h c,
      kept_main_arg4 m r h c⟩)
    (run_main m ρ)

end Cert.Proof.UpRun

end
-- ==== Proof.Up.Body.lean ====
/- What the first feed-forward product's body leaves at a grid point, as plain terms of its blocks. -/
module

public import proofs.«01_k».proof.Proof.Up.Steps
public import Idealize.ShloMosaic.Lib.Pipeline.ValueKit

@[expose] public section
set_option maxRecDepth 16384
noncomputable section
namespace Cert.Proof.Up

open Cert.Kernel3Ideal Cert.Kernel3Ideal.Gen Cert.Proof.UpRun
open Idealize.ShloMosaic Idealize.ShloMosaic.TcCoe Idealize.ShloMosaic.Tactic
open Idealize.ShloMosaic.Pipeline (Dat Cfg Window)
variable (m : (ℓ : Loc nD τ sig) → Buf (Elt Ideal) ℓ)

theorem zeros2 : (![0, 0] : Fin 2 → ℕ) = fun _ => 0 := funext fun a => by fin_cases a <;> rfl

theorem read_all {A B : ℕ} {e : EltTy} (r : Memref sig .tc .vmem ⟨2, ![A, B]⟩ e) (h : r.IsWhole) (X : Vec Ideal ⟨2, ![A, B]⟩ e)
    (inb : ∀ a : Fin 2, ![0, 0] a + ![A, B] a ≤ (⟨2, ![A, B]⟩ : Shape).size a) :
    View.readAt (Elt Ideal) r.view (Rect.unit (s := ⟨2, ![A, B]⟩) ![0, 0] ![A, B] inb).toLoadRect (h.unread X) = X := by
  refine (View.readAt_eq_ld _ _ _).trans ?_
  rw [h.read_unread]
  exact View.ld_unit_zero zeros2 inb X

theorem cov_canon {A B : ℕ} {e : EltTy} (v : View sig .tc .vmem ⟨2, ![A, B]⟩ e) (L : List (View.Piece (Elt Ideal) ⟨2, ![A, B]⟩ e))
    (inb : ∀ a : Fin 2, ![0, 0] a + ![A, B] a ≤ (⟨2, ![A, B]⟩ : Shape).size a) :
    v.readCov L (Rect.unit (s := ⟨2, ![A, B]⟩) ![0, 0] ![A, B] inb).toLoadRect = View.canon L := by
  rw [View.readCov_eq_canon']
  exact View.ld_unit_zero zeros2 inb (View.canon L)

theorem canon_all {A B : ℕ} {e : EltTy} (X : Vec Ideal ⟨2, ![A, B]⟩ e)
    (inb : ∀ a : Fin 2, ![0, 0] a + ![A, B] a ≤ (⟨2, ![A, B]⟩ : Shape).size a) :
    View.canon (Val := Elt Ideal) [⟨Rect.unit (s := ⟨2, ![A, B]⟩) ![0, 0] ![A, B] inb, X⟩] = X := View.canon_unit_zero zeros2 inb X

/-- What the body writes, of the scratch it reads and its other blocks. -/
def outOf (h : Vec Ideal S1056x2048 .bf16) (wg wv : Vec Ideal S2048x512 .f32) (cg cv : Vec Ideal S3x512 .f32) (bg bv : Vec Ideal S1x512 .f32) : Vec Ideal S1024x512 .bf16 :=
  k0_pay1 (k0_pay11 cg (k0_pay9 h wg)) bg cv (k0_pay10 h wv) bv

/-- What the first point of a row of the grid leaves in the carried scratch. -/
def headOf (i : BitVec 32) (x : Vec Ideal S1024x2048 .f32) (p n : Vec Ideal S8x2048 .f32) (g : Vec Ideal S1x2048 .f32) : Vec Ideal S1056x2048 .bf16 :=
  View.canon [⟨Rect.unit ![1040, 0] ![16, 2048] inb_S1056x2048_S16x2048_1040_0, k0_pay8 (k0_pay2 g) k0_pay4 (Scalar.cmpi .slt i 7#32) n (k0_pay6 n)⟩,
    ⟨Rect.unit ![0, 0] ![16, 2048] inb_S1056x2048_S16x2048_0_0, k0_pay7 k0_pay4 (k0_pay5 i g p)⟩,
    ⟨Rect.unit ![16, 0] ![1024, 2048] inb_S1056x2048_S1024x2048_16_0, k0_pay3 g x⟩]

theorem step_B (c : Dev nD) (t : Fin cfg0.N) (a : Vec Ideal S1056x2048 .bf16) (h0 : ¬t.val % 11 = 0) :
    (stepAt m c t a).1 = outOf a (iblk m c 4 t) (iblk m c 5 t) (iblk m c 6 t) (iblk m c 7 t) (iblk m c 8 t) (iblk m c 9 t) := by
  rw [stepAt_B m c t a h0]
  dsimp only
  unfold out0_B_10 kernelRun0_B
  dsimp only
  rw [View.read_writes_junk_eq_canon, View.canon_unit_zero zeros2]
  unfold outOf
  unfold kernelRun0_B.sl.r kernelRun0_B.sl.r_1 kernelRun0_B.sl.v37
  simp only [read_all]
  unfold kernelRun0_B.sl.v17 kernelRun0_B.sl.HS2_1 kernelRun0_B.sl.HS1_1
  simp only [read_all, cov_canon, canon_all]
  exact congrArg (fun h => k0_pay1 (k0_pay11 _ (k0_pay9 h _)) _ _ (k0_pay10 h _) _) (read_all scM0_0 (Memref.isWhole_whole _) a _)
theorem head_pieces (c : Dev nD) (t : Fin cfg0.N) (x0 x1 x2 x3) :
    View.canon (kernelRun0_A.sl.HS0_3 c (grid0.coords t) (ms0_0 t) (hs0_0 t) (ms0_1 t) (hs0_1 t) (ms0_2 t) (hs0_2 t) (ms0_3 t) (hs0_3 t) x0 x1 x2 x3)
      = headOf (BitVec.ofNat 32 (grid0.coords t 0).val) x0 x1 x2 x3 := by
  unfold kernelRun0_A.sl.HS0_3
  unfold kernelRun0_A.sl.r kernelRun0_A.sl.r_1 kernelRun0_A.sl.r_2 kernelRun0_A.sl.r_3 kernelRun0_A.sl.v101
  simp only [read_all]
  rfl

theorem step_A (c : Dev nD) (t : Fin cfg0.N) (a : Vec Ideal S1056x2048 .bf16) (h0 : t.val % 11 = 0) :
    (stepAt m c t a).2 = headOf (BitVec.ofNat 32 (grid0.coords t 0).val) (iblk m c 0 t) (iblk m c 1 t) (iblk m c 2 t) (iblk m c 3 t) := by
  rw [stepAt_A m c t a h0]
  dsimp only
  unfold sout0_A_0 kernelRun0_A
  dsimp only
  rw [View.read_writes_junk_eq_canon]
  exact head_pieces c t _ _ _ _

theorem step_A1 (c : Dev nD) (t : Fin cfg0.N) (a : Vec Ideal S1056x2048 .bf16) (h0 : t.val % 11 = 0) :
    (stepAt m c t a).1 = outOf (headOf (BitVec.ofNat 32 (grid0.coords t 0).val) (iblk m c 0 t) (iblk m c 1 t) (iblk m c 2 t) (iblk m c 3 t)) (iblk m c 4 t) (iblk m c 5 t) (iblk m c 6 t) (iblk m c 7 t) (iblk m c 8 t) (iblk m c 9 t) := by
  rw [stepAt_A m c t a h0]
  dsimp only
  unfold out0_A_10 kernelRun0_A
  dsimp only
  rw [View.read_writes_junk_eq_canon, View.canon_unit_zero zeros2]
  unfold outOf
  unfold kernelRun0_A.sl.r_4 kernelRun0_A.sl.r_5 kernelRun0_A.sl.v37
  unfold kernelRun0_A.sl.v17 kernelRun0_A.sl.HS2_1 kernelRun0_A.sl.HS1_1
  simp only [read_all, cov_canon, canon_all]
  unfold kernelRun0_A.sl.v3
  simp only [cov_canon]
  rw [head_pieces]
end Cert.Proof.Up
end
-- ==== Proof.Up.Ref.lean ====
/- The first feed-forward product's reference, element by element. -/
module

public import proofs.«01_k».proof.Proof.Gen.Reference3Ideal
public import proofs.«01_k».proof.Proof.Gen.Reference3Ideal.Run
public import proofs.«01_k».proof.Proof.DownRef
public import Idealize.ShloMosaic.Lib.Pointwise
public import Idealize.ShloMosaic.Lib.KernelVsHost

@[expose] public section

set_option maxRecDepth 16384

noncomputable section

namespace Cert.Proof.UpR

open Cert.Reference3Ideal Cert.Reference3Ideal.Gen
open Idealize.ShloMosaic Idealize.ShloMosaic.TcCoe Idealize.ShloMosaic.Tactic

/-- The product of the normed rows. -/
def prod (x : FVec Ideal S8192x2048 .f32) (g : FVec Ideal S2048 .f32) (w : FVec Ideal S2048x11264 .f32) : FVec Ideal S8192x11264 .f32 :=
  Host.dotGeneral dot_S8192x2048_S2048x11264_S8192x11264_1_0_0_1_n_n none (Cert.Proof.DownR.norm x g) w

/-- A row of zeros before and after. -/
def padded (u : FVec Ideal S8192x11264 .f32) : FVec Ideal S8194x11264 .f32 :=
  pad S8194x11264 ![1, 0] ![1, 0] ![0, 0] u (sitofp (F := Ideal) .f32 (constantI S_ 32 0#32)) pads_S8192x11264_S8194x11264_110_000 h_S_

/-- A vector down the rows. -/
def down (v : FVec Ideal S11264 .f32) : FVec Ideal S8192x11264 .f32 :=
  broadcastInDim S8192x11264 ![0, 1] bcast_S1x11264_S8192x11264_0_1 (broadcastInDim S1x11264 ![1] bcast_S11264_S1x11264_1 v)

/-- The convolution of padded rows. -/
def conv (u : FVec Ideal S8194x11264 .f32) (cw : FVec Ideal S3x11264 .f32) (cb : FVec Ideal S11264 .f32) : FVec Ideal S8192x11264 .f32 :=
  addf (addf (addf (addf (broadcastInDim S8192x11264 ![] bcast_S_S8192x11264 (constant S_ .f32 0x00000000#32))
    (mulf (extractStridedSlice S8192x11264 ![0, 0] u slices_S8194x11264_S8192x11264_0_0) (down (shapeCast S11264 (extractStridedSlice S1x11264 ![0, 0] cw slices_S3x11264_S1x11264_0_0) shapeCasts_S1x11264_S11264))))
    (mulf (extractStridedSlice S8192x11264 ![1, 0] u slices_S8194x11264_S8192x11264_1_0) (down (shapeCast S11264 (extractStridedSlice S1x11264 ![1, 0] cw slices_S3x11264_S1x11264_1_0) shapeCasts_S1x11264_S11264))))
    (mulf (extractStridedSlice S8192x11264 ![2, 0] u slices_S8194x11264_S8192x11264_2_0) (down (shapeCast S11264 (extractStridedSlice S1x11264 ![2, 0] cw slices_S3x11264_S1x11264_2_0) shapeCasts_S1x11264_S11264))))
    (down cb)

/-- The gate's activation. -/
def silu (a : FVec Ideal S8192x5632 .f32) : FVec Ideal S8192x5632 .f32 :=
  mulf a (Host.divf (broadcastInDim S8192x5632 ![] bcast_S_S8192x5632 (constant S_ .f32 0x3F800000#32))
    (addf (broadcastInDim S8192x5632 ![] bcast_S_S8192x5632 (constant S_ .f32 0x3F800000#32)) (Host.exp (Host.negf a))))

/-- The gated result of the convolved rows. -/
def gated (u : FVec Ideal S8192x11264 .f32) : FVec Ideal S8192x5632 .bf16 :=
  truncf .bf16 (mulf (silu (extractStridedSlice S8192x5632 ![0, 0] u slices_S8192x11264_S8192x5632_0_0))
    (extractStridedSlice S8192x5632 ![0, 5632] u slices_S8192x11264_S8192x5632_0_5632)) bitsLt_bf16_f32

/-- The gate by elements, the way it is written with one division. -/
def gate (a b : EReal) : EReal := Ideal.div a (1 + Ideal.exp (0 - a)) * b

theorem exp_nonneg (x : EReal) : 0 ≤ Ideal.exp x := by
  induction x using EReal.rec with
  | bot => exact le_refl _
  | top => exact le_top
  | coe r => exact EReal.coe_nonneg.mpr (Real.exp_pos r).le

/-- A share of a positive denominator is one division. -/
theorem share (x y : EReal) : x * Ideal.div 1 (1 + Ideal.exp y) = Ideal.div x (1 + Ideal.exp y) := by
  have h : (1 + Ideal.exp y : EReal) ≠ 0 := ne_of_gt (lt_of_lt_of_le zero_lt_one (le_add_of_nonneg_right (exp_nonneg y)))
  unfold Ideal.div
  rw [if_neg h, if_neg h, one_mul]

theorem prod_at (x g w) (n : Fin 8192) (f : Fin 11264) : prod x g w (ix2 n f)
    = ∑ k : Fin 2048, normed (fun k => x (ix2 n k)) (fun k => g (ix1 k)) k * w (ix2 k f) := by
  unfold prod
  pointwise
  simp only [DownR.norm_at]

theorem padded_at (u) (q : Fin 8194) (f : Fin 11264) : padded u (ix2 q f)
    = if h : 1 ≤ q.val ∧ q.val ≤ 8192 then u (ix2 ⟨q.val - 1, by omega⟩ f) else 0 := by
  pointwise [padded]
  by_cases h : 1 ≤ q.val ∧ q.val ≤ 8192
  · rw [dif_pos h, dif_pos ⟨h.1, by omega⟩]
  · rw [dif_neg h, dif_neg (by omega)]
    show (((0#32 : BitVec 32).toInt : ℝ) : EReal) = 0
    simp

theorem conv_at (u cw cb) (n : Fin 8192) (f : Fin 11264) : conv u cw cb (ix2 n f)
    = u (ix2 ⟨n.val, by omega⟩ f) * cw (ix2 0 f) + u (ix2 ⟨n.val + 1, by omega⟩ f) * cw (ix2 1 f) + u (ix2 ⟨n.val + 2, by omega⟩ f) * cw (ix2 2 f) + cb (ix1 f) := by
  pointwise [conv, down]
  simp only [Nat.add_comm]

theorem gated_at (u) (n : Fin 8192) (f : Fin 5632) : gated u (ix2 n f)
    = gate (u (ix2 n ⟨f.val, by omega⟩)) (u (ix2 n ⟨5632 + f.val, by omega⟩)) := by
  pointwise [gated, silu, gate]
  rw [share, zero_sub]

end Cert.Proof.UpR
end
-- ==== Proof.Up.Rows.lean ====
/- The first feed-forward product's blocks, element by element. -/
module

public import proofs.«01_k».proof.Proof.Up.Body
public import proofs.«01_k».proof.Proof.Up.Ref
public import Idealize.ShloMosaic.Lib.Pointwise
public import Idealize.ShloMosaic.Lib.KernelVsHost
public import Idealize.ShloMosaic.Lib.Pipeline.ValueKit
public import Idealize.ShloMosaic.Lib.StableHlo.ReadAt

@[expose] public section

set_option maxRecDepth 16384

noncomputable section

namespace Cert.Proof.Up

open Cert.Kernel3Ideal Cert.Kernel3Ideal.Gen Cert.Proof.UpRun
open Idealize.ShloMosaic Idealize.ShloMosaic.TcCoe Idealize.ShloMosaic.Tactic
open Idealize.ShloMosaic.Pipeline (Dat Cfg Window)

/-- One half of the convolved product at column `b`, of three rows. -/
def sideAt (h : Vec Ideal S1056x2048 .bf16) (w : Vec Ideal S2048x512 .f32) (cw : Vec Ideal S3x512 .f32) (cb : Vec Ideal S1x512 .f32) (p q r : Fin 1056) (b : Fin 512) : EReal :=
  (∑ k : Fin 2048, h (ix2 p k) * w (ix2 k b)) * cw (ix2 0 b) + (∑ k : Fin 2048, h (ix2 q k) * w (ix2 k b)) * cw (ix2 1 b)
    + (∑ k : Fin 2048, h (ix2 r k) * w (ix2 k b)) * cw (ix2 2 b) + cb (ix2 0 b)

/-- One half of the convolved product at row `a` and column `b`. -/
def side (h : Vec Ideal S1056x2048 .bf16) (w : Vec Ideal S2048x512 .f32) (cw : Vec Ideal S3x512 .f32) (cb : Vec Ideal S1x512 .f32) (a : Fin 1024) (b : Fin 512) : EReal :=
  sideAt h w cw cb ⟨15 + a.val, by omega⟩ ⟨15 + (a.val + 1), by omega⟩ ⟨15 + (a.val + 2), by omega⟩ b

theorem pay3_at (g : Vec Ideal S1x2048 .f32) (x : Vec Ideal S1024x2048 .f32) (a : Fin 1024) (k : Fin 2048) :
    (k0_pay3 g x (ix2 a k) : EReal) = normed (fun k => x (ix2 a k)) (fun k => g (ix2 0 k)) k := by
  pointwise [k0_pay3, k0_pay2, normed]

theorem pay5_at (i : BitVec 32) (g : Vec Ideal S1x2048 .f32) (x : Vec Ideal S8x2048 .f32) (a : Fin 8) (k : Fin 2048) :
    (k0_pay5 i g x (ix2 a k) : EReal) = if Scalar.cmpi .sgt i 0#32 = 1#1 then normed (fun k => x (ix2 a k)) (fun k => g (ix2 0 k)) k else 0 := by
  pointwise [k0_pay5, k0_pay2, normed]
  rfl

theorem pay7_at (u v : FVec Ideal S8x2048 .f32) (k : Fin 2048) :
    (k0_pay7 u v (ix2 ⟨15, by omega⟩ k) : EReal) = v (ix2 ⟨7, by omega⟩ k) := by
  pointwise [k0_pay7]

theorem pay8_at (b : BitVec 1) (g : Vec Ideal S1x2048 .f32) (z : FVec Ideal S8x2048 .f32) (x : Vec Ideal S8x2048 .f32) (k : Fin 2048) :
    (k0_pay8 (k0_pay2 g) z b x (k0_pay6 x) (ix2 0 k) : EReal) = if b = 1#1 then normed (fun k => x (ix2 0 k)) (fun k => g (ix2 0 k)) k else 0 := by
  pointwise [k0_pay8, k0_pay6, k0_pay2, normed]
  rfl

theorem out_raw (h : Vec Ideal S1056x2048 .bf16) (wg wv : Vec Ideal S2048x512 .f32) (cg cv : Vec Ideal S3x512 .f32) (bg bv : Vec Ideal S1x512 .f32)
    (a : Fin 1024) (b : Fin 512) : (outOf h wg wv cg cv bg bv (ix2 a b) : EReal)
      = UpR.gate (sideAt h wg cg bg ⟨(16 + a.val + 1056 - 1) % 1056, Nat.mod_lt _ (by omega)⟩ ⟨16 + a.val, by omega⟩ ⟨(16 + a.val + 1056 - 1055) % 1056, Nat.mod_lt _ (by omega)⟩ b)
        (sideAt h wv cv bv ⟨(16 + a.val + 1056 - 1) % 1056, Nat.mod_lt _ (by omega)⟩ ⟨16 + a.val, by omega⟩ ⟨(16 + a.val + 1056 - 1055) % 1056, Nat.mod_lt _ (by omega)⟩ b) := by
  pointwise [outOf, k0_pay1, k0_pay11, k0_pay9, k0_pay10, sideAt, UpR.gate]

theorem out_at (h : Vec Ideal S1056x2048 .bf16) (wg wv : Vec Ideal S2048x512 .f32) (cg cv : Vec Ideal S3x512 .f32) (bg bv : Vec Ideal S1x512 .f32)
    (a : Fin 1024) (b : Fin 512) : (outOf h wg wv cg cv bg bv (ix2 a b) : EReal) = UpR.gate (side h wg cg bg a b) (side h wv cv bv a b) := by
  have e0 : (⟨(16 + a.val + 1056 - 1) % 1056, Nat.mod_lt _ (by omega)⟩ : Fin 1056) = ⟨15 + a.val, by omega⟩ := Fin.ext (by show (16 + a.val + 1056 - 1) % 1056 = 15 + a.val; omega)
  have e2 : (⟨(16 + a.val + 1056 - 1055) % 1056, Nat.mod_lt _ (by omega)⟩ : Fin 1056) = ⟨15 + (a.val + 2), by omega⟩ := Fin.ext (by show (16 + a.val + 1056 - 1055) % 1056 = 15 + (a.val + 2); omega)
  have e1 : (⟨16 + a.val, by omega⟩ : Fin 1056) = ⟨15 + (a.val + 1), by omega⟩ := Fin.ext (by show 16 + a.val = 15 + (a.val + 1); omega)
  have s (w : Vec Ideal S2048x512 .f32) (cw : Vec Ideal S3x512 .f32) (cb : Vec Ideal S1x512 .f32) := congrFun (congr (congr (congrArg (sideAt h w cw cb) e0) e1) e2) b
  exact (out_raw h wg wv cg cv bg bv a b).trans (congr (congrArg UpR.gate (s wg cg bg)) (s wv cv bv))

/-- Three blocks of rows stored one after another. -/
def three (X Y : Vec Ideal S16x2048 .bf16) (Z : Vec Ideal S1024x2048 .bf16) : Vec Ideal S1056x2048 .bf16 :=
  View.canon [⟨Rect.unit ![1040, 0] ![16, 2048] inb_S1056x2048_S16x2048_1040_0, X⟩, ⟨Rect.unit ![0, 0] ![16, 2048] inb_S1056x2048_S16x2048_0_0, Y⟩,
    ⟨Rect.unit ![16, 0] ![1024, 2048] inb_S1056x2048_S1024x2048_16_0, Z⟩]

theorem three_mid (X Y Z) (d : ℕ) (h1 : 1 ≤ d) (h2 : d ≤ 1024) (k : Fin 2048) :
    three X Y Z (ix2 ⟨15 + d, by omega⟩ k) = Z (ix2 ⟨d - 1, by omega⟩ k) := by
  unfold three
  rw [View.canon_cons_of_not_mem, View.canon_cons_of_not_mem]
  · suffices e : (ix2 ⟨15 + d, by omega⟩ k : S1056x2048.Idx) = (Rect.unit (s := S1056x2048) ![16, 0] ![1024, 2048] inb_S1056x2048_S1024x2048_16_0).emb (ix2 ⟨d - 1, by omega⟩ k) from
        (congrArg (View.canon _) e).trans (View.canon_cons_emb (Rect.unit (s := S1056x2048) ![16, 0] ![1024, 2048] inb_S1056x2048_S1024x2048_16_0) Z _ (ix2 ⟨d - 1, by omega⟩ k))
    refine funext fun b => Fin.ext ?_
    fin_cases b
    · show 15 + d = 16 + 1 * (d - 1)
      omega
    · show k.val = 0 + 1 * k.val
      omega
  · rw [Rect.mem_set_unit]
    intro h
    have h := h 0
    have : 15 + d < 0 + 16 := h.2
    omega
  · rw [Rect.mem_set_unit]
    intro h
    have h := h 0
    have : 1040 ≤ 15 + d := h.1
    omega

theorem three_first (X Y Z) (k : Fin 2048) : three X Y Z (ix2 ⟨15, by omega⟩ k) = Y (ix2 ⟨15, by omega⟩ k) := by
  unfold three
  rw [View.canon_cons_of_not_mem]
  · suffices e : (ix2 ⟨15, by omega⟩ k : S1056x2048.Idx) = (Rect.unit (s := S1056x2048) ![0, 0] ![16, 2048] inb_S1056x2048_S16x2048_0_0).emb (ix2 ⟨15, by omega⟩ k) from
        (congrArg (View.canon _) e).trans (View.canon_cons_emb (Rect.unit (s := S1056x2048) ![0, 0] ![16, 2048] inb_S1056x2048_S16x2048_0_0) Y _ (ix2 ⟨15, by omega⟩ k))
    refine funext fun b => Fin.ext ?_
    fin_cases b
    · show 15 = 0 + 1 * 15
      omega
    · show k.val = 0 + 1 * k.val
      omega
  · rw [Rect.mem_set_unit]
    intro h
    have h := h 0
    have : 1040 ≤ 15 := h.1
    omega

theorem three_last (X Y Z) (k : Fin 2048) : three X Y Z (ix2 ⟨1040, by omega⟩ k) = X (ix2 ⟨0, by omega⟩ k) := by
  unfold three
  suffices e : (ix2 ⟨1040, by omega⟩ k : S1056x2048.Idx) = (Rect.unit (s := S1056x2048) ![1040, 0] ![16, 2048] inb_S1056x2048_S16x2048_1040_0).emb (ix2 ⟨0, by omega⟩ k) from
      (congrArg (View.canon _) e).trans (View.canon_cons_emb (Rect.unit (s := S1056x2048) ![1040, 0] ![16, 2048] inb_S1056x2048_S16x2048_1040_0) X _ (ix2 ⟨0, by omega⟩ k))
  refine funext fun b => Fin.ext ?_
  fin_cases b
  · show 1040 = 1040 + 1 * 0
    omega
  · show k.val = 0 + 1 * k.val
    omega

theorem head_eq (i : BitVec 32) (x : Vec Ideal S1024x2048 .f32) (p n : Vec Ideal S8x2048 .f32) (g : Vec Ideal S1x2048 .f32) : headOf i x p n g
    = three (k0_pay8 (k0_pay2 g) k0_pay4 (Scalar.cmpi .slt i 7#32) n (k0_pay6 n)) (k0_pay7 k0_pay4 (k0_pay5 i g p)) (k0_pay3 g x) := by
  unfold headOf three
  rfl

theorem head_mid (i : BitVec 32) (x : Vec Ideal S1024x2048 .f32) (p n : Vec Ideal S8x2048 .f32) (g : Vec Ideal S1x2048 .f32) (d : ℕ) (h1 : 1 ≤ d) (h2 : d ≤ 1024) (k : Fin 2048) :
    headOf i x p n g (ix2 ⟨15 + d, by omega⟩ k) = normed (fun k => x (ix2 ⟨d - 1, by omega⟩ k)) (fun k => g (ix2 0 k)) k := by
  rw [head_eq, three_mid _ _ _ d h1 h2]
  exact pay3_at g x ⟨d - 1, by omega⟩ k

theorem head_first (i : BitVec 32) (x : Vec Ideal S1024x2048 .f32) (p n : Vec Ideal S8x2048 .f32) (g : Vec Ideal S1x2048 .f32) (k : Fin 2048) :
    headOf i x p n g (ix2 ⟨15, by omega⟩ k) = if Scalar.cmpi .sgt i 0#32 = 1#1 then normed (fun k => p (ix2 ⟨7, by omega⟩ k)) (fun k => g (ix2 0 k)) k else 0 := by
  rw [head_eq, three_first, pay7_at]
  exact pay5_at i g p ⟨7, by omega⟩ k

theorem head_last (i : BitVec 32) (x : Vec Ideal S1024x2048 .f32) (p n : Vec Ideal S8x2048 .f32) (g : Vec Ideal S1x2048 .f32) (k : Fin 2048) :
    headOf i x p n g (ix2 ⟨1040, by omega⟩ k) = if Scalar.cmpi .slt i 7#32 = 1#1 then normed (fun k => n (ix2 ⟨0, by omega⟩ k)) (fun k => g (ix2 0 k)) k else 0 := by
  rw [head_eq, three_last]
  exact pay8_at _ g _ n k

end Cert.Proof.Up
end
-- ==== Proof.Up.Values.lean ====
/- The first feed-forward product's call, element by element. -/
module

public import proofs.«01_k».proof.Proof.Up.Run
public import proofs.«01_k».proof.Proof.Up.Rows

@[expose] public section

set_option maxRecDepth 16384

noncomputable section

namespace Cert.Proof.Up

open Cert.Kernel3Ideal Cert.Kernel3Ideal.Gen Cert.Proof.UpRun
open Idealize.ShloMosaic Idealize.ShloMosaic.TcCoe Idealize.ShloMosaic.Tactic
open Idealize.ShloMosaic.Pipeline (Dat Cfg Window)

variable (m : (ℓ : Loc nD τ sig) → Buf (Elt Ideal) ℓ)

theorem pt_lt (t : Fin cfg0.N) : t.val < 88 := lt_of_lt_of_eq t.isLt (show cfg0.N = 88 from N_0)
theorem row_lt (t : Fin cfg0.N) : t.val / 11 < 8 := by have := pt_lt t; omega
theorem col_lt (t : Fin cfg0.N) : t.val % 11 < 11 := Nat.mod_lt _ (by omega)

theorem at_0 : ∀ t : Fin cfg0.grid.N, t.val % 11 = 0 → win0_0.index t = ![t.val / 11, 0] := by decide +kernel
theorem at_1 : ∀ t : Fin cfg0.grid.N, t.val % 11 = 0 → win0_1.index t = ![t.val / 11 * 128 - 1, 0] := by decide +kernel
theorem at_2 : ∀ t : Fin cfg0.grid.N, t.val % 11 = 0 → win0_2.index t = ![min ((t.val / 11 + 1) * 128) 1023, 0] := by decide +kernel
theorem at_3 : ∀ t : Fin cfg0.grid.N, win0_3.index t = ![0, 0] := by decide +kernel
theorem at_4 : ∀ t : Fin cfg0.grid.N, win0_4.index t = ![0, t.val % 11] := by decide +kernel
theorem at_5 : ∀ t : Fin cfg0.grid.N, win0_5.index t = ![0, t.val % 11 + 11] := by decide +kernel
theorem at_6 : ∀ t : Fin cfg0.grid.N, win0_6.index t = ![0, t.val % 11] := by decide +kernel
theorem at_7 : ∀ t : Fin cfg0.grid.N, win0_7.index t = ![0, t.val % 11 + 11] := by decide +kernel
theorem at_8 : ∀ t : Fin cfg0.grid.N, win0_8.index t = ![0, t.val % 11] := by decide +kernel
theorem at_9 : ∀ t : Fin cfg0.grid.N, win0_9.index t = ![0, t.val % 11 + 11] := by decide +kernel
theorem at_10 : ∀ t : Fin cfg0.grid.N, win0_10.index t = ![t.val / 11, t.val % 11] := by decide +kernel
theorem first_cond : ∀ t : Fin cfg0.N, Scalar.cmpi .sgt (BitVec.ofNat 32 (grid0.coords t 0).val) 0#32 = if 1 ≤ t.val / 11 then 1#1 else 0#1 := by decide +kernel
theorem last_cond : ∀ t : Fin cfg0.N, Scalar.cmpi .slt (BitVec.ofNat 32 (grid0.coords t 0).val) 7#32 = if t.val / 11 < 7 then 1#1 else 0#1 := by decide +kernel

theorem V_v0 (c : Dev nD) (k : Fin 2048) : V m c main_v0 (ix2 0 k) = m ((c : Thread nD τ).loc main_arg1) (ix1 k) := by
  unfold V
  after_reads_at
theorem V_v1 (c : Dev nD) (f : Fin 11264) : V m c main_v1 (ix2 0 f) = m ((c : Thread nD τ).loc main_arg4) (ix1 f) := by
  unfold V
  after_reads_at

theorem blk_0 (c : Dev nD) (t : Fin cfg0.N) (h0 : t.val % 11 = 0) (a : Fin 1024) (k : Fin 2048) : iblk m c 0 t (ix2 a k)
    = m ((c : Thread nD τ).loc main_arg0) (ix2 ⟨t.val / 11 * 1024 + a.val, by have := row_lt t; have := a.isLt; omega⟩ k) := by
  refine Eq.trans ?_ (congrFun (V_main_arg0 m c) _)
  show ((cfg0.win 0).blk t).view.read (Elt Ideal) (V m c main_arg0) (ix2 a k) = _
  rw [View.read_apply]
  blk_simp
  refine congrArg (V m c main_arg0) (funext fun x => Fin.ext ?_)
  fin_cases x
  · blk_simp
    exact congrArg (fun n => n * 1024 + a.val) (congrFun (at_0 t h0) 0)
  · blk_simp
    exact (congrArg (fun n => n * 2048 + k.val) (congrFun (at_0 t h0) 1)).trans (by show 0 * 2048 + k.val = k.val; omega)

theorem blk_1 (c : Dev nD) (t : Fin cfg0.N) (h0 : t.val % 11 = 0) (h : 1 ≤ t.val / 11) (a : Fin 8) (k : Fin 2048) : iblk m c 1 t (ix2 a k)
    = m ((c : Thread nD τ).loc main_arg0) (ix2 ⟨(t.val / 11 * 128 - 1) * 8 + a.val, by have := row_lt t; have := a.isLt; omega⟩ k) := by
  refine Eq.trans ?_ (congrFun (V_main_arg0 m c) _)
  show ((cfg0.win 1).blk t).view.read (Elt Ideal) (V m c main_arg0) (ix2 a k) = _
  rw [View.read_apply]
  blk_simp
  refine congrArg (V m c main_arg0) (funext fun x => Fin.ext ?_)
  fin_cases x
  · blk_simp
    exact congrArg (fun n => n * 8 + a.val) (congrFun (at_1 t h0) 0)
  · blk_simp
    exact (congrArg (fun n => n * 2048 + k.val) (congrFun (at_1 t h0) 1)).trans (by show 0 * 2048 + k.val = k.val; omega)

theorem blk_2 (c : Dev nD) (t : Fin cfg0.N) (h0 : t.val % 11 = 0) (h : t.val / 11 < 7) (a : Fin 8) (k : Fin 2048) : iblk m c 2 t (ix2 a k)
    = m ((c : Thread nD τ).loc main_arg0) (ix2 ⟨(t.val / 11 + 1) * 1024 + a.val, by have := row_lt t; have := a.isLt; omega⟩ k) := by
  refine Eq.trans ?_ (congrFun (V_main_arg0 m c) _)
  show ((cfg0.win 2).blk t).view.read (Elt Ideal) (V m c main_arg0) (ix2 a k) = _
  rw [View.read_apply]
  blk_simp
  refine congrArg (V m c main_arg0) (funext fun x => Fin.ext ?_)
  fin_cases x
  · blk_simp
    exact (congrArg (fun n => n * 8 + a.val) (congrFun (at_2 t h0) 0)).trans (by show min ((t.val / 11 + 1) * 128) 1023 * 8 + a.val = (t.val / 11 + 1) * 1024 + a.val; omega)
  · blk_simp
    exact (congrArg (fun n => n * 2048 + k.val) (congrFun (at_2 t h0) 1)).trans (by show 0 * 2048 + k.val = k.val; omega)

theorem blk_3 (c : Dev nD) (t : Fin cfg0.N) (k : Fin 2048) : iblk m c 3 t (ix2 0 k)
    = m ((c : Thread nD τ).loc main_arg1) (ix1 k) := by
  refine Eq.trans ?_ (V_v0 m c _)
  show ((cfg0.win 3).blk t).view.read (Elt Ideal) (V m c main_v0) (ix2 0 k) = _
  rw [View.read_apply]
  blk_simp
  refine congrArg (V m c main_v0) (funext fun x => Fin.ext ?_)
  fin_cases x
  · blk_simp
    exact (congrArg (fun n => n * 1 + 0) (congrFun (at_3 t) 0)).trans (by show 0 * 1 + 0 = 0; omega)
  · blk_simp
    exact (congrArg (fun n => n * 2048 + k.val) (congrFun (at_3 t) 1)).trans (by show 0 * 2048 + k.val = k.val; omega)

theorem blk_4 (c : Dev nD) (t : Fin cfg0.N) (k : Fin 2048) (b : Fin 512) : iblk m c 4 t (ix2 k b)
    = m ((c : Thread nD τ).loc main_arg2) (ix2 k ⟨t.val % 11 * 512 + b.val, by have := col_lt t; have := b.isLt; omega⟩) := by
  refine Eq.trans ?_ (congrFun (V_main_arg2 m c) _)
  show ((cfg0.win 4).blk t).view.read (Elt Ideal) (V m c main_arg2) (ix2 k b) = _
  rw [View.read_apply]
  blk_simp
  refine congrArg (V m c main_arg2) (funext fun x => Fin.ext ?_)
  fin_cases x
  · blk_simp
    exact (congrArg (fun n => n * 2048 + k.val) (congrFun (at_4 t) 0)).trans (by show 0 * 2048 + k.val = k.val; omega)
  · blk_simp
    exact congrArg (fun n => n * 512 + b.val) (congrFun (at_4 t) 1)

theorem blk_5 (c : Dev nD) (t : Fin cfg0.N) (k : Fin 2048) (b : Fin 512) : iblk m c 5 t (ix2 k b)
    = m ((c : Thread nD τ).loc main_arg2) (ix2 k ⟨(t.val % 11 + 11) * 512 + b.val, by have := col_lt t; have := b.isLt; omega⟩) := by
  refine Eq.trans ?_ (congrFun (V_main_arg2 m c) _)
  show ((cfg0.win 5).blk t).view.read (Elt Ideal) (V m c main_arg2) (ix2 k b) = _
  rw [View.read_apply]
  blk_simp
  refine congrArg (V m c main_arg2) (funext fun x => Fin.ext ?_)
  fin_cases x
  · blk_simp
    exact (congrArg (fun n => n * 2048 + k.val) (congrFun (at_5 t) 0)).trans (by show 0 * 2048 + k.val = k.val; omega)
  · blk_simp
    exact congrArg (fun n => n * 512 + b.val) (congrFun (at_5 t) 1)

theorem blk_6 (c : Dev nD) (t : Fin cfg0.N) (k : Fin 3) (b : Fin 512) : iblk m c 6 t (ix2 k b)
    = m ((c : Thread nD τ).loc main_arg3) (ix2 k ⟨t.val % 11 * 512 + b.val, by have := col_lt t; have := b.isLt; omega⟩) := by
  refine Eq.trans ?_ (congrFun (V_main_arg3 m c) _)
  show ((cfg0.win 6).blk t).view.read (Elt Ideal) (V m c main_arg3) (ix2 k b) = _
  rw [View.read_apply]
  blk_simp
  refine congrArg (V m c main_arg3) (funext fun x => Fin.ext ?_)
  fin_cases x
  · blk_simp
    exact (congrArg (fun n => n * 3 + k.val) (congrFun (at_6 t) 0)).trans (by show 0 * 3 + k.val = k.val; omega)
  · blk_simp
    exact congrArg (fun n => n * 512 + b.val) (congrFun (at_6 t) 1)

theorem blk_7 (c : Dev nD) (t : Fin cfg0.N) (k : Fin 3) (b : Fin 512) : iblk m c 7 t (ix2 k b)
    = m ((c : Thread nD τ).loc main_arg3) (ix2 k ⟨(t.val % 11 + 11) * 512 + b.val, by have := col_lt t; have := b.isLt; omega⟩) := by
  refine Eq.trans ?_ (congrFun (V_main_arg3 m c) _)
  show ((cfg0.win 7).blk t).view.read (Elt Ideal) (V m c main_arg3) (ix2 k b) = _
  rw [View.read_apply]
  blk_simp
  refine congrArg (V m c main_arg3) (funext fun x => Fin.ext ?_)
  fin_cases x
  · blk_simp
    exact (congrArg (fun n => n * 3 + k.val) (congrFun (at_7 t) 0)).trans (by show 0 * 3 + k.val = k.val; omega)
  · blk_simp
    exact congrArg (fun n => n * 512 + b.val) (congrFun (at_7 t) 1)

theorem blk_8 (c : Dev nD) (t : Fin cfg0.N) (b : Fin 512) : iblk m c 8 t (ix2 0 b)
    = m ((c : Thread nD τ).loc main_arg4) (ix1 ⟨t.val % 11 * 512 + b.val, by have := col_lt t; have := b.isLt; omega⟩) := by
  refine Eq.trans ?_ (V_v1 m c _)
  show ((cfg0.win 8).blk t).view.read (Elt Ideal) (V m c main_v1) (ix2 0 b) = _
  rw [View.read_apply]
  blk_simp
  refine congrArg (V m c main_v1) (funext fun x => Fin.ext ?_)
  fin_cases x
  · blk_simp
    exact (congrArg (fun n => n * 1 + 0) (congrFun (at_8 t) 0)).trans (by show 0 * 1 + 0 = 0; omega)
  · blk_simp
    exact congrArg (fun n => n * 512 + b.val) (congrFun (at_8 t) 1)

theorem blk_9 (c : Dev nD) (t : Fin cfg0.N) (b : Fin 512) : iblk m c 9 t (ix2 0 b)
    = m ((c : Thread nD τ).loc main_arg4) (ix1 ⟨(t.val % 11 + 11) * 512 + b.val, by have := col_lt t; have := b.isLt; omega⟩) := by
  refine Eq.trans ?_ (V_v1 m c _)
  show ((cfg0.win 9).blk t).view.read (Elt Ideal) (V m c main_v1) (ix2 0 b) = _
  rw [View.read_apply]
  blk_simp
  refine congrArg (V m c main_v1) (funext fun x => Fin.ext ?_)
  fin_cases x
  · blk_simp
    exact (congrArg (fun n => n * 1 + 0) (congrFun (at_9 t) 0)).trans (by show 0 * 1 + 0 = 0; omega)
  · blk_simp
    exact congrArg (fun n => n * 512 + b.val) (congrFun (at_9 t) 1)

/-- A normed row counted from one, zero on both sides. -/
def line (x : FVec Ideal S8192x2048 .f32) (g : FVec Ideal S2048 .f32) (q : ℕ) (k : Fin 2048) : EReal :=
  if h : 1 ≤ q ∧ q ≤ 8192 then normed (fun k => x (ix2 ⟨q - 1, by omega⟩ k)) (fun k => g (ix1 k)) k else 0

theorem line_of (x : FVec Ideal S8192x2048 .f32) (g : FVec Ideal S2048 .f32) (q : ℕ) (k : Fin 2048) (h : 1 ≤ q ∧ q ≤ 8192) (n : Fin 8192) (e : n.val = q - 1) :
    normed (fun k => x (ix2 n k)) (fun k => g (ix1 k)) k = line x g q k := by
  unfold line
  rw [dif_pos h]
  exact congrArg (fun n : Fin 8192 => normed (fun k => x (ix2 n k)) (fun k => g (ix1 k)) k) (Fin.ext e)

/-- What the first point of a row of the grid stores for the whole row. -/
def headAt (c : Dev nD) (t : Fin cfg0.N) : Vec Ideal S1056x2048 .bf16 :=
  headOf (BitVec.ofNat 32 (grid0.coords t 0).val) (iblk m c 0 t) (iblk m c 1 t) (iblk m c 2 t) (iblk m c 3 t)

theorem headAt_at (c : Dev nD) (t : Fin cfg0.N) (h0 : t.val % 11 = 0) (d : ℕ) (hd : d ≤ 1025) (k : Fin 2048) :
    headAt m c t (ix2 ⟨15 + d, by omega⟩ k) = line (m ((c : Thread nD τ).loc main_arg0)) (m ((c : Thread nD τ).loc main_arg1)) (t.val / 11 * 1024 + d) k := by
  have ht := row_lt t
  unfold headAt
  by_cases hz : d = 0
  · subst hz
    refine (head_first _ _ _ _ _ k).trans ?_
    rw [first_cond]
    by_cases h : 1 ≤ t.val / 11
    · rw [if_pos h, if_pos rfl]
      simp only [blk_1 m c t h0 h, blk_3]
      exact line_of _ _ _ _ (by omega) _ (by show (t.val / 11 * 128 - 1) * 8 + 7 = t.val / 11 * 1024 + 0 - 1; omega)
    · rw [if_neg h, if_neg (by decide)]
      unfold line
      rw [dif_neg (by omega)]
  by_cases h1 : d ≤ 1024
  · refine (head_mid _ _ _ _ _ d (by omega) h1 k).trans ?_
    simp only [blk_0 m c t h0, blk_3]
    exact line_of _ _ _ _ (by omega) _ (by show t.val / 11 * 1024 + (d - 1) = t.val / 11 * 1024 + d - 1; omega)
  · obtain rfl : d = 1025 := by omega
    refine (head_last _ _ _ _ _ k).trans ?_
    rw [last_cond]
    by_cases h : t.val / 11 < 7
    · rw [if_pos h, if_pos rfl]
      simp only [blk_2 m c t h0 h, blk_3]
      exact line_of _ _ _ _ (by omega) _ (by show (t.val / 11 + 1) * 1024 + 0 = t.val / 11 * 1024 + 1025 - 1; omega)
    · rw [if_neg h, if_neg (by decide)]
      unfold line
      rw [dif_neg (by omega)]

theorem keep_B (c : Dev nD) (t : Fin cfg0.N) (a : Vec Ideal S1056x2048 .bf16) (h0 : ¬t.val % 11 = 0) : (stepAt m c t a).2 = a := by
  rw [stepAt_B m c t a h0]
  rfl

theorem carried (c : Dev nD) : ∀ (n : ℕ) (hn : n < cfg0.N), (outsAt0 m c n hn).2 = headAt m c ⟨n / 11 * 11, lt_of_le_of_lt (Nat.div_mul_le_self n 11) hn⟩
  | 0, hn => step_A m c ⟨0, hn⟩ _ rfl
  | n + 1, hn => by
    show (stepAt m c ⟨n + 1, hn⟩ (outsAt0 m c n (Nat.lt_of_succ_lt hn)).2).2 = _
    by_cases h : (n + 1) % 11 = 0
    · refine (step_A m c ⟨n + 1, hn⟩ _ h).trans ?_
      exact congrArg (headAt m c) (Fin.ext (by show n + 1 = (n + 1) / 11 * 11; omega))
    · rw [keep_B m c ⟨n + 1, hn⟩ _ h, carried c n]
      exact congrArg (headAt m c) (Fin.ext (by show n / 11 * 11 = (n + 1) / 11 * 11; omega))

theorem left (c : Dev nD) (t : Fin cfg0.N) : (outsAt0 m c t.val t.isLt).1
    = outOf (headAt m c ⟨t.val / 11 * 11, lt_of_le_of_lt (Nat.div_mul_le_self _ 11) t.isLt⟩) (iblk m c 4 t) (iblk m c 5 t) (iblk m c 6 t) (iblk m c 7 t) (iblk m c 8 t) (iblk m c 9 t) := by
  obtain ⟨n, hn⟩ := t
  cases n with
  | zero =>
    show (stepAt m c ⟨0, hn⟩ (VS0_0.read (Elt Ideal) VS0_0.junk)).1 = _
    refine (step_A1 m c ⟨0, hn⟩ _ rfl).trans ?_
    exact congrArg (fun q => outOf (headAt m c q) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
      (Fin.ext (by show 0 = 0 / 11 * 11; omega))
  | succ n =>
    show (stepAt m c ⟨n + 1, hn⟩ (outsAt0 m c n (Nat.lt_of_succ_lt hn)).2).1 = _
    by_cases h : (n + 1) % 11 = 0
    · refine (step_A1 m c ⟨n + 1, hn⟩ _ h).trans ?_
      exact congrArg (fun q => outOf (headAt m c q) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
        (Fin.ext (by show n + 1 = (n + 1) / 11 * 11; omega))
    · rw [step_B m c ⟨n + 1, hn⟩ _ h, carried m c n]
      exact congrArg (fun q => outOf (headAt m c q) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
        (Fin.ext (by show n / 11 * 11 = (n + 1) / 11 * 11; omega))

/-- One column of the convolved product at row `n`. -/
def lane (x : FVec Ideal S8192x2048 .f32) (g : FVec Ideal S2048 .f32) (w : FVec Ideal S2048x11264 .f32) (cw : FVec Ideal S3x11264 .f32) (cb : FVec Ideal S11264 .f32) (n : ℕ) (f : Fin 11264) : EReal :=
  (∑ k : Fin 2048, line x g n k * w (ix2 k f)) * cw (ix2 0 f) + (∑ k : Fin 2048, line x g (n + 1) k * w (ix2 k f)) * cw (ix2 1 f)
    + (∑ k : Fin 2048, line x g (n + 2) k * w (ix2 k f)) * cw (ix2 2 f) + cb (ix1 f)

/-- The result, by elements of the arguments. -/
def res (c : Dev nD) : FVec Ideal S8192x5632 .bf16 :=
  UpR.gated (UpR.conv (UpR.padded (UpR.prod (m ((c : Thread nD τ).loc main_arg0)) (m ((c : Thread nD τ).loc main_arg1)) (m ((c : Thread nD τ).loc main_arg2))))
    (m ((c : Thread nD τ).loc main_arg3)) (m ((c : Thread nD τ).loc main_arg4)))

theorem padded_line (x : FVec Ideal S8192x2048 .f32) (g : FVec Ideal S2048 .f32) (w : FVec Ideal S2048x11264 .f32) (q : Fin 8194) (f : Fin 11264) :
    UpR.padded (UpR.prod x g w) (ix2 q f) = ∑ k : Fin 2048, line x g q.val k * w (ix2 k f) := by
  rw [UpR.padded_at]
  by_cases h : 1 ≤ q.val ∧ q.val ≤ 8192
  · rw [dif_pos h, UpR.prod_at]
    exact Finset.sum_congr rfl fun k _ => congrArg (fun z : EReal => z * w (ix2 k f)) (line_of x g q.val k h _ rfl)
  · rw [dif_neg h]
    refine (Finset.sum_eq_zero fun k _ => ?_).symm
    unfold line
    rw [dif_neg h, zero_mul]

theorem conv_lane (x : FVec Ideal S8192x2048 .f32) (g : FVec Ideal S2048 .f32) (w : FVec Ideal S2048x11264 .f32) (cw : FVec Ideal S3x11264 .f32) (cb : FVec Ideal S11264 .f32) (n : Fin 8192) (f : Fin 11264) :
    UpR.conv (UpR.padded (UpR.prod x g w)) cw cb (ix2 n f) = lane x g w cw cb n.val f := by
  rw [UpR.conv_at, padded_line, padded_line, padded_line]
  rfl

theorem side_lane (x : FVec Ideal S8192x2048 .f32) (g : FVec Ideal S2048 .f32) (w : FVec Ideal S2048x11264 .f32) (cw : FVec Ideal S3x11264 .f32) (cb : FVec Ideal S11264 .f32)
    (h : Vec Ideal S1056x2048 .bf16) (u : Vec Ideal S2048x512 .f32) (cu : Vec Ideal S3x512 .f32) (bu : Vec Ideal S1x512 .f32) (a : Fin 1024) (b : Fin 512) (r : ℕ) (f : Fin 11264)
    (eh : ∀ (d : ℕ) (hd : d ≤ 1025) (k : Fin 2048), h (ix2 ⟨15 + d, by omega⟩ k) = line x g (r + d) k)
    (eu : ∀ k, u (ix2 k b) = w (ix2 k f)) (ec : ∀ k, cu (ix2 k b) = cw (ix2 k f)) (eb : bu (ix2 0 b) = cb (ix1 f)) :
    side h u cu bu a b = lane x g w cw cb (r + a.val) f := by
  have ha := a.isLt
  unfold side sideAt lane
  rw [ec, ec, ec, eb]
  simp only [eu]
  simp only [eh a.val (by omega), eh (a.val + 1) (by omega), eh (a.val + 2) (by omega)]
  rfl

theorem arr_eq (c : Dev nD) : (dats m 0 c).arrAt 10 cfg0.N = res m c := by
  refine Dat.arrAt_eq_of_covers (dats m 0 c) 10 _ (by decide +kernel) fun t hf y => ?_
  have hy0 : (y 0).val < 1024 := (y 0).isLt
  have hy1 : (y 1).val < 512 := (y 1).isLt
  have ht := row_lt t
  have hc := col_lt t
  obtain ⟨a, b, rfl⟩ : ∃ (a : Fin 1024) (b : Fin 512), y = ix2 a b := ⟨⟨(y 0).val, hy0⟩, ⟨(y 1).val, hy1⟩, funext fun b => by fin_cases b <;> rfl⟩
  have ha := a.isLt
  have hb := b.isLt
  have e : ((cfg0.win 10).blk t).view.emb (ix2 a b) = ix2 ⟨t.val / 11 * 1024 + a.val, by omega⟩ ⟨t.val % 11 * 512 + b.val, by omega⟩ := by
    refine funext fun x => Fin.ext ?_
    fin_cases x
    · blk_simp
      exact congrArg (fun n => n * 1024 + a.val) (congrFun (at_10 t) 0)
    · blk_simp
      exact congrArg (fun n => n * 512 + b.val) (congrFun (at_10 t) 1)
  rw [e]
  show (dats m 0 c).after 10 t (ix2 a b) = _
  rw [after0_10, left, out_at]
  unfold res
  rw [UpR.gated_at, conv_lane, conv_lane]
  have eh (d : ℕ) (hd : d ≤ 1025) (k : Fin 2048) : headAt m c ⟨t.val / 11 * 11, lt_of_le_of_lt (Nat.div_mul_le_self _ 11) t.isLt⟩ (ix2 ⟨15 + d, by omega⟩ k)
      = line (m ((c : Thread nD τ).loc main_arg0)) (m ((c : Thread nD τ).loc main_arg1)) (t.val / 11 * 1024 + d) k :=
    (headAt_at m c _ (by show t.val / 11 * 11 % 11 = 0; omega) d hd k).trans (congrArg (fun n => line (m ((c : Thread nD τ).loc main_arg0)) (m ((c : Thread nD τ).loc main_arg1)) (n * 1024 + d) k)
      (by show t.val / 11 * 11 / 11 = t.val / 11; omega))
  have q : (⟨(t.val % 11 + 11) * 512 + b.val, by omega⟩ : Fin 11264) = ⟨5632 + (t.val % 11 * 512 + b.val), by omega⟩ := Fin.ext (by show (t.val % 11 + 11) * 512 + b.val = 5632 + (t.val % 11 * 512 + b.val); omega)
  refine congr (congrArg UpR.gate ?_) ?_
  · exact side_lane _ _ _ _ _ _ _ _ _ a b (t.val / 11 * 1024) _ eh (fun k => blk_4 m c t k b) (fun k => blk_6 m c t k b) (blk_8 m c t b)
  · refine Eq.trans ?_ (congrArg (lane _ _ _ _ _ _) q)
    exact side_lane _ _ _ _ _ _ _ _ _ a b (t.val / 11 * 1024) _ eh (fun k => blk_5 m c t k b) (fun k => blk_7 m c t k b) (blk_9 m c t b)

end Cert.Proof.Up
end
-- ==== Proof.UpValues.lean ====
/- The first feed-forward product's claims. -/
module

public import proofs.«01_k».proof.Defs
public import proofs.«01_k».proof.Proof.Up.Words
public import proofs.«01_k».proof.Proof.Up.Values

@[expose] public section

noncomputable section

namespace Cert.Proof

open Idealize.ShloMosaic Idealize.SL.Sem Idealize.ShloMosaic.TcCoe

theorem frame_up_words : Cert.quiescent_Kernel3 (hKernel3 := Cert.Kernel3.Gen.facts) :=
  fun m ρ _ => UpWords.frame (F := Bits) m ρ

theorem frame_up : Cert.quiescent_Kernel3Ideal (hKernel3Ideal := Cert.Kernel3Ideal.Gen.facts) :=
  fun m ρ _ => UpRun.frame (F := Ideal) m ρ

theorem frame_up_ref : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩) (Cert.Reference3Ideal.Value.run (F := Ideal) m ρ)

theorem same_up : Cert.algebraic_Kernel3Ideal_Reference3Ideal (hKernel3Ideal := Cert.Kernel3Ideal.Gen.facts)
    (hReference3Ideal := Cert.Reference3Ideal.Gen.facts) := by
  intro m g m' g' hpre hin
  refine ⟨fun c => Up.res m c, ?_, ?_⟩
  · exact (θ_run Cert.Kernel3Ideal.defs _ _).mono (fun r h c => ⟨(h c).1.trans (Up.arr_eq m c), (h c).2⟩) (UpRun.run_blocks (F := Ideal) m g)
  · refine (θ_run Cert.Reference3Ideal.defs _ _).mono (fun r h c => ⟨?_, (h c).2⟩) (Cert.Reference3Ideal.Value.run (F := Ideal) m' g')
    refine (h c).1.trans ?_
    unfold Cert.Reference3Ideal.Value.res_main_v44
    rw [(hin c).1, (hin c).2.1, (hin c).2.2.1, (hin c).2.2.2.1, (hin c).2.2.2.2]
    rfl

end Cert.Proof

end
-- ==== Proof.Out.Ref.lean ====
/- The output projection's reference, element by element. -/
module

public import proofs.«01_k».proof.Proof.Gen.Reference4Ideal
public import proofs.«01_k».proof.Proof.Gen.Reference4Ideal.Run
public import Idealize.ShloMosaic.Lib.Pointwise

@[expose] public section

set_option maxRecDepth 16384

noncomputable section

namespace Cert.Proof

open Idealize.ShloMosaic

/-- One element of a row of a half over the root of the row's mean square, times its scale. -/
def normedHalf (y : Fin 1024 → EReal) (g : Fin 1024 → EReal) (j : Fin 1024) : EReal :=
  y j * Ideal.rsqrt (Ideal.div (∑ k : Fin 1024, y k * y k) (Ideal.ofBits .f32 0x44800000#32) + Ideal.ofBits .f32 0x358637BD#32) * g j

end Cert.Proof

namespace Cert.Proof.OutR

open Cert.Reference4Ideal Cert.Reference4Ideal.Gen
open Idealize.ShloMosaic Idealize.ShloMosaic.TcCoe Idealize.ShloMosaic.Tactic

/-- The norm's factor of each row. -/
def factor (y : FVec Ideal S8192x1024 .f32) : FVec Ideal S8192x1 .f32 :=
  Host.rsqrt (addf (Host.divf (broadcastInDim S8192x1 ![0] bcast_S8192_S8192x1_0 (Host.reduceAdd (mulf y y) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))

/-- The norm of each row. -/
def norm (y : FVec Ideal S8192x1024 .f32) (g : FVec Ideal S1024 .f32) : FVec Ideal S8192x1024 .f32 :=
  mulf (mulf y (broadcastInDim S8192x1024 ![0, 1] bcast_S8192x1_S8192x1024_0_1 (factor y)))
    (broadcastInDim S8192x1024 ![0, 1] bcast_S1x1024_S8192x1024_0_1 (broadcastInDim S1x1024 ![1] bcast_S1024_S1x1024_1 g))

/-- The two halves side by side. -/
def sides (a b : FVec Ideal S8192x1024 .f32) : FVec Ideal S8192x2048 .f32 :=
  concatenate S8192x2048 1 [⟨S8192x1024, a⟩, ⟨S8192x1024, b⟩] concatenates_S8192x1024_S8192x1024_S8192x2048_d1

/-- The residual row with the product added. -/
def proj (x : FVec Ideal S8192x2048 .f32) (y : FVec Ideal S8192x2048 .f32) (w : FVec Ideal S2048x2048 .f32) : FVec Ideal S8192x2048 .f32 :=
  addf x (Host.dotGeneral dot_S8192x2048_S2048x2048_S8192x2048_1_0_0_1_n_n none y w)

theorem norm_at (y g) (n : Fin 8192) (j : Fin 1024) : norm y g (ix2 n j) = normedHalf (fun k => y (ix2 n k)) (fun k => g (ix1 k)) j := by
  pointwise [norm, factor, normedHalf]

theorem proj_at (x y w) (n : Fin 8192) (j : Fin 2048) : proj x y w (ix2 n j) = x (ix2 n j) + ∑ f : Fin 2048, y (ix2 n f) * w (ix2 f j) := by
  pointwise [proj]

theorem sides_left (a b) (n : Fin 8192) (k : Fin 1024) : sides a b (ix2 n (Fin.castAdd 1024 k)) = a (ix2 n k) := by
  have h : (Fin.castAdd 1024 k).val < 1024 := k.isLt
  pointwise [sides, h]
  rfl

theorem sides_right (a b) (n : Fin 8192) (k : Fin 1024) : sides a b (ix2 n (Fin.natAdd 1024 k)) = b (ix2 n k) := by
  have h : ¬(Fin.natAdd 1024 k).val < 1024 := by simp
  pointwise [sides, h]
  exact congrArg (fun i => b (ix2 n i)) (Fin.ext (Nat.add_sub_cancel_left 1024 k.val))

theorem res_at (na gq : FVec Ideal S8192x1024 .f32) (g1 g2 : FVec Ideal S1024 .f32) (w x) (n : Fin 8192) (j : Fin 2048) :
    proj x (sides (norm na g1) (norm gq g2)) w (ix2 n j)
    = x (ix2 n j) + ((∑ k : Fin 1024, normedHalf (fun k => na (ix2 n k)) (fun k => g1 (ix1 k)) k * w (ix2 (Fin.castAdd 1024 k) j))
        + ∑ k : Fin 1024, normedHalf (fun k => gq (ix2 n k)) (fun k => g2 (ix1 k)) k * w (ix2 (Fin.natAdd 1024 k) j)) := by
  rw [proj_at]
  refine congrArg (fun e => x (ix2 n j) + e) ?_
  refine (Fin.sum_univ_add (a := 1024) (b := 1024) (fun f : Fin (1024 + 1024) => sides (norm na g1) (norm gq g2) (ix2 n f) * w (ix2 f j))).trans ?_
  simp only [sides_left, sides_right, norm_at]

end Cert.Proof.OutR
end
-- ==== Proof.Out.Body.lean ====
/- What the output projection's body leaves at a grid point, as plain terms of its blocks. -/
module

public import proofs.«01_k».proof.Proof.Out.Ref
public import proofs.«01_k».proof.Proof.Gen.Kernel4Ideal.Value
public import Idealize.ShloMosaic.Lib.Pointwise
public import Idealize.ShloMosaic.Lib.Pipeline.ValueKit

@[expose] public section
set_option maxRecDepth 16384
noncomputable section
namespace Cert.Proof.Out

open Cert.Kernel4Ideal Cert.Kernel4Ideal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

theorem zeros2 : (![0, 0] : Fin 2 → ℕ) = fun _ => 0 := funext fun a => by fin_cases a <;> rfl

theorem read_all {A B : ℕ} {e : EltTy} (r : Memref sig .tc .vmem ⟨2, ![A, B]⟩ e) (h : r.IsWhole) (X : Vec Ideal ⟨2, ![A, B]⟩ e)
    (inb : ∀ a : Fin 2, ![0, 0] a + ![A, B] a ≤ (⟨2, ![A, B]⟩ : Shape).size a) :
    View.readAt (Elt Ideal) r.view (Rect.unit (s := ⟨2, ![A, B]⟩) ![0, 0] ![A, B] inb).toLoadRect (h.unread X) = X := by
  refine (View.readAt_eq_ld _ _ _).trans ?_
  rw [h.read_unread]
  exact View.ld_unit_zero zeros2 inb X

/-- The rows of the carried weights the first product reads. -/
def lower (W : Vec Ideal S2048x2048 .bf16) : Vec Ideal S1024x2048 .bf16 := View.ld W (Rect.unit (s := S2048x2048) ![0, 0] S1024x2048.size inb_S2048x2048_S1024x2048_0_0)
/-- The rows of the carried weights the second product reads. -/
def upper (W : Vec Ideal S2048x2048 .bf16) : Vec Ideal S1024x2048 .bf16 := View.ld W (Rect.unit (s := S2048x2048) ![1024, 0] S1024x2048.size inb_S2048x2048_S1024x2048_1024_0)

theorem lower_at (W) (k : Fin 1024) (j : Fin 2048) : lower W (ix2 k j) = W (ix2 (Fin.castAdd 1024 k) j) := by
  refine View.ld_unit_apply_of _ _ _ _ _ _ fun a => ?_
  fin_cases a
  · show k.val = 0 + k.val; omega
  · show j.val = 0 + j.val; omega

theorem upper_at (W) (k : Fin 1024) (j : Fin 2048) : upper W (ix2 k j) = W (ix2 (Fin.natAdd 1024 k) j) := by
  refine View.ld_unit_apply_of _ _ _ _ _ _ fun a => ?_
  fin_cases a
  · show 1024 + k.val = 1024 + k.val; omega
  · show j.val = 0 + j.val; omega

/-- What the body writes, of the weights it reads and its other blocks. -/
def outOf (W : Vec Ideal S2048x2048 .bf16) (na gq : Vec Ideal S512x1024 .bf16) (g1 g2 : Vec Ideal S1x1024 .f32) (x : Vec Ideal S512x2048 .f32) : Vec Ideal S512x2048 .f32 :=
  k0_pay1 (k0_pay3 na g1) (k0_pay4 gq g2) (lower W) (upper W) x

theorem half1_at (y g) (a : Fin 512) (j : Fin 1024) : k0_pay3 (F := Ideal) y g (ix2 a j) = normedHalf (fun k => y (ix2 a k)) (fun k => g (ix2 0 k)) j := by
  pointwise [k0_pay3, normedHalf]
theorem half2_at (y g) (a : Fin 512) (j : Fin 1024) : k0_pay4 (F := Ideal) y g (ix2 a j) = normedHalf (fun k => y (ix2 a k)) (fun k => g (ix2 0 k)) j := by
  pointwise [k0_pay4, normedHalf]
theorem sum_at (p q : Vec Ideal S512x1024 .bf16) (A B : Vec Ideal S1024x2048 .bf16) (x) (a : Fin 512) (j : Fin 2048) : k0_pay1 p q A B x (ix2 a j)
    = x (ix2 a j) + ((∑ k : Fin 1024, p (ix2 a k) * A (ix2 k j)) + ∑ k : Fin 1024, q (ix2 a k) * B (ix2 k j)) := by
  pointwise [k0_pay1]

theorem outOf_at (W na gq g1 g2 x) (a : Fin 512) (j : Fin 2048) : outOf W na gq g1 g2 x (ix2 a j)
    = x (ix2 a j) + ((∑ k : Fin 1024, normedHalf (fun k => na (ix2 a k)) (fun k => g1 (ix2 0 k)) k * W (ix2 (Fin.castAdd 1024 k) j))
        + ∑ k : Fin 1024, normedHalf (fun k => gq (ix2 a k)) (fun k => g2 (ix2 0 k)) k * W (ix2 (Fin.natAdd 1024 k) j)) := by
  unfold outOf
  rw [sum_at]
  simp only [half1_at, half2_at, lower_at, upper_at]

theorem read_lower (r : Memref sig .tc .vmem S2048x2048 .bf16) (h : r.IsWhole) (W : Vec Ideal S2048x2048 .bf16) :
    View.readAt (Elt Ideal) r.view (Rect.unit (s := S2048x2048) ![0, 0] S1024x2048.size inb_S2048x2048_S1024x2048_0_0).toLoadRect (h.unread W) = lower W := by
  refine (View.readAt_eq_ld _ _ _).trans ?_
  rw [h.read_unread]
  rfl

theorem read_upper (r : Memref sig .tc .vmem S2048x2048 .bf16) (h : r.IsWhole) (W : Vec Ideal S2048x2048 .bf16) :
    View.readAt (Elt Ideal) r.view (Rect.unit (s := S2048x2048) ![1024, 0] S1024x2048.size inb_S2048x2048_S1024x2048_1024_0).toLoadRect (h.unread W) = upper W := by
  refine (View.readAt_eq_ld _ _ _).trans ?_
  rw [h.read_unread]
  rfl

theorem weights (c : Dev nD) (t : Fin cfg0.N) :
    View.canon (kernelRun0_A.sl.HS0_1 c (ms0_4 t) (hs0_4 t) (iblk m c 4 t)) = k0_pay2 (iblk m c 4 t) := by
  unfold kernelRun0_A.sl.HS0_1
  rw [View.canon_unit_zero zeros2, read_all]

theorem step_B (c : Dev nD) (t : Fin cfg0.N) (h0 : ¬t.val % 16 = 0) :
    (outsAt0 m c t.val t.isLt) = (outOf (outsAt0 m c (t.val - 1) (Nat.lt_of_le_of_lt (Nat.sub_le _ _) t.isLt)).2 (iblk m c 0 t) (iblk m c 1 t) (iblk m c 2 t) (iblk m c 3 t) (iblk m c 5 t), (outsAt0 m c (t.val - 1) (Nat.lt_of_le_of_lt (Nat.sub_le _ _) t.isLt)).2) := by
  rw [outsAt0_B m c t h0]
  refine Prod.ext ?_ rfl
  dsimp only
  generalize (outsAt0 m c (t.val - 1) (Nat.lt_of_le_of_lt (Nat.sub_le _ _) t.isLt)).2 = W
  unfold out0_B_6 kernelRun0_B
  dsimp only
  rw [View.read_writes_junk_eq_canon, View.canon_unit_zero zeros2]
  unfold outOf
  unfold kernelRun0_B.sl.r kernelRun0_B.sl.r_1 kernelRun0_B.sl.r_2
  simp only [read_all]
  exact congr (congr (congrArg (fun A B y => k0_pay1 _ _ A B y) (read_lower scM0_0 (Memref.isWhole_whole _) W)) (read_upper scM0_0 (Memref.isWhole_whole _) W)) rfl

theorem step_A (c : Dev nD) (t : Fin cfg0.N) (h0 : t.val % 16 = 0) :
    (outsAt0 m c t.val t.isLt) = (outOf (k0_pay2 (iblk m c 4 t)) (iblk m c 0 t) (iblk m c 1 t) (iblk m c 2 t) (iblk m c 3 t) (iblk m c 5 t), k0_pay2 (iblk m c 4 t)) := by
  rw [outsAt0_A m c t h0]
  refine Prod.ext ?_ ?_
  · dsimp only
    unfold out0_A_6 kernelRun0_A
    dsimp only
    rw [View.read_writes_junk_eq_canon, View.canon_unit_zero zeros2]
    unfold outOf
    unfold kernelRun0_A.sl.r kernelRun0_A.sl.r_1 kernelRun0_A.sl.v39 kernelRun0_A.sl.v41
    simp only [read_all, View.readCov_eq_canon']
    rw [weights m c t]
    rfl
  · dsimp only
    unfold sout0_A_0 kernelRun0_A
    dsimp only
    rw [View.read_writes_junk_eq_canon]
    exact weights m c t
end Cert.Proof.Out
end
-- ==== Proof.Out.Values.lean ====
/- The output projection's call, element by element. -/
module

public import proofs.«01_k».proof.Proof.Out.Body
public import Idealize.ShloMosaic.Lib.StableHlo.ReadAt

@[expose] public section
set_option maxRecDepth 16384
noncomputable section
namespace Cert.Proof.Out

open Cert.Kernel4Ideal Cert.Kernel4Ideal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

theorem at_0 : ∀ t : Fin cfg0.grid.N, win0_0.index t = ![t.val, 0] := by decide +kernel
theorem at_1 : ∀ t : Fin cfg0.grid.N, win0_1.index t = ![t.val, 0] := by decide +kernel
theorem at_2 : ∀ t : Fin cfg0.grid.N, win0_2.index t = ![0, 0] := by decide +kernel
theorem at_3 : ∀ t : Fin cfg0.grid.N, win0_3.index t = ![0, 0] := by decide +kernel
theorem at_4 : ∀ t : Fin cfg0.grid.N, win0_4.index t = ![0, 0] := by decide +kernel
theorem at_5 : ∀ t : Fin cfg0.grid.N, win0_5.index t = ![t.val, 0] := by decide +kernel
theorem at_6 : ∀ t : Fin cfg0.grid.N, win0_6.index t = ![t.val, 0] := by decide +kernel
theorem pt_lt (t : Fin cfg0.N) : t.val < 16 := lt_of_lt_of_eq t.isLt (show cfg0.N = 16 from N_0)

theorem V_v0 (c : Dev nD) (n : Fin 8192) (f : Fin 1024) : V m c main_v0 (ix2 n f) = m ((c : Thread nD τ).loc main_arg0) (ix2 n f) := by
  unfold V
  after_reads_at
theorem V_v1 (c : Dev nD) (n : Fin 8192) (f : Fin 1024) : V m c main_v1 (ix2 n f) = m ((c : Thread nD τ).loc main_arg1) (ix2 n f) := by
  unfold V
  after_reads_at
theorem V_v2 (c : Dev nD) (j : Fin 1024) : V m c main_v2 (ix2 0 j) = m ((c : Thread nD τ).loc main_arg2) (ix1 j) := by
  unfold V
  after_reads_at
theorem V_v3 (c : Dev nD) (j : Fin 1024) : V m c main_v3 (ix2 0 j) = m ((c : Thread nD τ).loc main_arg3) (ix1 j) := by
  unfold V
  after_reads_at

theorem blk_0 (c : Dev nD) (t : Fin cfg0.N) (a : Fin 512) (j : Fin 1024) : iblk m c 0 t (ix2 a j)
    = m ((c : Thread nD τ).loc main_arg0) (ix2 ⟨t.val * 512 + a.val, by have := pt_lt t; have := a.isLt; omega⟩ j) := by
  refine Eq.trans ?_ (V_v0 m c _ _)
  show ((cfg0.win 0).blk t).view.read (Elt Ideal) (V m c main_v0) (ix2 a j) = _
  rw [View.read_apply]
  blk_simp
  refine congrArg (V m c main_v0) (funext fun b => Fin.ext ?_)
  fin_cases b
  · blk_simp
    exact congrArg (fun n => n * 512 + a.val) (congrFun (at_0 t) 0)
  · blk_simp
    exact (congrArg (fun n => n * 1024 + j.val) (congrFun (at_0 t) 1)).trans (by show 0 * 1024 + j.val = j.val; omega)

theorem blk_1 (c : Dev nD) (t : Fin cfg0.N) (a : Fin 512) (j : Fin 1024) : iblk m c 1 t (ix2 a j)
    = m ((c : Thread nD τ).loc main_arg1) (ix2 ⟨t.val * 512 + a.val, by have := pt_lt t; have := a.isLt; omega⟩ j) := by
  refine Eq.trans ?_ (V_v1 m c _ _)
  show ((cfg0.win 1).blk t).view.read (Elt Ideal) (V m c main_v1) (ix2 a j) = _
  rw [View.read_apply]
  blk_simp
  refine congrArg (V m c main_v1) (funext fun b => Fin.ext ?_)
  fin_cases b
  · blk_simp
    exact congrArg (fun n => n * 512 + a.val) (congrFun (at_1 t) 0)
  · blk_simp
    exact (congrArg (fun n => n * 1024 + j.val) (congrFun (at_1 t) 1)).trans (by show 0 * 1024 + j.val = j.val; omega)

theorem blk_2 (c : Dev nD) (t : Fin cfg0.N) (j : Fin 1024) : iblk m c 2 t (ix2 0 j)
    = m ((c : Thread nD τ).loc main_arg2) (ix1 j) := by
  refine Eq.trans ?_ (V_v2 m c _)
  show ((cfg0.win 2).blk t).view.read (Elt Ideal) (V m c main_v2) (ix2 0 j) = _
  rw [View.read_apply]
  blk_simp
  refine congrArg (V m c main_v2) (funext fun b => Fin.ext ?_)
  fin_cases b
  · blk_simp
    exact congrArg (fun n => n * 1 + 0) (congrFun (at_2 t) 0)
  · blk_simp
    exact (congrArg (fun n => n * 1024 + j.val) (congrFun (at_2 t) 1)).trans (by show 0 * 1024 + j.val = j.val; omega)

theorem blk_3 (c : Dev nD) (t : Fin cfg0.N) (j : Fin 1024) : iblk m c 3 t (ix2 0 j)
    = m ((c : Thread nD τ).loc main_arg3) (ix1 j) := by
  refine Eq.trans ?_ (V_v3 m c _)
  show ((cfg0.win 3).blk t).view.read (Elt Ideal) (V m c main_v3) (ix2 0 j) = _
  rw [View.read_apply]
  blk_simp
  refine congrArg (V m c main_v3) (funext fun b => Fin.ext ?_)
  fin_cases b
  · blk_simp
    exact congrArg (fun n => n * 1 + 0) (congrFun (at_3 t) 0)
  · blk_simp
    exact (congrArg (fun n => n * 1024 + j.val) (congrFun (at_3 t) 1)).trans (by show 0 * 1024 + j.val = j.val; omega)

theorem blk_4 (c : Dev nD) (t : Fin cfg0.N) (a : Fin 2048) (j : Fin 2048) : iblk m c 4 t (ix2 a j)
    = m ((c : Thread nD τ).loc main_arg4) (ix2 a j) := by
  refine Eq.trans ?_ (congrFun (V_main_arg4 m c) _)
  show ((cfg0.win 4).blk t).view.read (Elt Ideal) (V m c main_arg4) (ix2 a j) = _
  rw [View.read_apply]
  blk_simp
  refine congrArg (V m c main_arg4) (funext fun b => Fin.ext ?_)
  fin_cases b
  · blk_simp
    exact (congrArg (fun n => n * 2048 + a.val) (congrFun (at_4 t) 0)).trans (by show 0 * 2048 + a.val = a.val; omega)
  · blk_simp
    exact (congrArg (fun n => n * 2048 + j.val) (congrFun (at_4 t) 1)).trans (by show 0 * 2048 + j.val = j.val; omega)

theorem blk_5 (c : Dev nD) (t : Fin cfg0.N) (a : Fin 512) (j : Fin 2048) : iblk m c 5 t (ix2 a j)
    = m ((c : Thread nD τ).loc main_arg5) (ix2 ⟨t.val * 512 + a.val, by have := pt_lt t; have := a.isLt; omega⟩ j) := by
  refine Eq.trans ?_ (congrFun (V_main_arg5 m c) _)
  show ((cfg0.win 5).blk t).view.read (Elt Ideal) (V m c main_arg5) (ix2 a j) = _
  rw [View.read_apply]
  blk_simp
  refine congrArg (V m c main_arg5) (funext fun b => Fin.ext ?_)
  fin_cases b
  · blk_simp
    exact congrArg (fun n => n * 512 + a.val) (congrFun (at_5 t) 0)
  · blk_simp
    exact (congrArg (fun n => n * 2048 + j.val) (congrFun (at_5 t) 1)).trans (by show 0 * 2048 + j.val = j.val; omega)

theorem cast_at (W : Vec Ideal S2048x2048 .f32) (k j : Fin 2048) : k0_pay2 W (ix2 k j) = W (ix2 k j) := by
  pointwise [k0_pay2]

/-- The weights carried from the first point on. -/
theorem carried (c : Dev nD) : ∀ (n : ℕ) (hn : n < cfg0.N) (k j : Fin 2048), (outsAt0 m c n hn).2 (ix2 k j) = m ((c : Thread nD τ).loc main_arg4) (ix2 k j)
  | 0, hn, k, j => by
    refine (congrFun (congrArg Prod.snd (step_A m c ⟨0, hn⟩ rfl)) (ix2 k j)).trans ?_
    dsimp only
    rw [cast_at, blk_4]
  | n + 1, hn, k, j => by
    have hb := pt_lt ⟨n + 1, hn⟩
    have h0 : ¬(n + 1) % 16 = 0 := by dsimp only at hb; omega
    exact (congrFun (congrArg Prod.snd (step_B m c ⟨n + 1, hn⟩ h0)) (ix2 k j)).trans (carried c n (Nat.lt_of_succ_lt hn) k j)

/-- The result, by elements of the arguments. -/
def res (c : Dev nD) : FVec Ideal S8192x2048 .f32 :=
  Cert.Proof.OutR.proj (m ((c : Thread nD τ).loc main_arg5))
    (Cert.Proof.OutR.sides (Cert.Proof.OutR.norm (m ((c : Thread nD τ).loc main_arg0)) (m ((c : Thread nD τ).loc main_arg2)))
      (Cert.Proof.OutR.norm (m ((c : Thread nD τ).loc main_arg1)) (m ((c : Thread nD τ).loc main_arg3))))
    (m ((c : Thread nD τ).loc main_arg4))

theorem point_at (c : Dev nD) (t : Fin cfg0.N) (a : Fin 512) (j : Fin 2048) : (outsAt0 m c t.val t.isLt).1 (ix2 a j)
    = res m c (ix2 ⟨t.val * 512 + a.val, by have := pt_lt t; have := a.isLt; omega⟩ j) := by
  unfold res
  rw [OutR.res_at]
  by_cases h0 : t.val % 16 = 0
  · rw [step_A m c t h0]
    dsimp only
    rw [outOf_at]
    simp only [blk_0, blk_1, blk_2, blk_3, blk_4, blk_5, cast_at]
  · rw [step_B m c t h0]
    dsimp only
    rw [outOf_at]
    simp only [blk_0, blk_1, blk_2, blk_3, blk_5, carried]

theorem arr_eq (c : Dev nD) : (dats m 0 c).arrAt 6 cfg0.N = res m c := by
  refine Dat.arrAt_eq_of_covers (dats m 0 c) 6 _ (by decide +kernel) fun t hf y => ?_
  have hy0 : (y 0).val < 512 := (y 0).isLt
  have hy1 : (y 1).val < 2048 := (y 1).isLt
  have ht := pt_lt t
  obtain ⟨a, j, rfl⟩ : ∃ (a : Fin 512) (j : Fin 2048), y = ix2 a j := ⟨⟨(y 0).val, hy0⟩, ⟨(y 1).val, hy1⟩, funext fun b => by fin_cases b <;> rfl⟩
  have e : ((cfg0.win 6).blk t).view.emb (ix2 a j) = ix2 ⟨t.val * 512 + a.val, by have := a.isLt; omega⟩ j := by
    refine funext fun b => Fin.ext ?_
    fin_cases b
    · blk_simp
      exact congrArg (fun n => n * 512 + a.val) (congrFun (at_6 t) 0)
    · blk_simp
      exact (congrArg (fun n => n * 2048 + j.val) (congrFun (at_6 t) 1)).trans (by show 0 * 2048 + j.val = j.val; omega)
  rw [e]
  show (dats m 0 c).after 6 t (ix2 a j) = _
  rw [after0_6]
  exact point_at m c t a j

end Cert.Proof.Out
end
-- ==== Proof.OutValues.lean ====
/- The output projection's claims. -/
module

public import proofs.«01_k».proof.Defs
public import proofs.«01_k».proof.Proof.Out.Values
public import proofs.«01_k».proof.Proof.Gen.Kernel4.Frame

@[expose] public section

noncomputable section

namespace Cert.Proof

open Idealize.ShloMosaic Idealize.SL.Sem Idealize.ShloMosaic.TcCoe

theorem frame_out_words : Cert.quiescent_Kernel4 (hKernel4 := Cert.Kernel4.Gen.facts) :=
  fun m ρ _ => Cert.Kernel4.Gen.frame (F := Bits) m ρ

theorem frame_out : Cert.quiescent_Kernel4Ideal (hKernel4Ideal := Cert.Kernel4Ideal.Gen.facts) :=
  fun m ρ _ => Cert.Kernel4Ideal.Gen.frame (F := Ideal) m ρ

theorem frame_out_ref : Cert.quiescent_Reference4Ideal (hReference4Ideal := Cert.Reference4Ideal.Gen.facts) :=
  fun m ρ _ => (θ_run Cert.Reference4Ideal.defs _ _).mono
    (fun r h => ⟨fun c => (h c).2, sem_eq_zero_of_no_sems (by decide) r.2⟩) (Cert.Reference4Ideal.Value.run (F := Ideal) m ρ)

theorem same_out : Cert.algebraic_Kernel4Ideal_Reference4Ideal (hKernel4Ideal := Cert.Kernel4Ideal.Gen.facts)
    (hReference4Ideal := Cert.Reference4Ideal.Gen.facts) := by
  intro m g m' g' hpre hin
  refine ⟨fun c => Out.res m c, ?_, ?_⟩
  · exact (θ_run Cert.Kernel4Ideal.defs _ _).mono (fun r h c => ⟨(h c).1.trans (Out.arr_eq m c), (h c).2⟩) (Cert.Kernel4Ideal.Value.run_blocks (F := Ideal) m g)
  · refine (θ_run Cert.Reference4Ideal.defs _ _).mono (fun r h c => ⟨?_, (h c).2⟩) (Cert.Reference4Ideal.Value.run (F := Ideal) m' g')
    refine (h c).1.trans ?_
    rw [(hin c).1, (hin c).2.1, (hin c).2.2.1, (hin c).2.2.2.1, (hin c).2.2.2.2.1, (hin c).2.2.2.2.2]
    rfl

end Cert.Proof

end
-- ==== Proof.In.First.lean ====
/- The input projection's first points of a row of the grid: the normed rows and the first product. -/
module

public import proofs.«01_k».proof.Proof.Gen.Kernel5Ideal.Frame
public import proofs.«01_k».proof.Proof.Gen.Kernel5Ideal.Skeleton
public import Idealize.ShloMosaic.Lib.Pipeline.Value
public import Idealize.ShloMosaic.Lib.Pipeline.ValueKit
public import Idealize.ShloMosaic.Lib.Claim

@[expose] public section

set_option maxRecDepth 16384

noncomputable section

namespace Cert.Proof.InRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zeros2 : (![0, 0] : Fin 2 → ℕ) = fun _ => 0 := funext fun a => by fin_cases a <;> rfl

theorem read_all {A B : ℕ} {e : EltTy} (r : Memref sig .tc .vmem ⟨2, ![A, B]⟩ e) (h : r.IsWhole) (X : Vec F ⟨2, ![A, B]⟩ e)
    (inb : ∀ a : Fin 2, ![0, 0] a + ![A, B] a ≤ (⟨2, ![A, B]⟩ : Shape).size a) :
    View.readAt (Elt F) r.view (Rect.unit (s := ⟨2, ![A, B]⟩) ![0, 0] ![A, B] inb).toLoadRect (h.unread X) = X := by
  refine (View.readAt_eq_ld _ _ _).trans ?_
  rw [h.read_unread]
  exact View.ld_unit_zero zeros2 inb X

theorem cov_canon {A B : ℕ} {e : EltTy} (v : View sig .tc .vmem ⟨2, ![A, B]⟩ e) (L : List (View.Piece (Elt F) ⟨2, ![A, B]⟩ e))
    (inb : ∀ a : Fin 2, ![0, 0] a + ![A, B] a ≤ (⟨2, ![A, B]⟩ : Shape).size a) :
    v.readCov L (Rect.unit (s := ⟨2, ![A, B]⟩) ![0, 0] ![A, B] inb).toLoadRect = View.canon L := by
  rw [View.readCov_eq_canon']
  exact View.ld_unit_zero zeros2 inb (View.canon L)

theorem canon_all {A B : ℕ} {e : EltTy} (X : Vec F ⟨2, ![A, B]⟩ e)
    (inb : ∀ a : Fin 2, ![0, 0] a + ![A, B] a ≤ (⟨2, ![A, B]⟩ : Shape).size a) :
    View.canon (Val := Elt F) [⟨Rect.unit (s := ⟨2, ![A, B]⟩) ![0, 0] ![A, B] inb, X⟩] = X := View.canon_unit_zero zeros2 inb X

/-- A buffer stored whole reads back as what was stored. -/
theorem stored {A B : ℕ} {e : EltTy} (v : View sig .tc .vmem ⟨2, ![A, B]⟩ e) (f) (X : Vec F ⟨2, ![A, B]⟩ e)
    (inb : ∀ a : Fin 2, ![0, 0] a + ![A, B] a ≤ (⟨2, ![A, B]⟩ : Shape).size a) :
    v.read (Elt F) (v.writes (Elt F) f [⟨Rect.unit (s := ⟨2, ![A, B]⟩) ![0, 0] ![A, B] inb, X⟩]) = X := by
  have cover : ∀ y, ∃ p ∈ ([⟨Rect.unit (s := ⟨2, ![A, B]⟩) ![0, 0] ![A, B] inb, X⟩] : List (View.Piece (Elt F) ⟨2, ![A, B]⟩ e)), y ∈ p.1.set :=
    fun y => ⟨_, List.mem_singleton_self _, View.mem_set_unit_zero zeros2 inb y⟩
  exact (View.read_writes_of_cover v f v v.junk _ cover).trans ((View.read_writes_junk_eq_canon v _).trans (canon_all X inb))

abbrev condA (i : grid0.Coords) : Prop := (Scalar.cmpi .ne (Scalar.extui (Scalar.cmpi .eq (BitVec.ofNat 32 (i 1).val) 0#32)) 0#32) = 1#1

set_option maxHeartbeats 1000000 in
/-- At the first point of a row of the grid the body stores the normed rows and their product with the first block of columns. -/
theorem run_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x768 .bf16) (harg10 : arg10.IsWhole) (arg11 : Memref sig .tc .vmem S1024x2048 .bf16) (harg11 : arg11.IsWhole) (arg12 : Memref sig .tc .vmem S1024x768 .f32) (harg12 : arg12.IsWhole) (arg13 : Memref sig .tc .vmem S1024x768 .f32) (harg13 : arg13.IsWhole)
    (hA : condA i) (hB : ¬k0_cond3 i = 1#1) (hC : ¬k0_cond4 i = 1#1) (hD : ¬k0_cond5 i = 1#1)
    (x0 : Vec F S1024x2048 .f32) (x1 : Vec F S1x2048 .f32) (x2 : Vec F S2048x768 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg11 fullShare (k0_pay65 x0 x1) ∗ owns (c : Thread nD τ) arg12 fullShare (k0_pay66 (k0_pay65 x0 x1) x2)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [k0_part17_eq_skeleton]
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg2.eq_unread hf0; obtain rfl := harg3.eq_unread hf1; obtain rfl := harg4.eq_unread hf2
  sl_exec (disch := first | sl_exact hA | sl_exact hB | sl_exact hC | sl_exact hD)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [HS0]
  · iexists _; isplitr
    swap; · iexact HS0
    ipureintro
    sl_unfold_words
    refine (stored _ _ _ _).trans ?_
    simp only [read_all]
  iexists _; isplitr
  swap; · iexact HS1
  ipureintro
  sl_unfold_words
  refine (stored _ _ _ _).trans ?_
  simp only [read_all, cov_canon, canon_all]

end Cert.Proof.InRun
end
-- ==== Proof.In.Even.lean ====
/- What the consumer leaves of a stored block of the product: six blocks of 128 columns, each of them normed and rotated where its columns ask for it. -/
module

public import proofs.«01_k».proof.Proof.In.First

@[expose] public section

set_option maxRecDepth 16384

noncomputable section

namespace Cert.Proof.InRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem read_ld {s : Shape} {e : EltTy} (r : Memref sig .tc .vmem s e) (h : r.IsWhole) (X : Vec F s e) (B : Rect s) :
    View.readAt (Elt F) r.view B.toLoadRect (h.unread X) = View.ld X B := by
  refine (View.readAt_eq_ld _ _ _).trans ?_
  rw [h.read_unread]

/-- One block of 128 columns: normed and rotated where `r` is positive, as it is elsewhere; times `s`. -/
def chunk (a : Vec F S1024x128 .f32) (g r s : Vec F S1x128 .f32) (cs sn : Vec F S1024x128 .f32) : FVec F S1024x128 .bf16 :=
  k0_pay10 a (k0_pay4 cs) (k0_pay5 sn) (k0_pay6 a g) 2#32 k0_pay7 k0_pay8 k0_pay9 0#32 r s

/-- The columns from 640 on. -/
abbrev cols640 (X : Vec F S1024x768 .f32) : Vec F S1024x128 .f32 := View.ld X (Rect.unit (s := S1024x768) ![0, 640] S1024x128.size inb_S1024x768_S1024x128_0_640)
abbrev row640 (X : Vec F S1x768 .f32) : Vec F S1x128 .f32 := View.ld X (Rect.unit (s := S1x768) ![0, 640] S1x128.size inb_S1x768_S1x128_0_640)

/-- The columns from 512 on. -/
abbrev cols512 (X : Vec F S1024x768 .f32) : Vec F S1024x128 .f32 := View.ld X (Rect.unit (s := S1024x768) ![0, 512] S1024x128.size inb_S1024x768_S1024x128_0_512)
abbrev row512 (X : Vec F S1x768 .f32) : Vec F S1x128 .f32 := View.ld X (Rect.unit (s := S1x768) ![0, 512] S1x128.size inb_S1x768_S1x128_0_512)

/-- The columns from 384 on. -/
abbrev cols384 (X : Vec F S1024x768 .f32) : Vec F S1024x128 .f32 := View.ld X (Rect.unit (s := S1024x768) ![0, 384] S1024x128.size inb_S1024x768_S1024x128_0_384)
abbrev row384 (X : Vec F S1x768 .f32) : Vec F S1x128 .f32 := View.ld X (Rect.unit (s := S1x768) ![0, 384] S1x128.size inb_S1x768_S1x128_0_384)

/-- The columns from 256 on. -/
abbrev cols256 (X : Vec F S1024x768 .f32) : Vec F S1024x128 .f32 := View.ld X (Rect.unit (s := S1024x768) ![0, 256] S1024x128.size inb_S1024x768_S1024x128_0_256)
abbrev row256 (X : Vec F S1x768 .f32) : Vec F S1x128 .f32 := View.ld X (Rect.unit (s := S1x768) ![0, 256] S1x128.size inb_S1x768_S1x128_0_256)

/-- The columns from 128 on. -/
abbrev cols128 (X : Vec F S1024x768 .f32) : Vec F S1024x128 .f32 := View.ld X (Rect.unit (s := S1024x768) ![0, 128] S1024x128.size inb_S1024x768_S1024x128_0_128)
abbrev row128 (X : Vec F S1x768 .f32) : Vec F S1x128 .f32 := View.ld X (Rect.unit (s := S1x768) ![0, 128] S1x128.size inb_S1x768_S1x128_0_128)

/-- The columns from 0 on. -/
abbrev cols0 (X : Vec F S1024x768 .f32) : Vec F S1024x128 .f32 := View.ld X (Rect.unit (s := S1024x768) ![0, 0] S1024x128.size inb_S1024x768_S1024x128_0_0)
abbrev row0 (X : Vec F S1x768 .f32) : Vec F S1x128 .f32 := View.ld X (Rect.unit (s := S1x768) ![0, 0] S1x128.size inb_S1x768_S1x128_0_0)

/-- The six blocks side by side. -/
def consumed (X : Vec F S1024x768 .f32) (g r s : Vec F S1x768 .f32) (cs sn : Vec F S1024x128 .f32) : Vec F S1024x768 .bf16 :=
  View.canon (Val := Elt F) [⟨Rect.unit (s := S1024x768) ![0, 640] S1024x128.size inb_S1024x768_S1024x128_0_640, chunk (cols640 X) (row640 g) (row640 r) (row640 s) cs sn⟩,
    ⟨Rect.unit (s := S1024x768) ![0, 512] S1024x128.size inb_S1024x768_S1024x128_0_512, chunk (cols512 X) (row512 g) (row512 r) (row512 s) cs sn⟩,
    ⟨Rect.unit (s := S1024x768) ![0, 384] S1024x128.size inb_S1024x768_S1024x128_0_384, chunk (cols384 X) (row384 g) (row384 r) (row384 s) cs sn⟩,
    ⟨Rect.unit (s := S1024x768) ![0, 256] S1024x128.size inb_S1024x768_S1024x128_0_256, chunk (cols256 X) (row256 g) (row256 r) (row256 s) cs sn⟩,
    ⟨Rect.unit (s := S1024x768) ![0, 128] S1024x128.size inb_S1024x768_S1024x128_0_128, chunk (cols128 X) (row128 g) (row128 r) (row128 s) cs sn⟩,
    ⟨Rect.unit (s := S1024x768) ![0, 0] S1024x128.size inb_S1024x768_S1024x128_0_0, chunk (cols0 X) (row0 g) (row0 r) (row0 s) cs sn⟩]

set_option maxHeartbeats 1000000 in
/-- At the last point of a row of the grid the output's block is the second buffer times the scales. -/
theorem run_D (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x768 .bf16) (harg10 : arg10.IsWhole) (arg11 : Memref sig .tc .vmem S1024x2048 .bf16) (harg11 : arg11.IsWhole) (arg12 : Memref sig .tc .vmem S1024x768 .f32) (harg12 : arg12.IsWhole) (arg13 : Memref sig .tc .vmem S1024x768 .f32) (harg13 : arg13.IsWhole)
    (hA : ¬condA i) (hB : ¬k0_cond3 i = 1#1) (hC : ¬k0_cond4 i = 1#1) (hD : k0_cond5 i = 1#1)
    (s : Vec F S1x768 .f32) (X : Vec F S1024x768 .f32) (E : Set ℕ) (K : PUnit → sProp 𝕄) :
    iprop(owns (c : Thread nD τ) arg7 fullShare s ∗ (∃ d, owns (c : Thread nD τ) arg10 fullShare d) ∗ owns (c : Thread nD τ) arg13 fullShare X
        ∗ (iprop(owns (c : Thread nD τ) arg7 fullShare s ∗ owns (c : Thread nD τ) arg10 fullShare (k0_pay2 X s) ∗ owns (c : Thread nD τ) arg13 fullShare X) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [k0_part17_eq_skeleton]
  unfold owns
  iintro ⟨⟨%f7, %hf7, H7⟩, ⟨%d10, %f10, -, H10⟩, ⟨%fr, %hfr, Hr⟩, Hk⟩
  obtain rfl := harg7.eq_unread hf7; obtain rfl := harg13.eq_unread hfr
  sl_exec (disch := first | sl_exact hA | sl_exact hB | sl_exact hC | sl_exact hD)
  sl_step
  iapply Hk
  isplitl [H7]
  · iexists _; isplitr; · ipureintro; exact harg7.read_unread _
    iexact H7
  isplitl [H10]
  · iexists _; isplitr
    swap; · iexact H10
    ipureintro
    sl_unfold_words
    refine (stored _ _ _ _).trans ?_
    simp only [read_all]
  iexists _; isplitr; · ipureintro; exact harg13.read_unread _
  iexact Hr

set_option maxHeartbeats 4000000 in
/-- At an even later point: the next product in the first buffer, and the output's block from the second. -/
theorem run_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x768 .bf16) (harg10 : arg10.IsWhole) (arg11 : Memref sig .tc .vmem S1024x2048 .bf16) (harg11 : arg11.IsWhole) (arg12 : Memref sig .tc .vmem S1024x768 .f32) (harg12 : arg12.IsWhole) (arg13 : Memref sig .tc .vmem S1024x768 .f32) (harg13 : arg13.IsWhole)
    (hA : ¬condA i) (hB : k0_cond3 i = 1#1) (hC : ¬k0_cond4 i = 1#1) (hD : ¬k0_cond5 i = 1#1)
    (w : Vec F S2048x768 .f32) (g r s : Vec F S1x768 .f32) (cs sn : Vec F S1024x128 .f32) (h : Vec F S1024x2048 .bf16) (X : Vec F S1024x768 .f32) (E : Set ℕ) (K : PUnit → sProp 𝕄) :
    iprop(owns (c : Thread nD τ) arg4 fullShare w ∗ owns (c : Thread nD τ) arg5 fullShare g ∗ owns (c : Thread nD τ) arg6 fullShare r ∗ owns (c : Thread nD τ) arg7 fullShare s ∗ owns (c : Thread nD τ) arg8 fullShare cs ∗ owns (c : Thread nD τ) arg9 fullShare sn ∗ (∃ d, owns (c : Thread nD τ) arg10 fullShare d) ∗ owns (c : Thread nD τ) arg11 fullShare h ∗ (∃ d, owns (c : Thread nD τ) arg12 fullShare d) ∗ owns (c : Thread nD τ) arg13 fullShare X
        ∗ (iprop(owns (c : Thread nD τ) arg4 fullShare w ∗ owns (c : Thread nD τ) arg5 fullShare g ∗ owns (c : Thread nD τ) arg6 fullShare r ∗ owns (c : Thread nD τ) arg7 fullShare s ∗ owns (c : Thread nD τ) arg8 fullShare cs ∗ owns (c : Thread nD τ) arg9 fullShare sn ∗ owns (c : Thread nD τ) arg10 fullShare (consumed X g r s cs sn) ∗ owns (c : Thread nD τ) arg11 fullShare h ∗ owns (c : Thread nD τ) arg12 fullShare (k0_pay66 h w) ∗ owns (c : Thread nD τ) arg13 fullShare X) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fh, %hfh, Hh⟩, ⟨%dw, %fw, -, Hw⟩, ⟨%fr, %hfr, Hr⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hfh; obtain rfl := harg13.eq_unread hfr
  sl_exec (disch := first | sl_exact hA | sl_exact hB | sl_exact hC | sl_exact hD)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    sl_unfold_words
    refine (View.read_writes_of_cover _ _ arg10.view arg10.view.junk _ (View.cover_of_tiledL _ S1024x128.size (by sl_kernel_rfl))).trans ((View.read_writes_junk_eq_canon _ _).trans ?_)
    simp only [read_all]
    simp only [read_ld]
    rfl
  isplitl [Hh]
  · iexists _; isplitr; · ipureintro; exact harg11.read_unread _
    iexact Hh
  isplitl [Hw]
  · iexists _; isplitr
    swap; · iexact Hw
    ipureintro
    sl_unfold_words
    refine (stored _ _ _ _).trans ?_
    simp only [read_all]
    rfl
  iexists _; isplitr; · ipureintro; exact harg13.read_unread _
  iexact Hr

end Cert.Proof.InRun
end
-- ==== Proof.In.Odd.lean ====
/- The input projection's odd points. -/
module

public import proofs.«01_k».proof.Proof.In.Even

@[expose] public section

set_option maxRecDepth 16384

noncomputable section

namespace Cert.Proof.InRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At an odd point: the next product in the second buffer, and the output's block from the first. -/
theorem run_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S1x768 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x768 .bf16) (harg10 : arg10.IsWhole) (arg11 : Memref sig .tc .vmem S1024x2048 .bf16) (harg11 : arg11.IsWhole) (arg12 : Memref sig .tc .vmem S1024x768 .f32) (harg12 : arg12.IsWhole) (arg13 : Memref sig .tc .vmem S1024x768 .f32) (harg13 : arg13.IsWhole)
    (hA : ¬condA i) (hB : ¬k0_cond3 i = 1#1) (hC : k0_cond4 i = 1#1) (hD : ¬k0_cond5 i = 1#1)
    (w : Vec F S2048x768 .f32) (g r s : Vec F S1x768 .f32) (cs sn : Vec F S1024x128 .f32) (h : Vec F S1024x2048 .bf16) (X : Vec F S1024x768 .f32) (E : Set ℕ) (K : PUnit → sProp 𝕄) :
    iprop(owns (c : Thread nD τ) arg4 fullShare w ∗ owns (c : Thread nD τ) arg5 fullShare g ∗ owns (c : Thread nD τ) arg6 fullShare r ∗ owns (c : Thread nD τ) arg7 fullShare s ∗ owns (c : Thread nD τ) arg8 fullShare cs ∗ owns (c : Thread nD τ) arg9 fullShare sn ∗ (∃ d, owns (c : Thread nD τ) arg10 fullShare d) ∗ owns (c : Thread nD τ) arg11 fullShare h ∗ (∃ d, owns (c : Thread nD τ) arg13 fullShare d) ∗ owns (c : Thread nD τ) arg12 fullShare X
        ∗ (iprop(owns (c : Thread nD τ) arg4 fullShare w ∗ owns (c : Thread nD τ) arg5 fullShare g ∗ owns (c : Thread nD τ) arg6 fullShare r ∗ owns (c : Thread nD τ) arg7 fullShare s ∗ owns (c : Thread nD τ) arg8 fullShare cs ∗ owns (c : Thread nD τ) arg9 fullShare sn ∗ owns (c : Thread nD τ) arg10 fullShare (consumed X g r s cs sn) ∗ owns (c : Thread nD τ) arg11 fullShare h ∗ owns (c : Thread nD τ) arg13 fullShare (k0_pay66 h w) ∗ owns (c : Thread nD τ) arg12 fullShare X) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13) K := by
  simp only [cc0_in_proj_eq_skeleton]; unfold cc0_in_proj_skel
  simp only [k0_part17_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fh, %hfh, Hh⟩, ⟨%dw, %fw, -, Hw⟩, ⟨%fr, %hfr, Hr⟩, Hk⟩
  obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hfh; obtain rfl := harg12.eq_unread hfr
  sl_exec (disch := first | sl_exact hA | sl_exact hB | sl_exact hC | sl_exact hD)
  sl_step
  iapply Hk
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    swap; · iexact H10
    ipureintro
    sl_unfold_words
    refine (View.read_writes_of_cover _ _ arg10.view arg10.view.junk _ (View.cover_of_tiledL _ S1024x128.size (by sl_kernel_rfl))).trans ((View.read_writes_junk_eq_canon _ _).trans ?_)
    simp only [read_all]
    simp only [read_ld]
    rfl
  isplitl [Hh]
  · iexists _; isplitr; · ipureintro; exact harg11.read_unread _
    iexact Hh
  isplitl [Hw]
  · iexists _; isplitr
    swap; · iexact Hw
    ipureintro
    sl_unfold_words
    refine (stored _ _ _ _).trans ?_
    simp only [read_all]
    rfl
  iexists _; isplitr; · ipureintro; exact harg12.read_unread _
  iexact Hr

end Cert.Proof.InRun
end
-- ==== Proof.In.Steps.lean ====
/- The run of the input projection: what each grid point leaves in the output and in the two carried products, and the call's frame. -/
module

public import proofs.«01_k».proof.Proof.In.Odd

@[expose] public section

set_option maxRecDepth 16384

noncomputable section

namespace Cert.Proof.InRun

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x768 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x768 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x768 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x768 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x768 .bf16 := win0_8.stage (cfg0.slots t 8)
abbrev hs8 (t : Fin cfg0.N) : (ms8 t).IsWhole := hstage0_8 ((cfg0.slots t 8).cast nbuf0_8)
abbrev sc0 : Memref sig .tc .vmem S1024x2048 .bf16 := Memref.whole cc0_scratch0
abbrev sc1 : Memref sig .tc .vmem S1024x768 .f32 := Memref.whole cc0_scratch1
abbrev sc2 : Memref sig .tc .vmem S1024x768 .f32 := Memref.whole cc0_scratch2

theorem PhiA_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

theorem coords_A : ∀ t : Fin cfg0.N, condA (grid0.coords t) ↔ t.val % 7 = 0 :=
  (by decide +kernel : ∀ t : Fin grid0.N, condA (grid0.coords t) ↔ t.val % 7 = 0)
theorem coords_B : ∀ t : Fin cfg0.N, k0_cond3 (grid0.coords t) = 1#1 ↔ (t.val % 7 = 2 ∨ t.val % 7 = 4) :=
  (by decide +kernel : ∀ t : Fin grid0.N, k0_cond3 (grid0.coords t) = 1#1 ↔ (t.val % 7 = 2 ∨ t.val % 7 = 4))
theorem coords_C : ∀ t : Fin cfg0.N, k0_cond4 (grid0.coords t) = 1#1 ↔ (t.val % 7 = 1 ∨ t.val % 7 = 3 ∨ t.val % 7 = 5) :=
  (by decide +kernel : ∀ t : Fin grid0.N, k0_cond4 (grid0.coords t) = 1#1 ↔ (t.val % 7 = 1 ∨ t.val % 7 = 3 ∨ t.val % 7 = 5))
theorem coords_D : ∀ t : Fin cfg0.N, k0_cond5 (grid0.coords t) = 1#1 ↔ t.val % 7 = 6 :=
  (by decide +kernel : ∀ t : Fin grid0.N, k0_cond5 (grid0.coords t) = 1#1 ↔ t.val % 7 = 6)

/-- The first point of a point's row of the grid, and the point before. -/
def rowHead (t : Fin cfg0.N) : Fin cfg0.N := ⟨t.val - t.val % 7, Nat.lt_of_le_of_lt (Nat.sub_le _ _) t.isLt⟩
def prior (t : Fin cfg0.N) : Fin cfg0.N := ⟨t.val - 1, Nat.lt_of_le_of_lt (Nat.sub_le _ _) t.isLt⟩

theorem rowHead_head (t : Fin cfg0.N) (h : t.val % 7 = 0) : rowHead t = t := Fin.ext (by show t.val - t.val % 7 = t.val; omega)
theorem rowHead_prior (t : Fin cfg0.N) (h : t.val % 7 ≠ 0) : rowHead (prior t) = rowHead t :=
  Fin.ext (by show t.val - 1 - (t.val - 1) % 7 = t.val - t.val % 7; omega)

/-- The normed rows kept in scratch, the product a point stores, and what it leaves in the output's buffer. -/
def hAt (c : Dev nD) (t : Fin cfg0.N) : Vec F S1024x2048 .bf16 := k0_pay65 (iblk m c 0 (rowHead t)) (iblk m c 1 (rowHead t))
def accAt (c : Dev nD) (t : Fin cfg0.N) : Vec F S1024x768 .f32 := k0_pay66 (hAt m c t) (iblk m c 2 t)
def outAt (c : Dev nD) (t : Fin cfg0.N) : Vec F S1024x768 .bf16 :=
  if t.val % 7 = 6 then k0_pay2 (accAt m c (prior t)) (iblk m c 5 t)
  else consumed (accAt m c (prior t)) (iblk m c 3 t) (iblk m c 4 t) (iblk m c 5 t) (iblk m c 6 t) (iblk m c 7 t)

theorem hAt_prior (c : Dev nD) (t : Fin cfg0.N) (h : t.val % 7 ≠ 0) : hAt m c (prior t) = hAt m c t := by
  unfold hAt; rw [rowHead_prior t h]

/-- The carried scratch before a position. -/
def PhiS (c : Dev nD) : (n : ℕ) → n ≤ cfg0.N → sProp 𝕄
  | 0, _ => Pipeline.ΦA spec0 c
  | n + 1, hn => if n % 7 = 6 then Pipeline.ΦA spec0 c else if n % 7 % 2 = 0 then iprop(iprop(owns (c : Thread nD τ) sc0 fullShare (hAt m c (⟨n, hn⟩ : Fin cfg0.N)) ∗ owns (c : Thread nD τ) sc1 fullShare (accAt m c (⟨n, hn⟩ : Fin cfg0.N)) ∗ (∃ d, owns (c : Thread nD τ) sc2 fullShare d)) ∗ (∃ r, prngReg c r))
    else iprop(iprop(owns (c : Thread nD τ) sc0 fullShare (hAt m c (⟨n, hn⟩ : Fin cfg0.N)) ∗ (∃ d, owns (c : Thread nD τ) sc1 fullShare d) ∗ owns (c : Thread nD τ) sc2 fullShare (accAt m c (⟨n, hn⟩ : Fin cfg0.N))) ∗ (∃ r, prngReg c r))

theorem PhiS_any (c : Dev nD) (n : ℕ) (h : n ≤ cfg0.N) (hz : n % 7 = 0) : PhiS m c n h = Pipeline.ΦA spec0 c := by
  cases n with
  | zero => rfl
  | succ n => exact if_pos (by omega)

theorem PhiS_even (c : Dev nD) (t : Fin cfg0.N) (h : t.val % 7 = 0 ∨ t.val % 7 = 2 ∨ t.val % 7 = 4) :
    PhiS m c (t.val + 1) t.isLt = iprop(iprop(owns (c : Thread nD τ) sc0 fullShare (hAt m c t) ∗ owns (c : Thread nD τ) sc1 fullShare (accAt m c t) ∗ (∃ d, owns (c : Thread nD τ) sc2 fullShare d)) ∗ (∃ r, prngReg c r)) :=
  (if_neg (by omega)).trans (if_pos (by omega))

theorem PhiS_odd (c : Dev nD) (t : Fin cfg0.N) (h : t.val % 7 = 1 ∨ t.val % 7 = 3 ∨ t.val % 7 = 5) :
    PhiS m c (t.val + 1) t.isLt = iprop(iprop(owns (c : Thread nD τ) sc0 fullShare (hAt m c t) ∗ (∃ d, owns (c : Thread nD τ) sc1 fullShare d) ∗ owns (c : Thread nD τ) sc2 fullShare (accAt m c t)) ∗ (∃ r, prngReg c r)) :=
  (if_neg (by omega)).trans (if_neg (by omega))

theorem PhiS_prior (c : Dev nD) (t : Fin cfg0.N) (h : t.val % 7 ≠ 0) :
    PhiS m c t.val (Nat.le_of_lt t.isLt) = PhiS m c ((prior t).val + 1) (prior t).isLt := by
  obtain ⟨n, hn⟩ := t
  cases n with
  | zero => exact absurd rfl h
  | succ n => rfl

/-- The call's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem Phi_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem leaves0 (c : Dev nD) (t : Fin cfg0.N) : (dats m 0 c).leavesExact 0 t = owns (c : Thread nD τ) (ms0 t) fullShare (iblk m c 0 t) := by
  rw [← after0 m c t]
theorem leaves1 (c : Dev nD) (t : Fin cfg0.N) : (dats m 0 c).leavesExact 1 t = owns (c : Thread nD τ) (ms1 t) fullShare (iblk m c 1 t) := by
  rw [← after1 m c t]
theorem leaves2 (c : Dev nD) (t : Fin cfg0.N) : (dats m 0 c).leavesExact 2 t = owns (c : Thread nD τ) (ms2 t) fullShare (iblk m c 2 t) := by
  rw [← after2 m c t]
theorem leaves3 (c : Dev nD) (t : Fin cfg0.N) : (dats m 0 c).leavesExact 3 t = owns (c : Thread nD τ) (ms3 t) fullShare (iblk m c 3 t) := by
  rw [← after3 m c t]
theorem leaves4 (c : Dev nD) (t : Fin cfg0.N) : (dats m 0 c).leavesExact 4 t = owns (c : Thread nD τ) (ms4 t) fullShare (iblk m c 4 t) := by
  rw [← after4 m c t]
theorem leaves5 (c : Dev nD) (t : Fin cfg0.N) : (dats m 0 c).leavesExact 5 t = owns (c : Thread nD τ) (ms5 t) fullShare (iblk m c 5 t) := by
  rw [← after5 m c t]
theorem leaves6 (c : Dev nD) (t : Fin cfg0.N) : (dats m 0 c).leavesExact 6 t = owns (c : Thread nD τ) (ms6 t) fullShare (iblk m c 6 t) := by
  rw [← after6 m c t]
theorem leaves7 (c : Dev nD) (t : Fin cfg0.N) : (dats m 0 c).leavesExact 7 t = owns (c : Thread nD τ) (ms7 t) fullShare (iblk m c 7 t) := by
  rw [← after7 m c t]

theorem idle_at : ∀ t : Fin cfg0.N, cfg0.idle 8 (cfg0.grid.coords t) = decide (t.val % 7 = 0) :=
  (by decide +kernel : ∀ t : Fin grid0.N, idle0 8 (grid0.coords t) = decide (t.val % 7 = 0))
theorem flush_at : ∀ t : Fin cfg0.N, t.val % 7 = 0 → (cfg0.win 8).flush t = false :=
  (by decide +kernel : ∀ t : Fin grid0.N, t.val % 7 = 0 → win0_8.flush t = false)

theorem leaves8_idle (c : Dev nD) (t : Fin cfg0.N) (h : t.val % 7 = 0) :
    (dats m 0 c).leavesExact 8 t = iprop(∃ d, owns (c : Thread nD τ) (ms8 t) fullShare ((dats m 0 c).before 8 t d)) :=
  Dat.leavesExact_idle (dats m 0 c) 8 t ((idle_at t).trans (decide_eq_true h)) (flush_at t h)
theorem leaves8 (c : Dev nD) (t : Fin cfg0.N) (h : t.val % 7 ≠ 0) :
    (dats m 0 c).leavesExact 8 t = owns (c : Thread nD τ) (ms8 t) fullShare (outAt m c t) := by
  rw [← after8 m c t]
  unfold Dat.leavesExact
  rw [(idle_at t).trans (decide_eq_false h)]

def bodyPre (c : Dev nD) (t : Fin cfg0.N) : sProp 𝕄 :=
  iprop((dats m 0 c).Φ t.castSucc ∗ (dats m 0 c).owesAt () t.castSucc
        ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
        ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 2400000 in
/-- The body at the first point of a row of the grid. -/
theorem sound_A (c : Dev nD) (t : Fin cfg0.N) (hj : t.val % 7 = 0) :
    bodyPre m c t ⊢ wp frame (wpE (defs₀ (F := F)) Variants.none c none) Set.univ (bodyAt0 t) (fun _ => bodyPost m c t) := by
  have hA : condA (grid0.coords t) := (coords_A t).mpr hj
  have hB : ¬k0_cond3 (grid0.coords t) = 1#1 := fun h => absurd ((coords_B t).mp h) (by omega)
  have hC : ¬k0_cond4 (grid0.coords t) = 1#1 := fun h => absurd ((coords_C t).mp h) (by omega)
  have hD : ¬k0_cond5 (grid0.coords t) = 1#1 := fun h => absurd ((coords_D t).mp h) (by omega)
  unfold bodyPre bodyPost bodyAt0
  simp only [before0, before1, before2, before3, before4, before5, before6, before7]
  rw [show (dats m 0 c).owesAt () t.succ = (dats m 0 c).owesAt () t.castSucc from rfl, leaves0, leaves1, leaves2, leaves3, leaves4, leaves5, leaves6, leaves7]
  rw [show (dats m 0 c).Φ t.succ = PhiS m c (t.val + 1) t.isLt from rfl, Phi_castSucc m c t]
  rw [leaves8_idle m c t hj, PhiS_any m c _ _ hj, PhiA_eq, PhiS_even m c t (.inl hj)]
  rw [show accAt m c t = k0_pay66 (hAt m c t) (iblk m c 2 t) from rfl, show hAt m c t = k0_pay65 (iblk m c 0 t) (iblk m c 1 t) from by unfold hAt; rw [rowHead_head t hj]]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_A c (grid0.coords t) _ _ _ _ _ _ _ _ _ _ _ _ _ _ _ _ _ _ _ _ _ _ _ _ hA hB hC hD (iblk m c 0 t) (iblk m c 1 t) (iblk m c 2 t) Set.univ _)
  isplitl [H0]; · iexact H0
  isplitl [H1]; · iexact H1
  isplitl [H2]; · iexact H2
  isplitl [S0]; · iexact S0
  isplitl [S1]; · iexact S1
  iintro ⟨H0, H1, H2, S0, S1⟩
  isplitl [S0 S1 S2 Hg]
  · isplitl [S0 S1 S2]
    · isplitl [S0]; · iexact S0
      isplitl [S1]; · iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

set_option maxHeartbeats 2400000 in
/-- The body at an even later point. -/
theorem sound_B (c : Dev nD) (t : Fin cfg0.N) (hj : t.val % 7 = 2 ∨ t.val % 7 = 4) :
    bodyPre m c t ⊢ wp frame (wpE (defs₀ (F := F)) Variants.none c none) Set.univ (bodyAt0 t) (fun _ => bodyPost m c t) := by
  have hA : ¬condA (grid0.coords t) := fun h => absurd ((coords_A t).mp h) (by omega)
  have hB : k0_cond3 (grid0.coords t) = 1#1 := (coords_B t).mpr hj
  have hC : ¬k0_cond4 (grid0.coords t) = 1#1 := fun h => absurd ((coords_C t).mp h) (by omega)
  have hD : ¬k0_cond5 (grid0.coords t) = 1#1 := fun h => absurd ((coords_D t).mp h) (by omega)
  unfold bodyPre bodyPost bodyAt0
  simp only [before0, before1, before2, before3, before4, before5, before6, before7]
  rw [show (dats m 0 c).owesAt () t.succ = (dats m 0 c).owesAt () t.castSucc from rfl, leaves0, leaves1, leaves2, leaves3, leaves4, leaves5, leaves6, leaves7]
  rw [show (dats m 0 c).Φ t.succ = PhiS m c (t.val + 1) t.isLt from rfl, Phi_castSucc m c t]
  have h0 : t.val % 7 ≠ 0 := by omega
  rw [leaves8 m c t h0, PhiS_prior m c t h0, PhiS_odd m c (prior t) (by show (t.val - 1) % 7 = 1 ∨ (t.val - 1) % 7 = 3 ∨ (t.val - 1) % 7 = 5; omega), PhiS_even m c t (by omega), hAt_prior m c t h0]
  rw [show accAt m c t = k0_pay66 (hAt m c t) (iblk m c 2 t) from rfl, show outAt m c t = consumed (accAt m c (prior t)) (iblk m c 3 t) (iblk m c 4 t) (iblk m c 5 t) (iblk m c 6 t) (iblk m c 7 t) from if_neg (by omega)]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_B c (grid0.coords t) _ _ _ _ _ _ _ _ _ _ _ _ _ _ _ _ _ _ _ _ _ _ _ _ hA hB hC hD (iblk m c 2 t) (iblk m c 3 t) (iblk m c 4 t) (iblk m c 5 t) (iblk m c 6 t) (iblk m c 7 t) (hAt m c t) (accAt m c (prior t)) Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  iintro ⟨H2, H3, H4, H5, H6, H7, H8, S0, S1, S2⟩
  isplitl [S0 S1 S2 Hg]
  · isplitl [S0 S1 S2]
    · isplitl [S0]; · iexact S0
      isplitl [S1]; · iexact S1
      iexists _; iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2400000 in
/-- The body at an odd point. -/
theorem sound_C (c : Dev nD) (t : Fin cfg0.N) (hj : t.val % 7 = 1 ∨ t.val % 7 = 3 ∨ t.val % 7 = 5) :
    bodyPre m c t ⊢ wp frame (wpE (defs₀ (F := F)) Variants.none c none) Set.univ (bodyAt0 t) (fun _ => bodyPost m c t) := by
  have hA : ¬condA (grid0.coords t) := fun h => absurd ((coords_A t).mp h) (by omega)
  have hB : ¬k0_cond3 (grid0.coords t) = 1#1 := fun h => absurd ((coords_B t).mp h) (by omega)
  have hC : k0_cond4 (grid0.coords t) = 1#1 := (coords_C t).mpr hj
  have hD : ¬k0_cond5 (grid0.coords t) = 1#1 := fun h => absurd ((coords_D t).mp h) (by omega)
  unfold bodyPre bodyPost bodyAt0
  simp only [before0, before1, before2, before3, before4, before5, before6, before7]
  rw [show (dats m 0 c).owesAt () t.succ = (dats m 0 c).owesAt () t.castSucc from rfl, leaves0, leaves1, leaves2, leaves3, leaves4, leaves5, leaves6, leaves7]
  rw [show (dats m 0 c).Φ t.succ = PhiS m c (t.val + 1) t.isLt from rfl, Phi_castSucc m c t]
  have h0 : t.val % 7 ≠ 0 := by omega
  rw [leaves8 m c t h0, PhiS_prior m c t h0, PhiS_even m c (prior t) (by show (t.val - 1) % 7 = 0 ∨ (t.val - 1) % 7 = 2 ∨ (t.val - 1) % 7 = 4; omega), PhiS_odd m c t (by omega), hAt_prior m c t h0]
  rw [show accAt m c t = k0_pay66 (hAt m c t) (iblk m c 2 t) from rfl, show outAt m c t = consumed (accAt m c (prior t)) (iblk m c 3 t) (iblk m c 4 t) (iblk m c 5 t) (iblk m c 6 t) (iblk m c 7 t) from if_neg (by omega)]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_C c (grid0.coords t) _ _ _ _ _ _ _ _ _ _ _ _ _ _ _ _ _ _ _ _ _ _ _ _ hA hB hC hD (iblk m c 2 t) (iblk m c 3 t) (iblk m c 4 t) (iblk m c 5 t) (iblk m c 6 t) (iblk m c 7 t) (hAt m c t) (accAt m c (prior t)) Set.univ _)
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S2]; · iexact S2
  isplitl [S1]; · iexact S1
  iintro ⟨H2, H3, H4, H5, H6, H7, H8, S0, S2, S1⟩
  isplitl [S0 S1 S2 Hg]
  · isplitl [S0 S1 S2]
    · isplitl [S0]; · iexact S0
      isplitl [S1]; · iexists _; iexact S1
      iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 2400000 in
/-- The body at the last point of a row of the grid. -/
theorem sound_D (c : Dev nD) (t : Fin cfg0.N) (hj : t.val % 7 = 6) :
    bodyPre m c t ⊢ wp frame (wpE (defs₀ (F := F)) Variants.none c none) Set.univ (bodyAt0 t) (fun _ => bodyPost m c t) := by
  have hA : ¬condA (grid0.coords t) := fun h => absurd ((coords_A t).mp h) (by omega)
  have hB : ¬k0_cond3 (grid0.coords t) = 1#1 := fun h => absurd ((coords_B t).mp h) (by omega)
  have hC : ¬k0_cond4 (grid0.coords t) = 1#1 := fun h => absurd ((coords_C t).mp h) (by omega)
  have hD : k0_cond5 (grid0.coords t) = 1#1 := (coords_D t).mpr hj
  unfold bodyPre bodyPost bodyAt0
  simp only [before0, before1, before2, before3, before4, before5, before6, before7]
  rw [show (dats m 0 c).owesAt () t.succ = (dats m 0 c).owesAt () t.castSucc from rfl, leaves0, leaves1, leaves2, leaves3, leaves4, leaves5, leaves6, leaves7]
  rw [show (dats m 0 c).Φ t.succ = PhiS m c (t.val + 1) t.isLt from rfl, Phi_castSucc m c t]
  have h0 : t.val % 7 ≠ 0 := by omega
  rw [leaves8 m c t h0, PhiS_prior m c t h0, PhiS_odd m c (prior t) (by show (t.val - 1) % 7 = 1 ∨ (t.val - 1) % 7 = 3 ∨ (t.val - 1) % 7 = 5; omega), PhiS_any m c (t.val + 1) _ (by omega), PhiA_eq]
  rw [show outAt m c t = k0_pay2 (accAt m c (prior t)) (iblk m c 5 t) from if_pos hj]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run_D c (grid0.coords t) _ _ _ _ _ _ _ _ _ _ _ _ _ _ _ _ _ _ _ _ _ _ _ _ hA hB hC hD (iblk m c 5 t) (accAt m c (prior t)) Set.univ _)
  isplitl [H5]; · iexact H5
  isplitl [H8]; · iexists _; iexact H8
  isplitl [S2]; · iexact S2
  iintro ⟨H5, H8, S2⟩
  isplitl [S0 S1 S2 Hg]
  · isplitl [S0 S1 S2]
    · isplitl [S0]; · iexists _; iexact S0
      isplitl [S1]; · iexact S1
      iexists _; iexact S2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem sound_body (c : Dev nD) (t : Fin cfg0.N) :
    bodyPre m c t ⊢ wp frame (wpE (defs₀ (F := F)) Variants.none c none) Set.univ (bodyAt0 t) (fun _ => bodyPost m c t) := by
  have hj : t.val % 7 = 0 ∨ (t.val % 7 = 2 ∨ t.val % 7 = 4) ∨ (t.val % 7 = 1 ∨ t.val % 7 = 3 ∨ t.val % 7 = 5) ∨ t.val % 7 = 6 := by omega
  rcases hj with h | h | h | h
  · exact sound_A m c t h
  · exact sound_B m c t h
  · exact sound_C m c t h
  · exact sound_D m c t h

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_any m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl,
    PhiS_any m c _ _ (by have : cfg0.N = 56 := N_0; rw [this])]
  try exact Idealize.SL.BI.Entails.refl _

-- the statement's implicit arguments are found by unifying its conclusion with this one, unfolding plain definitions on the way
set_option backward.isDefEq.respectTransparency.types false in
/-- The launch: every array ends as the proof data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The call ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

/-- The run with the output's array and the arguments named. -/
theorem run_blocks : θ_run defs (onTc (τ := τ) (main (F := F))) ⟨m, fun _ => 0, ρ⟩ fun r => ∀ c : Dev nD,
      r.2.mem ((c : Thread nD τ).loc main_v25) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1 8,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.Proof.InRun
end
-- ==== Proof.In.Ref.lean ====
/- The input projection's reference, element by element. -/
module

public import proofs.«01_k».proof.Proof.Gen.Reference5Ideal
public import proofs.«01_k».proof.Proof.Gen.Reference5Ideal.Run
public import proofs.«01_k».proof.Proof.DownRef
public import Idealize.ShloMosaic.Lib.Pointwise

@[expose] public section

set_option maxRecDepth 16384

noncomputable section

namespace Cert.Proof

open Idealize.ShloMosaic

/-- One element of a head's row over the root of the row's mean square, times its scale. -/
def normedHead (y : Fin 128 → EReal) (g : Fin 128 → EReal) (j : Fin 128) : EReal :=
  y j * Ideal.rsqrt (Ideal.div (∑ k : Fin 128, y k * y k) (Ideal.ofBits .f32 0x43000000#32) + Ideal.ofBits .f32 0x358637BD#32) * g j

/-- One element of a row whose pairs of neighbours are rotated. -/
def turned (y : Fin 128 → EReal) (cs sn : Fin 64 → EReal) (l : Fin 128) : EReal :=
  if l.val % 2 = 0 then y ⟨l.val / 2 * 2, by have := l.isLt; omega⟩ * cs ⟨l.val / 2, by have := l.isLt; omega⟩ - y ⟨l.val / 2 * 2 + 1, by have := l.isLt; omega⟩ * sn ⟨l.val / 2, by have := l.isLt; omega⟩
  else y ⟨l.val / 2 * 2, by have := l.isLt; omega⟩ * sn ⟨l.val / 2, by have := l.isLt; omega⟩ + y ⟨l.val / 2 * 2 + 1, by have := l.isLt; omega⟩ * cs ⟨l.val / 2, by have := l.isLt; omega⟩

end Cert.Proof

namespace Cert.Proof.InR

open Cert.Reference5Ideal Cert.Reference5Ideal.Gen
open Idealize.ShloMosaic Idealize.ShloMosaic.TcCoe Idealize.ShloMosaic.Tactic

/-- The product of the normed rows and the weights. -/
def proj (x : FVec Ideal S8192x2048 .f32) (g : FVec Ideal S2048 .f32) (w : FVec Ideal S2048x4608 .f32) : FVec Ideal S8192x4608 .f32 :=
  Host.dotGeneral dot_S8192x2048_S2048x4608_S8192x4608_1_0_0_1_n_n none (Cert.Proof.DownR.norm x g) w

theorem proj_at (x g w) (n : Fin 8192) (j : Fin 4608) : proj x g w (ix2 n j) = ∑ k : Fin 2048, normed (fun k => x (ix2 n k)) (fun k => g (ix1 k)) k * w (ix2 k j) := by
  unfold proj
  generalize hy : Cert.Proof.DownR.norm x g = y
  have e : ∀ k : Fin 2048, normed (fun k => x (ix2 n k)) (fun k => g (ix1 k)) k = y (ix2 n k) := fun k => by rw [← hy]; exact (Cert.Proof.DownR.norm_at x g n k).symm
  simp only [e]
  pointwise

/-- The columns from 3072 on, as 8 heads. -/
def heads8 (p : FVec Ideal S8192x4608 .f32) : FVec Ideal S1x8192x8x128 .f32 :=
  shapeCast _ (extractStridedSlice S8192x1024 ![0, 3072] p slices_S8192x4608_S8192x1024_0_3072) shapeCasts_S8192x1024_S1x8192x8x128

/-- The norm of each of the 8 heads' rows. -/
def norm8 (y : FVec Ideal S1x8192x8x128 .f32) (g : FVec Ideal S128 .f32) : FVec Ideal S1x8192x8x128 .f32 :=
  mulf (mulf y (broadcastInDim S1x8192x8x128 ![0, 1, 2, 3] bcast_S1x8192x8x1_S1x8192x8x128_0_1_2_3
    (Host.rsqrt (addf (Host.divf (broadcastInDim S1x8192x8x1 ![0, 1, 2] bcast_S1x8192x8_S1x8192x8x1_0_1_2 (Host.reduceAdd (mulf y y) (constant S_ .f32 0x00000000#32) reducesTo_S1x8192x8x128_S1x8192x8_d3 h_S_))
      (broadcastInDim S1x8192x8x1 ![] bcast_S_S1x8192x8x1 (constant S_ .f32 0x43000000#32))) (broadcastInDim S1x8192x8x1 ![] bcast_S_S1x8192x8x1 (constant S_ .f32 0x358637BD#32))))))
    (broadcastInDim S1x8192x8x128 ![0, 1, 2, 3] bcast_S1x1x1x128_S1x8192x8x128_0_1_2_3 (broadcastInDim S1x1x1x128 ![3] bcast_S128_S1x1x1x128_3 g))

/-- The elements at even places, and those at odd places. -/
def even8 (v : FVec Ideal S1x8192x8x128 .f32) : FVec Ideal S1x8192x8x64 .f32 :=
  shapeCast _ (extractStridedSlice S1x8192x8x64x1 ![0, 0, 0, 0, 0] (shapeCast _ v shapeCasts_S1x8192x8x128_S1x8192x8x64x2) slices_S1x8192x8x64x2_S1x8192x8x64x1_0_0_0_0_0) shapeCasts_S1x8192x8x64x1_S1x8192x8x64
def odd8 (v : FVec Ideal S1x8192x8x128 .f32) : FVec Ideal S1x8192x8x64 .f32 :=
  shapeCast _ (extractStridedSlice S1x8192x8x64x1 ![0, 0, 0, 0, 1] (shapeCast _ v shapeCasts_S1x8192x8x128_S1x8192x8x64x2) slices_S1x8192x8x64x2_S1x8192x8x64x1_0_0_0_0_1) shapeCasts_S1x8192x8x64x1_S1x8192x8x64

/-- The table of angles, for every head. -/
def wide8 (a : FVec Ideal S8192x64 .f32) : FVec Ideal S1x8192x8x64 .f32 :=
  broadcastInDim S1x8192x8x64 ![0, 1, 2, 3] bcast_S1x8192x1x64_S1x8192x8x64_0_1_2_3 (broadcastInDim S1x8192x1x64 ![1, 3] bcast_S8192x64_S1x8192x1x64_1_3 a)

/-- Two arrays as the even and the odd places of one. -/
def pairs8 (a b : FVec Ideal S1x8192x8x64 .f32) : FVec Ideal S1x8192x8x128 .f32 :=
  shapeCast _ (concatenate S1x8192x8x64x2 4 [⟨S1x8192x8x64x1, broadcastInDim S1x8192x8x64x1 ![0, 1, 2, 3] bcast_S1x8192x8x64_S1x8192x8x64x1_0_1_2_3 a⟩,
    ⟨S1x8192x8x64x1, broadcastInDim S1x8192x8x64x1 ![0, 1, 2, 3] bcast_S1x8192x8x64_S1x8192x8x64x1_0_1_2_3 b⟩] concatenates_S1x8192x8x64x1_S1x8192x8x64x1_S1x8192x8x64x2_d4) shapeCasts_S1x8192x8x64x2_S1x8192x8x128

/-- The pairs of neighbours rotated. -/
def turn8 (v : FVec Ideal S1x8192x8x128 .f32) (cs sn : FVec Ideal S8192x64 .f32) : FVec Ideal S1x8192x8x128 .f32 :=
  pairs8 (subf (mulf (even8 v) (wide8 cs)) (mulf (odd8 v) (wide8 sn))) (addf (mulf (even8 v) (wide8 sn)) (mulf (odd8 v) (wide8 cs)))

theorem heads8_at (p) (n : Fin 8192) (h : Fin 8) (l : Fin 128) : heads8 p (ix4 0 n h l) = p (ix2 n ⟨3072 + h.val * 128 + l.val, by have := h.isLt; have := l.isLt; omega⟩) := by
  pointwise [heads8]
  exact congrArg (fun i => p (ix2 n i)) (Fin.ext (by dsimp only; omega))

theorem norm8_at (y g) (n : Fin 8192) (h : Fin 8) (l : Fin 128) : norm8 y g (ix4 0 n h l) = normedHead (fun k => y (ix4 0 n h k)) (fun k => g (ix1 k)) l := by
  pointwise [norm8, normedHead]

theorem even8_at (v) (n : Fin 8192) (h : Fin 8) (p : Fin 64) : even8 v (ix4 0 n h p) = v (ix4 0 n h ⟨p.val * 2, by have := p.isLt; omega⟩) := by
  pointwise [even8]

theorem odd8_at (v) (n : Fin 8192) (h : Fin 8) (p : Fin 64) : odd8 v (ix4 0 n h p) = v (ix4 0 n h ⟨p.val * 2 + 1, by have := p.isLt; omega⟩) := by
  pointwise [odd8]

theorem wide8_at (a) (n : Fin 8192) (h : Fin 8) (p : Fin 64) : wide8 a (ix4 0 n h p) = a (ix2 n p) := by
  pointwise [wide8]

theorem pairs8_even (a b) (n : Fin 8192) (h : Fin 8) (l : Fin 128) (e : l.val % 2 < 1) : pairs8 a b (ix4 0 n h l) = a (ix4 0 n h ⟨l.val / 2, by have := l.isLt; omega⟩) := by
  pointwise [pairs8, e]

theorem pairs8_odd (a b) (n : Fin 8192) (h : Fin 8) (l : Fin 128) (e : ¬l.val % 2 < 1) : pairs8 a b (ix4 0 n h l) = b (ix4 0 n h ⟨l.val / 2, by have := l.isLt; omega⟩) := by
  pointwise [pairs8, e]

theorem turn8_at (v cs sn) (n : Fin 8192) (h : Fin 8) (l : Fin 128) :
    turn8 v cs sn (ix4 0 n h l) = turned (fun k => v (ix4 0 n h k)) (fun p => cs (ix2 n p)) (fun p => sn (ix2 n p)) l := by
  unfold turn8 turned
  by_cases e : l.val % 2 = 0
  · rw [pairs8_even _ _ _ _ _ (by omega), if_pos e]
    pointwise
    rw [even8_at, odd8_at, wide8_at, wide8_at]
  · rw [pairs8_odd _ _ _ _ _ (by omega), if_neg e]
    pointwise
    rw [even8_at, odd8_at, wide8_at, wide8_at]

/-- The columns from 4096 on, as 2 heads. -/
def heads2 (p : FVec Ideal S8192x4608 .f32) : FVec Ideal S1x8192x2x128 .f32 :=
  shapeCast _ (extractStridedSlice S8192x256 ![0, 4096] p slices_S8192x4608_S8192x256_0_4096) shapeCasts_S8192x256_S1x8192x2x128

/-- The norm of each of the 2 heads' rows. -/
def norm2 (y : FVec Ideal S1x8192x2x128 .f32) (g : FVec Ideal S128 .f32) : FVec Ideal S1x8192x2x128 .f32 :=
  mulf (mulf y (broadcastInDim S1x8192x2x128 ![0, 1, 2, 3] bcast_S1x8192x2x1_S1x8192x2x128_0_1_2_3
    (Host.rsqrt (addf (Host.divf (broadcastInDim S1x8192x2x1 ![0, 1, 2] bcast_S1x8192x2_S1x8192x2x1_0_1_2 (Host.reduceAdd (mulf y y) (constant S_ .f32 0x00000000#32) reducesTo_S1x8192x2x128_S1x8192x2_d3 h_S_))
      (broadcastInDim S1x8192x2x1 ![] bcast_S_S1x8192x2x1 (constant S_ .f32 0x43000000#32))) (broadcastInDim S1x8192x2x1 ![] bcast_S_S1x8192x2x1 (constant S_ .f32 0x358637BD#32))))))
    (broadcastInDim S1x8192x2x128 ![0, 1, 2, 3] bcast_S1x1x1x128_S1x8192x2x128_0_1_2_3 (broadcastInDim S1x1x1x128 ![3] bcast_S128_S1x1x1x128_3 g))

/-- The elements at even places, and those at odd places. -/
def even2 (v : FVec Ideal S1x8192x2x128 .f32) : FVec Ideal S1x8192x2x64 .f32 :=
  shapeCast _ (extractStridedSlice S1x8192x2x64x1 ![0, 0, 0, 0, 0] (shapeCast _ v shapeCasts_S1x8192x2x128_S1x8192x2x64x2) slices_S1x8192x2x64x2_S1x8192x2x64x1_0_0_0_0_0) shapeCasts_S1x8192x2x64x1_S1x8192x2x64
def odd2 (v : FVec Ideal S1x8192x2x128 .f32) : FVec Ideal S1x8192x2x64 .f32 :=
  shapeCast _ (extractStridedSlice S1x8192x2x64x1 ![0, 0, 0, 0, 1] (shapeCast _ v shapeCasts_S1x8192x2x128_S1x8192x2x64x2) slices_S1x8192x2x64x2_S1x8192x2x64x1_0_0_0_0_1) shapeCasts_S1x8192x2x64x1_S1x8192x2x64

/-- The table of angles, for every head. -/
def wide2 (a : FVec Ideal S8192x64 .f32) : FVec Ideal S1x8192x2x64 .f32 :=
  broadcastInDim S1x8192x2x64 ![0, 1, 2, 3] bcast_S1x8192x1x64_S1x8192x2x64_0_1_2_3 (broadcastInDim S1x8192x1x64 ![1, 3] bcast_S8192x64_S1x8192x1x64_1_3 a)

/-- Two arrays as the even and the odd places of one. -/
def pairs2 (a b : FVec Ideal S1x8192x2x64 .f32) : FVec Ideal S1x8192x2x128 .f32 :=
  shapeCast _ (concatenate S1x8192x2x64x2 4 [⟨S1x8192x2x64x1, broadcastInDim S1x8192x2x64x1 ![0, 1, 2, 3] bcast_S1x8192x2x64_S1x8192x2x64x1_0_1_2_3 a⟩,
    ⟨S1x8192x2x64x1, broadcastInDim S1x8192x2x64x1 ![0, 1, 2, 3] bcast_S1x8192x2x64_S1x8192x2x64x1_0_1_2_3 b⟩] concatenates_S1x8192x2x64x1_S1x8192x2x64x1_S1x8192x2x64x2_d4) shapeCasts_S1x8192x2x64x2_S1x8192x2x128

/-- The pairs of neighbours rotated. -/
def turn2 (v : FVec Ideal S1x8192x2x128 .f32) (cs sn : FVec Ideal S8192x64 .f32) : FVec Ideal S1x8192x2x128 .f32 :=
  pairs2 (subf (mulf (even2 v) (wide2 cs)) (mulf (odd2 v) (wide2 sn))) (addf (mulf (even2 v) (wide2 sn)) (mulf (odd2 v) (wide2 cs)))

theorem heads2_at (p) (n : Fin 8192) (h : Fin 2) (l : Fin 128) : heads2 p (ix4 0 n h l) = p (ix2 n ⟨4096 + h.val * 128 + l.val, by have := h.isLt; have := l.isLt; omega⟩) := by
  pointwise [heads2]
  exact congrArg (fun i => p (ix2 n i)) (Fin.ext (by dsimp only; omega))

theorem norm2_at (y g) (n : Fin 8192) (h : Fin 2) (l : Fin 128) : norm2 y g (ix4 0 n h l) = normedHead (fun k => y (ix4 0 n h k)) (fun k => g (ix1 k)) l := by
  pointwise [norm2, normedHead]

theorem even2_at (v) (n : Fin 8192) (h : Fin 2) (p : Fin 64) : even2 v (ix4 0 n h p) = v (ix4 0 n h ⟨p.val * 2, by have := p.isLt; omega⟩) := by
  pointwise [even2]

theorem odd2_at (v) (n : Fin 8192) (h : Fin 2) (p : Fin 64) : odd2 v (ix4 0 n h p) = v (ix4 0 n h ⟨p.val * 2 + 1, by have := p.isLt; omega⟩) := by
  pointwise [odd2]

theorem wide2_at (a) (n : Fin 8192) (h : Fin 2) (p : Fin 64) : wide2 a (ix4 0 n h p) = a (ix2 n p) := by
  pointwise [wide2]

theorem pairs2_even (a b) (n : Fin 8192) (h : Fin 2) (l : Fin 128) (e : l.val % 2 < 1) : pairs2 a b (ix4 0 n h l) = a (ix4 0 n h ⟨l.val / 2, by have := l.isLt; omega⟩) := by
  pointwise [pairs2, e]

theorem pairs2_odd (a b) (n : Fin 8192) (h : Fin 2) (l : Fin 128) (e : ¬l.val % 2 < 1) : pairs2 a b (ix4 0 n h l) = b (ix4 0 n h ⟨l.val / 2, by have := l.isLt; omega⟩) := by
  pointwise [pairs2, e]

theorem turn2_at (v cs sn) (n : Fin 8192) (h : Fin 2) (l : Fin 128) :
    turn2 v cs sn (ix4 0 n h l) = turned (fun k => v (ix4 0 n h k)) (fun p => cs (ix2 n p)) (fun p => sn (ix2 n p)) l := by
  unfold turn2 turned
  by_cases e : l.val % 2 = 0
  · rw [pairs2_even _ _ _ _ _ (by omega), if_pos e]
    pointwise
    rw [even2_at, odd2_at, wide2_at, wide2_at]
  · rw [pairs2_odd _ _ _ _ _ (by omega), if_neg e]
    pointwise
    rw [even2_at, odd2_at, wide2_at, wide2_at]

/-- The columns side by side, those of the heads replaced. -/
def together (p : FVec Ideal S8192x4608 .f32) (a : FVec Ideal S1x8192x8x128 .f32) (b : FVec Ideal S1x8192x2x128 .f32) : FVec Ideal S8192x4608 .bf16 :=
  truncf .bf16 (concatenate S8192x4608 1 [⟨S8192x3072, extractStridedSlice S8192x3072 ![0, 0] p slices_S8192x4608_S8192x3072_0_0⟩, ⟨S8192x1024, shapeCast _ a shapeCasts_S1x8192x8x128_S8192x1024⟩,
    ⟨S8192x256, shapeCast _ b shapeCasts_S1x8192x2x128_S8192x256⟩, ⟨S8192x256, extractStridedSlice S8192x256 ![0, 4352] p slices_S8192x4608_S8192x256_0_4352⟩] concatenates_S8192x3072_S8192x1024_S8192x256_S8192x256_S8192x4608_d1) bitsLt_bf16_f32

theorem together_left (p a b) (n : Fin 8192) (j : Fin 4608) (h : j.val < 3072) : together p a b (ix2 n j) = p (ix2 n j) := by
  pointwise [together, h]

theorem together_q (p a b) (n : Fin 8192) (j : Fin 4608) (h : ¬j.val < 3072) (h' : j.val < 4096) :
    together p a b (ix2 n j) = a (ix4 0 n ⟨(j.val - 3072) / 128, by omega⟩ ⟨(j.val - 3072) % 128, by omega⟩) := by
  have h2 : j.val < 3072 + 1024 := h'
  have h3 : j.val - 3072 < 1024 := by omega
  pointwise [together, h, h', h2, h3]

theorem together_k (p a b) (n : Fin 8192) (j : Fin 4608) (h : ¬j.val < 4096) (h' : j.val < 4352) :
    together p a b (ix2 n j) = b (ix4 0 n ⟨(j.val - 4096) / 128, by omega⟩ ⟨(j.val - 4096) % 128, by omega⟩) := by
  have h0 : ¬j.val < 3072 := by omega
  have h3 : j.val - 3072 - 1024 < 256 := by omega
  have h4 : ¬j.val - 3072 < 1024 := by omega
  pointwise [together, h, h', h0, h3, h4]
  exact congrArg₂ (fun u v => b (ix4 0 n u v)) (Fin.ext (by dsimp only; omega)) (Fin.ext (by dsimp only; omega))

theorem together_right (p a b) (n : Fin 8192) (j : Fin 4608) (h : ¬j.val < 4352) : together p a b (ix2 n j) = p (ix2 n j) := by
  have h0 : ¬j.val < 3072 := by omega
  have h1 : ¬j.val < 4096 := by omega
  have h3 : ¬j.val - 3072 - 1024 < 256 := by omega
  have h4 : ¬j.val - 3072 < 1024 := by omega
  pointwise [together, h, h0, h1, h3, h4]
  exact congrArg (fun i => p (ix2 n i)) (Fin.ext (by dsimp only; omega))

/-- What the layer stores of the product: the heads of the queries and of the keys normed and rotated. -/
def whole (x : FVec Ideal S8192x2048 .f32) (g : FVec Ideal S2048 .f32) (w : FVec Ideal S2048x4608 .f32) (qg kg : FVec Ideal S128 .f32) (cs sn : FVec Ideal S8192x64 .f32) : FVec Ideal S8192x4608 .bf16 :=
  together (proj x g w) (turn8 (norm8 (heads8 (proj x g w)) qg) cs sn) (turn2 (norm2 (heads2 (proj x g w)) kg) cs sn)

/-- An element of a row of it, of the product's row. -/
def entry (P : Fin 4608 → EReal) (qg kg : Fin 128 → EReal) (cs sn : Fin 64 → EReal) (j : Fin 4608) : EReal :=
  if 3072 ≤ j.val ∧ j.val < 4352 then turned (normedHead (fun k => P ⟨j.val / 128 * 128 + k.val, by have := j.isLt; have := k.isLt; omega⟩) (if j.val < 4096 then qg else kg)) cs sn ⟨j.val % 128, Nat.mod_lt _ (by decide)⟩
  else P j

theorem whole_at (x g w qg kg cs sn) (n : Fin 8192) (j : Fin 4608) : whole x g w qg kg cs sn (ix2 n j)
    = entry (fun j => ∑ k : Fin 2048, normed (fun k => x (ix2 n k)) (fun k => g (ix1 k)) k * w (ix2 k j)) (fun k => qg (ix1 k)) (fun k => kg (ix1 k)) (fun p => cs (ix2 n p)) (fun p => sn (ix2 n p)) j := by
  unfold whole entry
  simp only [← proj_at]
  generalize proj x g w = P
  by_cases h0 : j.val < 3072
  · rw [together_left _ _ _ _ _ h0, if_neg (by omega)]
  by_cases h1 : j.val < 4096
  · rw [together_q _ _ _ _ _ h0 h1, if_pos (by omega), if_pos h1, turn8_at]
    refine congr (congrArg (fun y => turned y (fun p => cs (ix2 n p)) (fun p => sn (ix2 n p))) (funext fun k => ?_)) (Fin.ext (by dsimp only; omega))
    rw [norm8_at]
    refine congrArg (fun y => normedHead y (fun k => qg (ix1 k)) k) (funext fun k => ?_)
    rw [heads8_at]
    exact congrArg (fun i => P (ix2 n i)) (Fin.ext (by dsimp only; omega))
  by_cases h2 : j.val < 4352
  · rw [together_k _ _ _ _ _ h1 h2, if_pos (by omega), if_neg h1, turn2_at]
    refine congr (congrArg (fun y => turned y (fun p => cs (ix2 n p)) (fun p => sn (ix2 n p))) (funext fun k => ?_)) (Fin.ext (by dsimp only; omega))
    rw [norm2_at]
    refine congrArg (fun y => normedHead y (fun k => kg (ix1 k)) k) (funext fun k => ?_)
    rw [heads2_at]
    exact congrArg (fun i => P (ix2 n i)) (Fin.ext (by dsimp only; omega))
  · rw [together_right _ _ _ _ _ h2, if_neg (by omega)]

end Cert.Proof.InR
end
-- ==== Proof.In.Chunk.lean ====
/- One block of 128 columns of the input projection, element by element. -/
module

public import proofs.«01_k».proof.Proof.In.Even
public import proofs.«01_k».proof.Proof.In.Ref
public import Idealize.ShloMosaic.Lib.Pointwise
public import Idealize.ShloMosaic.Lib.Pipeline.ValueKit

@[expose] public section

set_option maxRecDepth 16384

noncomputable section

namespace Cert.Proof.InRun

open Cert.Kernel5Ideal Cert.Kernel5Ideal.Gen
open Idealize.ShloMosaic Idealize.ShloMosaic.TcCoe Idealize.ShloMosaic.Tactic

/-- Which lanes are even, as the body asks. -/
def evens : IVec S1024x128 1 :=
  cmpi .eq (select (andi (xori k0_pay9 (broadcastTo S1024x128 (broadcast S1024x128 (Scalar.cmpi .slt 2#32 0#32)) broadcasts_S1024x128_S1024x128)) k0_pay8)
    (addi k0_pay7 (broadcast S1024x128 2#32)) k0_pay7) (broadcast S1024x128 0#32)

theorem evens_word : ∀ l : Fin 128, (if (BitVec.ofNat 32 l.val).srem 2#32 = 0#32 then 1#1 else 0#1) = (if l.val % 2 = 0 then 1#1 else 0#1) := by decide +kernel

theorem evens_at (n : Fin 1024) (l : Fin 128) : evens (ix2 n l) = if l.val % 2 = 0 then 1#1 else 0#1 := by
  pointwise [evens, k0_pay7, k0_pay8, k0_pay9]
  revert l
  decide +kernel

/-- The lane to the right, the lane to the left, cyclically. -/
theorem right_at (v : FVec Ideal S1024x128 .f32) (n : Fin 1024) (l : Fin 128) :
    dynamicRotate 1 127#32 none v rotates_S1024x128_d1 (ix2 n l) = v (ix2 n ⟨(l.val + 1) % 128, Nat.mod_lt _ (by decide)⟩) := by
  pointwise
  exact congrArg (fun i => v (ix2 n i)) (Fin.ext (by dsimp only; omega))

theorem left_at (v : FVec Ideal S1024x128 .f32) (n : Fin 1024) (l : Fin 128) :
    dynamicRotate 1 1#32 none v rotates_S1024x128_d1 (ix2 n l) = v (ix2 n ⟨(l.val + 127) % 128, Nat.mod_lt _ (by decide)⟩) := by
  pointwise
  exact congrArg (fun i => v (ix2 n i)) (Fin.ext (by dsimp only; omega))

theorem head_at (a : Vec Ideal S1024x128 .f32) (g : Vec Ideal S1x128 .f32) (n : Fin 1024) (l : Fin 128) :
    k0_pay6 a g (ix2 n l) = normedHead (fun k => a (ix2 n k)) (fun k => g (ix2 0 k)) l := by
  pointwise [k0_pay6, normedHead]

/-- What a block of columns holds where it is rotated. -/
def rotated (v cs sn : FVec Ideal S1024x128 .f32) : FVec Ideal S1024x128 .f32 :=
  addf (mulf v cs) (mulf (select evens (dynamicRotate 1 127#32 none v rotates_S1024x128_d1) (dynamicRotate 1 1#32 none v rotates_S1024x128_d1)) sn)

/-- The choice by the flags, and the scales. -/
def chosen (a w : FVec Ideal S1024x128 .f32) (r s : FVec Ideal S1x128 .f32) : FVec Ideal S1024x128 .bf16 :=
  truncf .bf16 (mulf (select (broadcastTo S1024x128 (shapeCast S1x128 (cmpf .ogt (shapeCast S1x128 r shapeCasts_S1x128_S1x128) (broadcast S1x128 (Scalar.ofBits .f32 0x00000000#32))) shapeCasts_S1x128_S1x128) broadcasts_S1x128_S1024x128) w a)
    (broadcastTo S1024x128 (shapeCast S1x128 s shapeCasts_S1x128_S1x128) broadcasts_S1x128_S1024x128)) bitsLt_bf16_f32

theorem chunk_eq (a : Vec Ideal S1024x128 .f32) (g r s : Vec Ideal S1x128 .f32) (cs sn : Vec Ideal S1024x128 .f32) :
    chunk a g r s cs sn = chosen a (rotated (k0_pay6 a g) (k0_pay4 cs) (k0_pay5 sn)) r s := rfl

theorem chosen_at (a w r s) (n : Fin 1024) (l : Fin 128) : chosen a w r s (ix2 n l) = (if 0 < r (ix2 0 l) then w (ix2 n l) else a (ix2 n l)) * s (ix2 0 l) := by
  pointwise [chosen]

theorem rotated_at (v cs sn : FVec Ideal S1024x128 .f32) (n : Fin 1024) (l : Fin 128) : rotated v cs sn (ix2 n l)
    = v (ix2 n l) * cs (ix2 n l) + (if l.val % 2 = 0 then v (ix2 n ⟨(l.val + 1) % 128, Nat.mod_lt _ (by decide)⟩) else v (ix2 n ⟨(l.val + 127) % 128, Nat.mod_lt _ (by decide)⟩)) * sn (ix2 n l) := by
  rw [← right_at v n l, ← left_at v n l]
  unfold rotated
  generalize dynamicRotate 1 127#32 none v rotates_S1024x128_d1 = R
  generalize dynamicRotate 1 1#32 none v rotates_S1024x128_d1 = L
  have e := evens_at n l
  by_cases h : l.val % 2 = 0
  · rw [if_pos h] at e
    rw [if_pos h]
    pointwise [e]
  · rw [if_neg h] at e
    rw [if_neg h]
    pointwise [e]

/-- An element of a row of 128, turned with its neighbour. -/
def spin (y c s : Fin 128 → EReal) (l : Fin 128) : EReal :=
  y l * c l + (if l.val % 2 = 0 then y ⟨(l.val + 1) % 128, Nat.mod_lt _ (by decide)⟩ else y ⟨(l.val + 127) % 128, Nat.mod_lt _ (by decide)⟩) * s l

theorem chunk_at (a : Vec Ideal S1024x128 .f32) (g r s : Vec Ideal S1x128 .f32) (cs sn : Vec Ideal S1024x128 .f32) (n : Fin 1024) (l : Fin 128) :
    chunk a g r s cs sn (ix2 n l)
    = (if 0 < r (ix2 0 l) then spin (normedHead (fun k => a (ix2 n k)) (fun k => g (ix2 0 k))) (fun k => cs (ix2 n k)) (fun k => sn (ix2 n k)) l else a (ix2 n l)) * s (ix2 0 l) := by
  have e4 : k0_pay4 cs = cs := by unfold k0_pay4; exact shapeCast_id _ _
  have e5 : k0_pay5 sn = sn := by unfold k0_pay5; exact shapeCast_id _ _
  rw [chunk_eq, chosen_at, rotated_at, e4, e5, head_at, head_at, head_at]
  rfl

/-- The same, by columns of the whole block. -/
def colAt (X : Vec Ideal S1024x768 .f32) (g r s : Vec Ideal S1x768 .f32) (cs sn : Vec Ideal S1024x128 .f32) (n : Fin 1024) (j : Fin 768) : EReal :=
  (if 0 < r (ix2 0 j) then spin (normedHead (fun k => X (ix2 n ⟨j.val / 128 * 128 + k.val, by have := j.isLt; have := k.isLt; omega⟩)) (fun k => g (ix2 0 ⟨j.val / 128 * 128 + k.val, by have := j.isLt; have := k.isLt; omega⟩)))
    (fun k => cs (ix2 n k)) (fun k => sn (ix2 n k)) ⟨j.val % 128, Nat.mod_lt _ (by decide)⟩ else X (ix2 n j)) * s (ix2 0 j)

theorem piece_at (X : Vec Ideal S1024x768 .f32) (g r s : Vec Ideal S1x768 .f32) (cs sn : Vec Ideal S1024x128 .f32) (q : ℕ) (hq : q < 6)
    (A : Vec Ideal S1024x128 .f32) (G R S : Vec Ideal S1x128 .f32)
    (hA : ∀ (n : Fin 1024) (l : Fin 128), A (ix2 n l) = X (ix2 n ⟨q * 128 + l.val, by have := l.isLt; omega⟩))
    (hG : ∀ (l : Fin 128), G (ix2 0 l) = g (ix2 0 ⟨q * 128 + l.val, by have := l.isLt; omega⟩))
    (hR : ∀ (l : Fin 128), R (ix2 0 l) = r (ix2 0 ⟨q * 128 + l.val, by have := l.isLt; omega⟩))
    (hS : ∀ (l : Fin 128), S (ix2 0 l) = s (ix2 0 ⟨q * 128 + l.val, by have := l.isLt; omega⟩))
    (n : Fin 1024) (l : Fin 128) (j : Fin 768) (hj : j.val = q * 128 + l.val) : chunk A G R S cs sn (ix2 n l) = colAt X g r s cs sn n j := by
  have hl := l.isLt
  have hb : q * 128 + l.val < 768 := by omega
  obtain rfl : j = ⟨q * 128 + l.val, hb⟩ := Fin.ext hj
  have e : (q * 128 + l.val) / 128 = q := by omega
  have e' : (⟨(q * 128 + l.val) % 128, Nat.mod_lt _ (by decide)⟩ : Fin 128) = l := Fin.ext (by dsimp only; omega)
  rw [chunk_at]
  unfold colAt
  simp only [hA, hG, hR, hS, e, e']

theorem consumed_at (X : Vec Ideal S1024x768 .f32) (g r s : Vec Ideal S1x768 .f32) (cs sn : Vec Ideal S1024x128 .f32) (n : Fin 1024) (j : Fin 768) :
    consumed X g r s cs sn (ix2 n j) = colAt X g r s cs sn n j := by
  unfold consumed
  canon_tiles x h
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 5 (by decide) _ _ _ _ (fun n l => ?_) (fun l => ?_) (fun l => ?_) (fun l => ?_) n l j h1
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 4 (by decide) _ _ _ _ (fun n l => ?_) (fun l => ?_) (fun l => ?_) (fun l => ?_) n l j h1
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 3 (by decide) _ _ _ _ (fun n l => ?_) (fun l => ?_) (fun l => ?_) (fun l => ?_) n l j h1
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 2 (by decide) _ _ _ _ (fun n l => ?_) (fun l => ?_) (fun l => ?_) (fun l => ?_) n l j h1
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 1 (by decide) _ _ _ _ (fun n l => ?_) (fun l => ?_) (fun l => ?_) (fun l => ?_) n l j h1
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
  · obtain ⟨a, l, rfl⟩ : ∃ (a : Fin 1024) (l : Fin 128), x = ix2 a l := ⟨⟨(x 0).val, x0_lt⟩, ⟨(x 1).val, x1_lt⟩, funext fun b => by fin_cases b <;> rfl⟩
    obtain rfl : n = a := Fin.ext h0
    refine piece_at X g r s cs sn 0 (by decide) _ _ _ _ (fun n l => ?_) (fun l => ?_) (fun l => ?_) (fun l => ?_) n l j (h1.trans (Nat.zero_add _).symm)
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]
    · exact View.ld_unit_apply_of _ _ _ _ _ _ fun b => by fin_cases b <;> simp [ix2]

end Cert.Proof.InRun
end
-- ==== Proof.In.Values.lean ====
/- The input projection's call, element by element. -/
module

public import proofs.«01_k».proof.Proof.In.Steps
public import proofs.«01_k».proof.Proof.In.Chunk
public import Idealize.ShloMosaic.Lib.StableHlo.ReadAt

@[expose] public section
set_option maxRecDepth 16384
noncomputable section
namespace Cert.Proof.InRun

open Cert.Kernel5Ideal Cert.Kernel5Ideal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

theorem at_0 : ∀ t : Fin cfg0.grid.N, t.val % 7 = 0 → win0_0.index t = ![t.val / 7, 0] := by decide +kernel
theorem at_1 : ∀ t : Fin cfg0.grid.N, win0_1.index t = ![0, 0] := by decide +kernel
theorem at_2 : ∀ t : Fin cfg0.grid.N, t.val % 7 ≠ 6 → win0_2.index t = ![0, (t.val % 7 + 4) % 6] := by decide +kernel
theorem at_3 : ∀ t : Fin cfg0.grid.N, t.val % 7 ≠ 0 → win0_3.index t = ![0, (t.val % 7 + 3) % 6] := by decide +kernel
theorem at_4 : ∀ t : Fin cfg0.grid.N, t.val % 7 ≠ 0 → win0_4.index t = ![0, (t.val % 7 + 3) % 6] := by decide +kernel
theorem at_5 : ∀ t : Fin cfg0.grid.N, t.val % 7 ≠ 0 → win0_5.index t = ![0, (t.val % 7 + 3) % 6] := by decide +kernel
theorem at_6 : ∀ t : Fin cfg0.grid.N, win0_6.index t = ![t.val / 7, 0] := by decide +kernel
theorem at_7 : ∀ t : Fin cfg0.grid.N, win0_7.index t = ![t.val / 7, 0] := by decide +kernel
theorem at_8 : ∀ t : Fin cfg0.grid.N, t.val % 7 ≠ 0 → win0_8.index t = ![t.val / 7, (t.val % 7 + 3) % 6] := by decide +kernel
theorem pt_lt (t : Fin cfg0.N) : t.val < 56 := lt_of_lt_of_eq t.isLt (show cfg0.N = 56 from N_0)

theorem V_v24 (c : Dev nD) (k : Fin 2048) : V m c main_v24 (ix2 0 k) = m ((c : Thread nD τ).loc main_arg1) (ix1 k) := by
  unfold V
  after_reads_at
theorem V_v14_q (c : Dev nD) (j : Fin 4608) (h : ¬j.val < 3072) (h' : j.val < 4096) : V m c main_v14 (ix2 0 j) = m ((c : Thread nD τ).loc main_arg3) (ix1 ⟨(j.val - 3072) % 128, Nat.mod_lt _ (by decide)⟩) := by
  have h2 : j.val - 3072 < 1024 := by omega
  unfold V
  after_reads_at
  rw [dif_neg h, dif_pos h2]
  after_reads_at
theorem before_v6 (c : Dev nD) (i : Fin 256) : StableHlo.upto hostOps0 (fun b => m (c, b)) 10 (Proc.tc.devRef main_v6) (ix1 i) = m ((c : Thread nD τ).loc main_arg4) (ix1 ⟨i.val % 128, Nat.mod_lt _ (by decide)⟩) := by
  after_reads_at
theorem V_v14_k (c : Dev nD) (j : Fin 4608) (h : ¬j.val < 4096) (h' : j.val < 4352) : V m c main_v14 (ix2 0 j) = m ((c : Thread nD τ).loc main_arg4) (ix1 ⟨(j.val - 4096) % 128, Nat.mod_lt _ (by decide)⟩) := by
  have h0 : ¬j.val < 3072 := by omega
  have h2 : ¬j.val - 3072 < 1024 := by omega
  have h3 : j.val - 3072 - 1024 < 256 := by omega
  unfold V
  after_reads_at
  rw [dif_neg h0, dif_neg h2, dif_pos h3]
  exact (before_v6 m c _).trans (congrArg (fun i => m ((c : Thread nD τ).loc main_arg4) (ix1 i)) (Fin.ext (by dsimp only; omega)))
theorem V_v15_in (c : Dev nD) (j : Fin 4608) (h : ¬j.val < 3072) (h' : j.val < 4352) : V m c main_v15 (ix2 0 j) = (1 : EReal) := by
  have h2 : j.val - 3072 < 1280 := by omega
  unfold V
  after_reads_at
  rw [dif_neg h, dif_pos h2]
  after_reads_at
theorem V_v15_left (c : Dev nD) (j : Fin 4608) (h : j.val < 3072) : V m c main_v15 (ix2 0 j) = (0 : EReal) := by
  unfold V
  after_reads_at
  rw [dif_pos h]
  after_reads_at
theorem V_v15_right (c : Dev nD) (j : Fin 4608) (h : ¬j.val < 4352) : V m c main_v15 (ix2 0 j) = (0 : EReal) := by
  have h0 : ¬j.val < 3072 := by omega
  have h2 : ¬j.val - 3072 < 1280 := by omega
  unfold V
  after_reads_at
  rw [dif_neg h0, dif_neg h2]
  after_reads_at
theorem V_v16 (c : Dev nD) (j : Fin 4608) : V m c main_v16 (ix2 0 j) = (1 : EReal) := by
  unfold V
  after_reads_at
theorem V_v18 (c : Dev nD) (n : Fin 8192) (l : Fin 128) : V m c main_v18 (ix2 n l) = m ((c : Thread nD τ).loc main_arg5) (ix2 n ⟨l.val / 2, by have := l.isLt; omega⟩) := by
  unfold V
  after_reads_at
theorem V_v23_even (c : Dev nD) (n : Fin 8192) (l : Fin 128) (h : l.val % 2 < 1) : V m c main_v23 (ix2 n l) = Neg.neg (α := EReal) (m ((c : Thread nD τ).loc main_arg6) (ix2 n ⟨l.val / 2, by have := l.isLt; omega⟩)) := by
  unfold V
  after_reads_at
  rw [dif_pos h]
  after_reads_at
theorem V_v23_odd (c : Dev nD) (n : Fin 8192) (l : Fin 128) (h : ¬l.val % 2 < 1) : V m c main_v23 (ix2 n l) = m ((c : Thread nD τ).loc main_arg6) (ix2 n ⟨l.val / 2, by have := l.isLt; omega⟩) := by
  unfold V
  after_reads_at
  rw [dif_neg h]
  after_reads_at

theorem blk_0 (c : Dev nD) (t : Fin cfg0.N) (h0 : t.val % 7 = 0) (a : Fin 1024) (k : Fin 2048) : iblk m c 0 t (ix2 a k)
    = V m c main_arg0 (ix2 ⟨t.val / 7 * 1024 + a.val, by have := pt_lt t; have := a.isLt; omega⟩ k) := by
  show ((cfg0.win 0).blk t).view.read (Elt Ideal) (V m c main_arg0) (ix2 a k) = _
  rw [View.read_apply]
  blk_simp
  refine congrArg (V m c main_arg0) (funext fun b => Fin.ext ?_)
  fin_cases b
  · blk_simp
    exact congrArg (fun n => n * 1024 + a.val) (congrFun (at_0 t h0) 0)
  · blk_simp
    exact (congrArg (fun n => n * 2048 + k.val) (congrFun (at_0 t h0) 1)).trans (by show 0 * 2048 + k.val = k.val; omega)

theorem blk_1 (c : Dev nD) (t : Fin cfg0.N) (j : Fin 2048) : iblk m c 1 t (ix2 0 j) = m ((c : Thread nD τ).loc main_arg1) (ix1 j) := by
  refine Eq.trans ?_ (V_v24 m c _)
  show ((cfg0.win 1).blk t).view.read (Elt Ideal) (V m c main_v24) (ix2 0 j) = _
  rw [View.read_apply]
  blk_simp
  refine congrArg (V m c main_v24) (funext fun b => Fin.ext ?_)
  fin_cases b
  · blk_simp
    exact congrArg (fun n => n * 1 + 0) (congrFun (at_1 t) 0)
  · blk_simp
    exact (congrArg (fun n => n * 2048 + j.val) (congrFun (at_1 t) 1)).trans (by show 0 * 2048 + j.val = j.val; omega)

theorem blk_2 (c : Dev nD) (t : Fin cfg0.N) (h0 : t.val % 7 ≠ 6) (k : Fin 2048) (j : Fin 768) : iblk m c 2 t (ix2 k j)
    = m ((c : Thread nD τ).loc main_arg2) (ix2 k ⟨(t.val % 7 + 4) % 6 * 768 + j.val, by have := j.isLt; omega⟩) := by
  refine Eq.trans ?_ (congrFun (V_main_arg2 m c) _)
  show ((cfg0.win 2).blk t).view.read (Elt Ideal) (V m c main_arg2) (ix2 k j) = _
  rw [View.read_apply]
  blk_simp
  refine congrArg (V m c main_arg2) (funext fun b => Fin.ext ?_)
  fin_cases b
  · blk_simp
    exact (congrArg (fun n => n * 2048 + k.val) (congrFun (at_2 t h0) 0)).trans (by show 0 * 2048 + k.val = k.val; omega)
  · blk_simp
    exact congrArg (fun n => n * 768 + j.val) (congrFun (at_2 t h0) 1)

theorem blk_3 (c : Dev nD) (t : Fin cfg0.N) (h0 : t.val % 7 ≠ 0) (j : Fin 768) : iblk m c 3 t (ix2 0 j)
    = V m c main_v14 (ix2 0 ⟨(t.val % 7 + 3) % 6 * 768 + j.val, by have := j.isLt; omega⟩) := by
  show ((cfg0.win 3).blk t).view.read (Elt Ideal) (V m c main_v14) (ix2 0 j) = _
  rw [View.read_apply]
  blk_simp
  refine congrArg (V m c main_v14) (funext fun b => Fin.ext ?_)
  fin_cases b
  · blk_simp
    exact congrArg (fun n => n * 1 + 0) (congrFun (at_3 t h0) 0)
  · blk_simp
    exact congrArg (fun n => n * 768 + j.val) (congrFun (at_3 t h0) 1)

theorem blk_4 (c : Dev nD) (t : Fin cfg0.N) (h0 : t.val % 7 ≠ 0) (j : Fin 768) : iblk m c 4 t (ix2 0 j)
    = V m c main_v15 (ix2 0 ⟨(t.val % 7 + 3) % 6 * 768 + j.val, by have := j.isLt; omega⟩) := by
  show ((cfg0.win 4).blk t).view.read (Elt Ideal) (V m c main_v15) (ix2 0 j) = _
  rw [View.read_apply]
  blk_simp
  refine congrArg (V m c main_v15) (funext fun b => Fin.ext ?_)
  fin_cases b
  · blk_simp
    exact congrArg (fun n => n * 1 + 0) (congrFun (at_4 t h0) 0)
  · blk_simp
    exact congrArg (fun n => n * 768 + j.val) (congrFun (at_4 t h0) 1)

theorem blk_5 (c : Dev nD) (t : Fin cfg0.N) (h0 : t.val % 7 ≠ 0) (j : Fin 768) : iblk m c 5 t (ix2 0 j)
    = V m c main_v16 (ix2 0 ⟨(t.val % 7 + 3) % 6 * 768 + j.val, by have := j.isLt; omega⟩) := by
  show ((cfg0.win 5).blk t).view.read (Elt Ideal) (V m c main_v16) (ix2 0 j) = _
  rw [View.read_apply]
  blk_simp
  refine congrArg (V m c main_v16) (funext fun b => Fin.ext ?_)
  fin_cases b
  · blk_simp
    exact congrArg (fun n => n * 1 + 0) (congrFun (at_5 t h0) 0)
  · blk_simp
    exact congrArg (fun n => n * 768 + j.val) (congrFun (at_5 t h0) 1)

theorem blk_6 (c : Dev nD) (t : Fin cfg0.N) (a : Fin 1024) (k : Fin 128) : iblk m c 6 t (ix2 a k)
    = V m c main_v18 (ix2 ⟨t.val / 7 * 1024 + a.val, by have := pt_lt t; have := a.isLt; omega⟩ k) := by
  show ((cfg0.win 6).blk t).view.read (Elt Ideal) (V m c main_v18) (ix2 a k) = _
  rw [View.read_apply]
  blk_simp
  refine congrArg (V m c main_v18) (funext fun b => Fin.ext ?_)
  fin_cases b
  · blk_simp
    exact congrArg (fun n => n * 1024 + a.val) (congrFun (at_6 t) 0)
  · blk_simp
    exact (congrArg (fun n => n * 128 + k.val) (congrFun (at_6 t) 1)).trans (by show 0 * 128 + k.val = k.val; omega)

theorem blk_7 (c : Dev nD) (t : Fin cfg0.N) (a : Fin 1024) (k : Fin 128) : iblk m c 7 t (ix2 a k)
    = V m c main_v23 (ix2 ⟨t.val / 7 * 1024 + a.val, by have := pt_lt t; have := a.isLt; omega⟩ k) := by
  show ((cfg0.win 7).blk t).view.read (Elt Ideal) (V m c main_v23) (ix2 a k) = _
  rw [View.read_apply]
  blk_simp
  refine congrArg (V m c main_v23) (funext fun b => Fin.ext ?_)
  fin_cases b
  · blk_simp
    exact congrArg (fun n => n * 1024 + a.val) (congrFun (at_7 t) 0)
  · blk_simp
    exact (congrArg (fun n => n * 128 + k.val) (congrFun (at_7 t) 1)).trans (by show 0 * 128 + k.val = k.val; omega)

theorem rows_at (x : Vec Ideal S1024x2048 .f32) (g : Vec Ideal S1x2048 .f32) (n : Fin 1024) (k : Fin 2048) :
    k0_pay65 x g (ix2 n k) = normed (fun k => x (ix2 n k)) (fun k => g (ix2 0 k)) k := by
  pointwise [k0_pay65, normed]

theorem prod_at (h : Vec Ideal S1024x2048 .bf16) (w : Vec Ideal S2048x768 .f32) (n : Fin 1024) (j : Fin 768) :
    k0_pay66 h w (ix2 n j) = ∑ k : Fin 2048, h (ix2 n k) * w (ix2 k j) := by
  pointwise [k0_pay66]

theorem scaled_at (X : Vec Ideal S1024x768 .f32) (s : Vec Ideal S1x768 .f32) (n : Fin 1024) (j : Fin 768) :
    k0_pay2 X s (ix2 n j) = X (ix2 n j) * s (ix2 0 j) := by
  pointwise [k0_pay2]

/-- An element of the product of the normed rows and the weights. -/
def prodRow (c : Dev nD) (n : Fin 8192) (j : Fin 4608) : EReal :=
  ∑ k : Fin 2048, normed (fun k => m ((c : Thread nD τ).loc main_arg0) (ix2 n k)) (fun k => m ((c : Thread nD τ).loc main_arg1) (ix1 k)) k * m ((c : Thread nD τ).loc main_arg2) (ix2 k j)

theorem hAt_at (c : Dev nD) (t : Fin cfg0.N) (a : Fin 1024) (k : Fin 2048) : hAt m c t (ix2 a k)
    = normed (fun k => m ((c : Thread nD τ).loc main_arg0) (ix2 ⟨t.val / 7 * 1024 + a.val, by have := pt_lt t; have := a.isLt; omega⟩ k)) (fun k => m ((c : Thread nD τ).loc main_arg1) (ix1 k)) k := by
  unfold hAt
  rw [rows_at]
  have e : ∀ k, iblk m c 0 (rowHead t) (ix2 a k) = m ((c : Thread nD τ).loc main_arg0) (ix2 ⟨t.val / 7 * 1024 + a.val, by have := pt_lt t; have := a.isLt; omega⟩ k) := fun k => by
    rw [blk_0 m c (rowHead t) (by show (t.val - t.val % 7) % 7 = 0; omega) a k, V_main_arg0]
    exact congrArg (fun n => m ((c : Thread nD τ).loc main_arg0) (ix2 n k)) (Fin.ext (by show (t.val - t.val % 7) / 7 * 1024 + a.val = t.val / 7 * 1024 + a.val; omega))
  simp only [e, blk_1]

theorem accAt_at (c : Dev nD) (t : Fin cfg0.N) (h0 : t.val % 7 ≠ 0) (a : Fin 1024) (j : Fin 768) : accAt m c (prior t) (ix2 a j)
    = prodRow m c ⟨t.val / 7 * 1024 + a.val, by have := pt_lt t; have := a.isLt; omega⟩ ⟨(t.val % 7 + 3) % 6 * 768 + j.val, by have := j.isLt; omega⟩ := by
  unfold accAt
  rw [hAt_prior m c t h0, prod_at]
  unfold prodRow
  refine Finset.sum_congr rfl fun k _ => ?_
  rw [hAt_at, blk_2 m c (prior t) (by show (t.val - 1) % 7 ≠ 6; omega) k j]
  exact congrArg (fun i => _ * m ((c : Thread nD τ).loc main_arg2) (ix2 k i)) (Fin.ext (by show ((t.val - 1) % 7 + 4) % 6 * 768 + j.val = (t.val % 7 + 3) % 6 * 768 + j.val; omega))

/-- Turning with the sines signed by place is rotating pairs. -/
theorem spin_eq (y : Fin 128 → EReal) (cb sb : Fin 64 → EReal) (c s : Fin 128 → EReal) (l : Fin 128)
    (hc : c l = cb ⟨l.val / 2, by have := l.isLt; omega⟩)
    (he : l.val % 2 < 1 → s l = -sb ⟨l.val / 2, by have := l.isLt; omega⟩) (ho : ¬l.val % 2 < 1 → s l = sb ⟨l.val / 2, by have := l.isLt; omega⟩) :
    spin y c s l = turned y cb sb l := by
  have hl := l.isLt
  unfold spin turned
  by_cases h : l.val % 2 = 0
  · rw [if_pos h, if_pos h, hc, he (by omega), mul_neg, ← sub_eq_add_neg]
    have e1 : (⟨(l.val + 1) % 128, Nat.mod_lt _ (by decide)⟩ : Fin 128) = ⟨l.val / 2 * 2 + 1, by omega⟩ := Fin.ext (by dsimp only; omega)
    have e2 : l = ⟨l.val / 2 * 2, by omega⟩ := Fin.ext (by dsimp only; omega)
    exact congrArg₂ (fun a b => a * _ - b * _) (congrArg y e2) (congrArg y e1)
  · rw [if_neg h, if_neg h, hc, ho (by omega), add_comm]
    have e1 : (⟨(l.val + 127) % 128, Nat.mod_lt _ (by decide)⟩ : Fin 128) = ⟨l.val / 2 * 2, by omega⟩ := Fin.ext (by dsimp only; omega)
    have e2 : l = ⟨l.val / 2 * 2 + 1, by omega⟩ := Fin.ext (by dsimp only; omega)
    exact congrArg₂ (fun a b => a * _ + b * _) (congrArg y e1) (congrArg y e2)

/-- The result, by elements of the arguments. -/
def res (c : Dev nD) : FVec Ideal S8192x4608 .bf16 :=
  Cert.Proof.InR.whole (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem res_at (c : Dev nD) (n : Fin 8192) (j : Fin 4608) : res m c (ix2 n j)
    = Cert.Proof.InR.entry (prodRow m c n) (fun k => m ((c : Thread nD τ).loc main_arg3) (ix1 k)) (fun k => m ((c : Thread nD τ).loc main_arg4) (ix1 k))
      (fun p => m ((c : Thread nD τ).loc main_arg5) (ix2 n p)) (fun p => m ((c : Thread nD τ).loc main_arg6) (ix2 n p)) j := by
  unfold res
  exact Cert.Proof.InR.whole_at _ _ _ _ _ _ _ n j

/-- The gains of a head's columns. -/
theorem gain_at (c : Dev nD) (j : Fin 4608) (h : ¬j.val < 3072) (h' : j.val < 4352) (k : Fin 128) (i : Fin 4608) (hi : i.val = j.val / 128 * 128 + k.val) :
    V m c main_v14 (ix2 0 i) = (if j.val < 4096 then (fun k => m ((c : Thread nD τ).loc main_arg3) (ix1 k) : Fin 128 → EReal) else fun k => m ((c : Thread nD τ).loc main_arg4) (ix1 k)) k := by
  have hk := k.isLt
  by_cases q : j.val < 4096
  · rw [if_pos q, V_v14_q m c i (by omega) (by omega)]
    exact congrArg (fun k => m ((c : Thread nD τ).loc main_arg3) (ix1 k)) (Fin.ext (by dsimp only; omega))
  · rw [if_neg q, V_v14_k m c i (by omega) (by omega)]
    exact congrArg (fun k => m ((c : Thread nD τ).loc main_arg4) (ix1 k)) (Fin.ext (by dsimp only; omega))

theorem point_at (c : Dev nD) (t : Fin cfg0.N) (h0 : t.val % 7 ≠ 0) (a : Fin 1024) (j : Fin 768) : outAt m c t (ix2 a j)
    = res m c (ix2 ⟨t.val / 7 * 1024 + a.val, by have := pt_lt t; have := a.isLt; omega⟩ ⟨(t.val % 7 + 3) % 6 * 768 + j.val, by have := j.isLt; omega⟩) := by
  have hj := j.isLt
  rw [res_at]
  unfold outAt Cert.Proof.InR.entry
  by_cases h6 : t.val % 7 = 6
  · rw [if_pos h6, scaled_at, accAt_at m c t h0, blk_5 m c t h0, V_v16, mul_one, if_neg (by dsimp only; omega)]
  · rw [if_neg h6, consumed_at]
    unfold colAt
    rw [blk_5 m c t h0, V_v16, mul_one, blk_4 m c t h0, accAt_at m c t h0]
    by_cases hin : 3072 ≤ (t.val % 7 + 3) % 6 * 768 + j.val ∧ (t.val % 7 + 3) % 6 * 768 + j.val < 4352
    · rw [V_v15_in m c _ (by dsimp only; omega) (by dsimp only; omega), if_pos (by exact zero_lt_one), if_pos hin]
      refine (spin_eq _ (fun p => m ((c : Thread nD τ).loc main_arg5) (ix2 ⟨t.val / 7 * 1024 + a.val, by have := pt_lt t; have := a.isLt; omega⟩ p))
        (fun p => m ((c : Thread nD τ).loc main_arg6) (ix2 ⟨t.val / 7 * 1024 + a.val, by have := pt_lt t; have := a.isLt; omega⟩ p)) _ _ _ ?_ ?_ ?_).trans ?_
      · rw [blk_6]; exact V_v18 m c _ _
      · intro h; rw [blk_7]; exact V_v23_even m c _ _ h
      · intro h; rw [blk_7]; exact V_v23_odd m c _ _ h
      · refine congr (congrArg (fun y => turned y _ _) (congr (congrArg normedHead (funext fun k => ?_)) (funext fun k => ?_))) (Fin.ext (by dsimp only; omega))
        · have hk := k.isLt
          rw [accAt_at m c t h0]
          exact congrArg (prodRow m c _) (Fin.ext (by dsimp only; omega))
        · have hk := k.isLt
          rw [blk_3 m c t h0]
          exact gain_at m c ⟨(t.val % 7 + 3) % 6 * 768 + j.val, by omega⟩ (by dsimp only; omega) (by dsimp only; omega) k _ (by dsimp only; omega)
    · rw [if_neg hin]
      by_cases hl : (t.val % 7 + 3) % 6 * 768 + j.val < 3072
      · rw [V_v15_left m c _ (by dsimp only; omega), if_neg (by exact lt_irrefl _)]
      · rw [V_v15_right m c _ (by dsimp only; omega), if_neg (by exact lt_irrefl _)]

theorem flushed (t : Fin cfg0.N) (hf : (cfg0.win 8).flush t = true) : t.val % 7 ≠ 0 := fun h => by
  rw [flush_at t h] at hf
  exact absurd hf (by decide)

theorem arr_eq (c : Dev nD) : (dats m 0 c).arrAt 8 cfg0.N = res m c := by
  refine Dat.arrAt_eq_of_covers (dats m 0 c) 8 _ (by decide +kernel) fun t hf y => ?_
  have hy0 : (y 0).val < 1024 := (y 0).isLt
  have hy1 : (y 1).val < 768 := (y 1).isLt
  have ht := pt_lt t
  have h0 := flushed t hf
  obtain ⟨a, j, rfl⟩ : ∃ (a : Fin 1024) (j : Fin 768), y = ix2 a j := ⟨⟨(y 0).val, hy0⟩, ⟨(y 1).val, hy1⟩, funext fun b => by fin_cases b <;> rfl⟩
  have e : ((cfg0.win 8).blk t).view.emb (ix2 a j) = ix2 ⟨t.val / 7 * 1024 + a.val, by have := a.isLt; omega⟩ ⟨(t.val % 7 + 3) % 6 * 768 + j.val, by have := j.isLt; omega⟩ := by
    refine funext fun b => Fin.ext ?_
    fin_cases b
    · blk_simp
      exact congrArg (fun n => n * 1024 + a.val) (congrFun (at_8 t h0) 0)
    · blk_simp
      exact congrArg (fun n => n * 768 + j.val) (congrFun (at_8 t h0) 1)
  rw [e]
  show (dats m 0 c).after 8 t (ix2 a j) = _
  rw [after8]
  exact point_at m c t h0 a j

end Cert.Proof.InRun
end
-- ==== Proof.InValues.lean ====
/- The input projection's claims. -/
module

public import proofs.«01_k».proof.Defs
public import proofs.«01_k».proof.Proof.In.Values
public import proofs.«01_k».proof.Proof.InWords.Steps

@[expose] public section

noncomputable section

namespace Cert.Proof

open Idealize.ShloMosaic Idealize.SL.Sem Idealize.ShloMosaic.TcCoe

theorem frame_in_words : Cert.quiescent_Kernel5 (hKernel5 := Cert.Kernel5.Gen.facts) :=
  fun m ρ _ => InWords.frame (F := Bits) m ρ

theorem frame_in : Cert.quiescent_Kernel5Ideal (hKernel5Ideal := Cert.Kernel5Ideal.Gen.facts) :=
  fun m ρ _ => InRun.frame (F := Ideal) m ρ

theorem frame_in_ref : Cert.quiescent_Reference5Ideal (hReference5Ideal := Cert.Reference5Ideal.Gen.facts) :=
  fun m ρ _ => (θ_run Cert.Reference5Ideal.defs _ _).mono
    (fun r h => ⟨fun c => (h c).2, sem_eq_zero_of_no_sems (by decide) r.2⟩) (Cert.Reference5Ideal.Value.run (F := Ideal) m ρ)

theorem same_in : Cert.algebraic_Kernel5Ideal_Reference5Ideal (hKernel5Ideal := Cert.Kernel5Ideal.Gen.facts)
    (hReference5Ideal := Cert.Reference5Ideal.Gen.facts) := by
  intro m g m' g' hpre hin
  refine ⟨fun c => InRun.res m c, ?_, ?_⟩
  · exact (θ_run Cert.Kernel5Ideal.defs _ _).mono (fun r h c => ⟨(h c).1.trans (InRun.arr_eq m c), (h c).2⟩) (InRun.run_blocks (F := Ideal) m g)
  · refine (θ_run Cert.Reference5Ideal.defs _ _).mono (fun r h c => ⟨?_, (h c).2⟩) (Cert.Reference5Ideal.Value.run (F := Ideal) m' g')
    refine (h c).1.trans ?_
    unfold Cert.Reference5Ideal.Value.res_main_v91
    rw [(hin c).1, (hin c).2.1, (hin c).2.2.1, (hin c).2.2.2.1, (hin c).2.2.2.2.1, (hin c).2.2.2.2.2.1, (hin c).2.2.2.2.2.2]
    rfl

end Cert.Proof

end
-- ==== Proof.lean ====
/- The certificate: the frames of every program, the named constants, and the values. -/
module

public import proofs.«01_k».proof.Proof.Gen.Kernel6.Frame
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6Ideal.Frame
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel4Ideal.Value
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Pre_finite_scores
public import proofs.«01_k».proof.Proof.Gen.Kernel2Ideal.Value
public import proofs.«01_k».proof.Proof.Gen.Reference2Ideal.Run
public import proofs.«01_k».proof.Proof.Gen.ReferenceIdeal.Run
public import proofs.«01_k».proof.Proof.Frames
public import proofs.«01_k».proof.Proof.Values
public import proofs.«01_k».proof.Proof.DownValues
public import proofs.«01_k».proof.Proof.UpValues
public import proofs.«01_k».proof.Proof.OutValues
public import proofs.«01_k».proof.Proof.InValues
public import Idealize.ShloMosaic.Adequacy
public import Idealize.ShloMosaic.Init

@[expose] public section

noncomputable section

namespace Cert.Proof

open Idealize.ShloMosaic Idealize.SL.Sem Cert.Kernel

theorem frame_gqa_words : Cert.quiescent_Kernel6 (hKernel6 := Cert.Kernel6.Gen.facts) :=
  fun m ρ _ => Cert.Kernel6.Gen.frame (F := Bits) m ρ

theorem frame_gqa : Cert.quiescent_Kernel6Ideal (hKernel6Ideal := Cert.Kernel6Ideal.Gen.facts) :=
  fun m ρ _ => Cert.Kernel6Ideal.Gen.frame (F := Ideal) m ρ

theorem mask_named : Cert.preserves_Kernel6_Kernel6Ideal :=
  IdealRules.named_const.statement Cert.Kernel6Ideal.κ "mask" .f32 0xF149F2CA#32 ⊥ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Pre_finite_scores.Gen.facts,
  frame_words, frame_ideal, frame_ideal_pre, frame_ref, frame_ref_pre, frame_down_words, frame_down, frame_down_ref,
  frame_up_words, frame_up, frame_up_ref, frame_out_words, frame_out, frame_out_ref, frame_in_words, frame_in, frame_in_ref,
  frame_gqa_words, frame_gqa,
  consts_named, same_values, trivial, same_down, trivial, same_up, trivial, same_out, trivial, same_in, mask_named⟩

end Cert.Proof

end
